-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_MixerA (m : (ℓ : Loc Cert.MixerA.nD Cert.MixerA.τ Cert.MixerA.sig) → Buf (Elt Bits) ℓ) : Prop :=
  True

def Pre_MixerAIdeal (m : (ℓ : Loc Cert.MixerAIdeal.nD Cert.MixerAIdeal.τ Cert.MixerAIdeal.sig) → Buf (Elt Ideal) ℓ) : Prop :=
  True

def Pre_MixerARefIdeal (m : (ℓ : Loc Cert.MixerARefIdeal.nD Cert.MixerARefIdeal.τ Cert.MixerARefIdeal.sig) → Buf (Elt Ideal) ℓ) : Prop :=
  True

def Pre_ConvSample (m : (ℓ : Loc Cert.ConvSample.nD Cert.ConvSample.τ Cert.ConvSample.sig) → Buf (Elt Bits) ℓ) : Prop :=
  True

def Pre_ConvSampleIdeal (m : (ℓ : Loc Cert.ConvSampleIdeal.nD Cert.ConvSampleIdeal.τ Cert.ConvSampleIdeal.sig) → Buf (Elt Ideal) ℓ) : Prop :=
  True

def Pre_ConvSampleRefIdeal (m : (ℓ : Loc Cert.ConvSampleRefIdeal.nD Cert.ConvSampleRefIdeal.τ Cert.ConvSampleRefIdeal.sig) → Buf (Elt Ideal) ℓ) : Prop :=
  True

def Pre_ConvPrompt (m : (ℓ : Loc Cert.ConvPrompt.nD Cert.ConvPrompt.τ Cert.ConvPrompt.sig) → Buf (Elt Bits) ℓ) : Prop :=
  True

def Pre_ConvPromptIdeal (m : (ℓ : Loc Cert.ConvPromptIdeal.nD Cert.ConvPromptIdeal.τ Cert.ConvPromptIdeal.sig) → Buf (Elt Ideal) ℓ) : Prop :=
  True

def Pre_ConvPromptRefIdeal (m : (ℓ : Loc Cert.ConvPromptRefIdeal.nD Cert.ConvPromptRefIdeal.τ Cert.ConvPromptRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvIdeal_rope_halves [hPre_rope_halves : Cert.Pre_rope_halves.Facts] (m : (ℓ : Loc Cert.QkvIdeal.nD Cert.QkvIdeal.τ Cert.QkvIdeal.sig) → Buf (Elt Ideal) ℓ) : Prop :=
  ∀ c : Dev Cert.QkvIdeal.nD,
    (Cert.Pre_rope_halves.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6))) = (fun _ => 1#1)

def Pre_QkvRefIdeal (m : (ℓ : Loc Cert.QkvRefIdeal.nD Cert.QkvRefIdeal.τ Cert.QkvRefIdeal.sig) → Buf (Elt Ideal) ℓ) : Prop :=
  True

def Pre_QkvRefIdeal_rope_halves [hPre_rope_halves : Cert.Pre_rope_halves.Facts] (m : (ℓ : Loc Cert.QkvRefIdeal.nD Cert.QkvRefIdeal.τ Cert.QkvRefIdeal.sig) → Buf (Elt Ideal) ℓ) : Prop :=
  ∀ c : Dev Cert.QkvRefIdeal.nD,
    (Cert.Pre_rope_halves.fn (F := Ideal) (m ((c.tc : Thread Cert.QkvRefIdeal.nD Cert.QkvRefIdeal.τ).loc Cert.QkvRefIdeal.main_arg0)) (m ((c.tc : Thread Cert.QkvRefIdeal.nD Cert.QkvRefIdeal.τ).loc Cert.QkvRefIdeal.main_arg1)) (m ((c.tc : Thread Cert.QkvRefIdeal.nD Cert.QkvRefIdeal.τ).loc Cert.QkvRefIdeal.main_arg2)) (m ((c.tc : Thread Cert.QkvRefIdeal.nD Cert.QkvRefIdeal.τ).loc Cert.QkvRefIdeal.main_arg3)) (m ((c.tc : Thread Cert.QkvRefIdeal.nD Cert.QkvRefIdeal.τ).loc Cert.QkvRefIdeal.main_arg4)) (m ((c.tc : Thread Cert.QkvRefIdeal.nD Cert.QkvRefIdeal.τ).loc Cert.QkvRefIdeal.main_arg5)) (m ((c.tc : Thread Cert.QkvRefIdeal.nD Cert.QkvRefIdeal.τ).loc Cert.QkvRefIdeal.main_arg6))) = (fun _ => 1#1)

def Pre_GlaSample (m : (ℓ : Loc Cert.GlaSample.nD Cert.GlaSample.τ Cert.GlaSample.sig) → Buf (Elt Bits) ℓ) : Prop :=
  True

def Pre_GlaSampleIdeal (m : (ℓ : Loc Cert.GlaSampleIdeal.nD Cert.GlaSampleIdeal.τ Cert.GlaSampleIdeal.sig) → Buf (Elt Ideal) ℓ) : Prop :=
  True

def Pre_GlaSampleRefIdeal (m : (ℓ : Loc Cert.GlaSampleRefIdeal.nD Cert.GlaSampleRefIdeal.τ Cert.GlaSampleRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_MixerA [hMixerA : Cert.MixerA.Facts] : Prop :=
  ∀ (m : (ℓ : Loc Cert.MixerA.nD Cert.MixerA.τ Cert.MixerA.sig) → Buf (Elt Bits) ℓ) (g : Dev Cert.MixerA.nD → PrngReg), Pre_MixerA m →
    θ_run (Cert.MixerA.defs (F := Bits)) (onTc (τ := Cert.MixerA.τ) (Cert.MixerA.main (F := Bits))) ⟨m, fun _ => 0, g⟩ (fun r => (∀ c : Dev Cert.MixerA.nD,
      r.2.mem ((c.tc : Thread Cert.MixerA.nD Cert.MixerA.τ).loc Cert.MixerA.main_arg0) = m ((c.tc : Thread Cert.MixerA.nD Cert.MixerA.τ).loc Cert.MixerA.main_arg0)
      ∧ r.2.mem ((c.tc : Thread Cert.MixerA.nD Cert.MixerA.τ).loc Cert.MixerA.main_arg1) = m ((c.tc : Thread Cert.MixerA.nD Cert.MixerA.τ).loc Cert.MixerA.main_arg1)
      ∧ r.2.mem ((c.tc : Thread Cert.MixerA.nD Cert.MixerA.τ).loc Cert.MixerA.main_arg2) = m ((c.tc : Thread Cert.MixerA.nD Cert.MixerA.τ).loc Cert.MixerA.main_arg2)
      ∧ r.2.mem ((c.tc : Thread Cert.MixerA.nD Cert.MixerA.τ).loc Cert.MixerA.main_arg3) = m ((c.tc : Thread Cert.MixerA.nD Cert.MixerA.τ).loc Cert.MixerA.main_arg3)
      ∧ r.2.mem ((c.tc : Thread Cert.MixerA.nD Cert.MixerA.τ).loc Cert.MixerA.main_arg4) = m ((c.tc : Thread Cert.MixerA.nD Cert.MixerA.τ).loc Cert.MixerA.main_arg4))
      ∧ r.2.sem = fun _ => 0)

def quiescent_MixerAIdeal [hMixerAIdeal : Cert.MixerAIdeal.Facts] : Prop :=
  ∀ (m : (ℓ : Loc Cert.MixerAIdeal.nD Cert.MixerAIdeal.τ Cert.MixerAIdeal.sig) → Buf (Elt Ideal) ℓ) (g : Dev Cert.MixerAIdeal.nD → PrngReg), Pre_MixerAIdeal m →
    θ_run (Cert.MixerAIdeal.defs (F := Ideal)) (onTc (τ := Cert.MixerAIdeal.τ) (Cert.MixerAIdeal.main (F := Ideal))) ⟨m, fun _ => 0, g⟩ (fun r => (∀ c : Dev Cert.MixerAIdeal.nD,
      r.2.mem ((c.tc : Thread Cert.MixerAIdeal.nD Cert.MixerAIdeal.τ).loc Cert.MixerAIdeal.main_arg0) = m ((c.tc : Thread Cert.MixerAIdeal.nD Cert.MixerAIdeal.τ).loc Cert.MixerAIdeal.main_arg0)
      ∧ r.2.mem ((c.tc : Thread Cert.MixerAIdeal.nD Cert.MixerAIdeal.τ).loc Cert.MixerAIdeal.main_arg1) = m ((c.tc : Thread Cert.MixerAIdeal.nD Cert.MixerAIdeal.τ).loc Cert.MixerAIdeal.main_arg1)
      ∧ r.2.mem ((c.tc : Thread Cert.MixerAIdeal.nD Cert.MixerAIdeal.τ).loc Cert.MixerAIdeal.main_arg2) = m ((c.tc : Thread Cert.MixerAIdeal.nD Cert.MixerAIdeal.τ).loc Cert.MixerAIdeal.main_arg2)
      ∧ r.2.mem ((c.tc : Thread Cert.MixerAIdeal.nD Cert.MixerAIdeal.τ).loc Cert.MixerAIdeal.main_arg3) = m ((c.tc : Thread Cert.MixerAIdeal.nD Cert.MixerAIdeal.τ).loc Cert.MixerAIdeal.main_arg3)
      ∧ r.2.mem ((c.tc : Thread Cert.MixerAIdeal.nD Cert.MixerAIdeal.τ).loc Cert.MixerAIdeal.main_arg4) = m ((c.tc : Thread Cert.MixerAIdeal.nD Cert.MixerAIdeal.τ).loc Cert.MixerAIdeal.main_arg4))
      ∧ r.2.sem = fun _ => 0)

def quiescent_MixerARefIdeal [hMixerARefIdeal : Cert.MixerARefIdeal.Facts] : Prop :=
  ∀ (m : (ℓ : Loc Cert.MixerARefIdeal.nD Cert.MixerARefIdeal.τ Cert.MixerARefIdeal.sig) → Buf (Elt Ideal) ℓ) (g : Dev Cert.MixerARefIdeal.nD → PrngReg), Pre_MixerARefIdeal m →
    θ_run (Cert.MixerARefIdeal.defs (F := Ideal)) (onTc (τ := Cert.MixerARefIdeal.τ) (Cert.MixerARefIdeal.main (F := Ideal))) ⟨m, fun _ => 0, g⟩ (fun r => (∀ c : Dev Cert.MixerARefIdeal.nD,
      r.2.mem ((c.tc : Thread Cert.MixerARefIdeal.nD Cert.MixerARefIdeal.τ).loc Cert.MixerARefIdeal.main_arg0) = m ((c.tc : Thread Cert.MixerARefIdeal.nD Cert.MixerARefIdeal.τ).loc Cert.MixerARefIdeal.main_arg0)
      ∧ r.2.mem ((c.tc : Thread Cert.MixerARefIdeal.nD Cert.MixerARefIdeal.τ).loc Cert.MixerARefIdeal.main_arg1) = m ((c.tc : Thread Cert.MixerARefIdeal.nD Cert.MixerARefIdeal.τ).loc Cert.MixerARefIdeal.main_arg1)
      ∧ r.2.mem ((c.tc : Thread Cert.MixerARefIdeal.nD Cert.MixerARefIdeal.τ).loc Cert.MixerARefIdeal.main_arg2) = m ((c.tc : Thread Cert.MixerARefIdeal.nD Cert.MixerARefIdeal.τ).loc Cert.MixerARefIdeal.main_arg2)
      ∧ r.2.mem ((c.tc : Thread Cert.MixerARefIdeal.nD Cert.MixerARefIdeal.τ).loc Cert.MixerARefIdeal.main_arg3) = m ((c.tc : Thread Cert.MixerARefIdeal.nD Cert.MixerARefIdeal.τ).loc Cert.MixerARefIdeal.main_arg3)
      ∧ r.2.mem ((c.tc : Thread Cert.MixerARefIdeal.nD Cert.MixerARefIdeal.τ).loc Cert.MixerARefIdeal.main_arg4) = m ((c.tc : Thread Cert.MixerARefIdeal.nD Cert.MixerARefIdeal.τ).loc Cert.MixerARefIdeal.main_arg4))
      ∧ r.2.sem = fun _ => 0)

def quiescent_ConvSample [hConvSample : Cert.ConvSample.Facts] : Prop :=
  ∀ (m : (ℓ : Loc Cert.ConvSample.nD Cert.ConvSample.τ Cert.ConvSample.sig) → Buf (Elt Bits) ℓ) (g : Dev Cert.ConvSample.nD → PrngReg), Pre_ConvSample m →
    θ_run (Cert.ConvSample.defs (F := Bits)) (onTc (τ := Cert.ConvSample.τ) (Cert.ConvSample.main (F := Bits))) ⟨m, fun _ => 0, g⟩ (fun r => (∀ c : Dev Cert.ConvSample.nD,
      r.2.mem ((c.tc : Thread Cert.ConvSample.nD Cert.ConvSample.τ).loc Cert.ConvSample.main_arg0) = m ((c.tc : Thread Cert.ConvSample.nD Cert.ConvSample.τ).loc Cert.ConvSample.main_arg0)
      ∧ r.2.mem ((c.tc : Thread Cert.ConvSample.nD Cert.ConvSample.τ).loc Cert.ConvSample.main_arg1) = m ((c.tc : Thread Cert.ConvSample.nD Cert.ConvSample.τ).loc Cert.ConvSample.main_arg1)
      ∧ r.2.mem ((c.tc : Thread Cert.ConvSample.nD Cert.ConvSample.τ).loc Cert.ConvSample.main_arg2) = m ((c.tc : Thread Cert.ConvSample.nD Cert.ConvSample.τ).loc Cert.ConvSample.main_arg2)
      ∧ r.2.mem ((c.tc : Thread Cert.ConvSample.nD Cert.ConvSample.τ).loc Cert.ConvSample.main_arg3) = m ((c.tc : Thread Cert.ConvSample.nD Cert.ConvSample.τ).loc Cert.ConvSample.main_arg3)
      ∧ r.2.mem ((c.tc : Thread Cert.ConvSample.nD Cert.ConvSample.τ).loc Cert.ConvSample.main_arg4) = m ((c.tc : Thread Cert.ConvSample.nD Cert.ConvSample.τ).loc Cert.ConvSample.main_arg4)
      ∧ r.2.mem ((c.tc : Thread Cert.ConvSample.nD Cert.ConvSample.τ).loc Cert.ConvSample.main_arg5) = m ((c.tc : Thread Cert.ConvSample.nD Cert.ConvSample.τ).loc Cert.ConvSample.main_arg5))
      ∧ r.2.sem = fun _ => 0)

def quiescent_ConvSampleIdeal [hConvSampleIdeal : Cert.ConvSampleIdeal.Facts] : Prop :=
  ∀ (m : (ℓ : Loc Cert.ConvSampleIdeal.nD Cert.ConvSampleIdeal.τ Cert.ConvSampleIdeal.sig) → Buf (Elt Ideal) ℓ) (g : Dev Cert.ConvSampleIdeal.nD → PrngReg), Pre_ConvSampleIdeal m →
    θ_run (Cert.ConvSampleIdeal.defs (F := Ideal)) (onTc (τ := Cert.ConvSampleIdeal.τ) (Cert.ConvSampleIdeal.main (F := Ideal))) ⟨m, fun _ => 0, g⟩ (fun r => (∀ c : Dev Cert.ConvSampleIdeal.nD,
      r.2.mem ((c.tc : Thread Cert.ConvSampleIdeal.nD Cert.ConvSampleIdeal.τ).loc Cert.ConvSampleIdeal.main_arg0) = m ((c.tc : Thread Cert.ConvSampleIdeal.nD Cert.ConvSampleIdeal.τ).loc Cert.ConvSampleIdeal.main_arg0)
      ∧ r.2.mem ((c.tc : Thread Cert.ConvSampleIdeal.nD Cert.ConvSampleIdeal.τ).loc Cert.ConvSampleIdeal.main_arg1) = m ((c.tc : Thread Cert.ConvSampleIdeal.nD Cert.ConvSampleIdeal.τ).loc Cert.ConvSampleIdeal.main_arg1)
      ∧ r.2.mem ((c.tc : Thread Cert.ConvSampleIdeal.nD Cert.ConvSampleIdeal.τ).loc Cert.ConvSampleIdeal.main_arg2) = m ((c.tc : Thread Cert.ConvSampleIdeal.nD Cert.ConvSampleIdeal.τ).loc Cert.ConvSampleIdeal.main_arg2)
      ∧ r.2.mem ((c.tc : Thread Cert.ConvSampleIdeal.nD Cert.ConvSampleIdeal.τ).loc Cert.ConvSampleIdeal.main_arg3) = m ((c.tc : Thread Cert.ConvSampleIdeal.nD Cert.ConvSampleIdeal.τ).loc Cert.ConvSampleIdeal.main_arg3)
      ∧ r.2.mem ((c.tc : Thread Cert.ConvSampleIdeal.nD Cert.ConvSampleIdeal.τ).loc Cert.ConvSampleIdeal.main_arg4) = m ((c.tc : Thread Cert.ConvSampleIdeal.nD Cert.ConvSampleIdeal.τ).loc Cert.ConvSampleIdeal.main_arg4)
      ∧ r.2.mem ((c.tc : Thread Cert.ConvSampleIdeal.nD Cert.ConvSampleIdeal.τ).loc Cert.ConvSampleIdeal.main_arg5) = m ((c.tc : Thread Cert.ConvSampleIdeal.nD Cert.ConvSampleIdeal.τ).loc Cert.ConvSampleIdeal.main_arg5))
      ∧ r.2.sem = fun _ => 0)

def quiescent_ConvSampleRefIdeal [hConvSampleRefIdeal : Cert.ConvSampleRefIdeal.Facts] : Prop :=
  ∀ (m : (ℓ : Loc Cert.ConvSampleRefIdeal.nD Cert.ConvSampleRefIdeal.τ Cert.ConvSampleRefIdeal.sig) → Buf (Elt Ideal) ℓ) (g : Dev Cert.ConvSampleRefIdeal.nD → PrngReg), Pre_ConvSampleRefIdeal m →
    θ_run (Cert.ConvSampleRefIdeal.defs (F := Ideal)) (onTc (τ := Cert.ConvSampleRefIdeal.τ) (Cert.ConvSampleRefIdeal.main (F := Ideal))) ⟨m, fun _ => 0, g⟩ (fun r => (∀ c : Dev Cert.ConvSampleRefIdeal.nD,
      r.2.mem ((c.tc : Thread Cert.ConvSampleRefIdeal.nD Cert.ConvSampleRefIdeal.τ).loc Cert.ConvSampleRefIdeal.main_arg0) = m ((c.tc : Thread Cert.ConvSampleRefIdeal.nD Cert.ConvSampleRefIdeal.τ).loc Cert.ConvSampleRefIdeal.main_arg0)
      ∧ r.2.mem ((c.tc : Thread Cert.ConvSampleRefIdeal.nD Cert.ConvSampleRefIdeal.τ).loc Cert.ConvSampleRefIdeal.main_arg1) = m ((c.tc : Thread Cert.ConvSampleRefIdeal.nD Cert.ConvSampleRefIdeal.τ).loc Cert.ConvSampleRefIdeal.main_arg1)
      ∧ r.2.mem ((c.tc : Thread Cert.ConvSampleRefIdeal.nD Cert.ConvSampleRefIdeal.τ).loc Cert.ConvSampleRefIdeal.main_arg2) = m ((c.tc : Thread Cert.ConvSampleRefIdeal.nD Cert.ConvSampleRefIdeal.τ).loc Cert.ConvSampleRefIdeal.main_arg2)
      ∧ r.2.mem ((c.tc : Thread Cert.ConvSampleRefIdeal.nD Cert.ConvSampleRefIdeal.τ).loc Cert.ConvSampleRefIdeal.main_arg3) = m ((c.tc : Thread Cert.ConvSampleRefIdeal.nD Cert.ConvSampleRefIdeal.τ).loc Cert.ConvSampleRefIdeal.main_arg3)
      ∧ r.2.mem ((c.tc : Thread Cert.ConvSampleRefIdeal.nD Cert.ConvSampleRefIdeal.τ).loc Cert.ConvSampleRefIdeal.main_arg4) = m ((c.tc : Thread Cert.ConvSampleRefIdeal.nD Cert.ConvSampleRefIdeal.τ).loc Cert.ConvSampleRefIdeal.main_arg4)
      ∧ r.2.mem ((c.tc : Thread Cert.ConvSampleRefIdeal.nD Cert.ConvSampleRefIdeal.τ).loc Cert.ConvSampleRefIdeal.main_arg5) = m ((c.tc : Thread Cert.ConvSampleRefIdeal.nD Cert.ConvSampleRefIdeal.τ).loc Cert.ConvSampleRefIdeal.main_arg5))
      ∧ r.2.sem = fun _ => 0)

def quiescent_ConvPrompt [hConvPrompt : Cert.ConvPrompt.Facts] : Prop :=
  ∀ (m : (ℓ : Loc Cert.ConvPrompt.nD Cert.ConvPrompt.τ Cert.ConvPrompt.sig) → Buf (Elt Bits) ℓ) (g : Dev Cert.ConvPrompt.nD → PrngReg), Pre_ConvPrompt m →
    θ_run (Cert.ConvPrompt.defs (F := Bits)) (onTc (τ := Cert.ConvPrompt.τ) (Cert.ConvPrompt.main (F := Bits))) ⟨m, fun _ => 0, g⟩ (fun r => (∀ c : Dev Cert.ConvPrompt.nD,
      r.2.mem ((c.tc : Thread Cert.ConvPrompt.nD Cert.ConvPrompt.τ).loc Cert.ConvPrompt.main_arg0) = m ((c.tc : Thread Cert.ConvPrompt.nD Cert.ConvPrompt.τ).loc Cert.ConvPrompt.main_arg0)
      ∧ r.2.mem ((c.tc : Thread Cert.ConvPrompt.nD Cert.ConvPrompt.τ).loc Cert.ConvPrompt.main_arg1) = m ((c.tc : Thread Cert.ConvPrompt.nD Cert.ConvPrompt.τ).loc Cert.ConvPrompt.main_arg1)
      ∧ r.2.mem ((c.tc : Thread Cert.ConvPrompt.nD Cert.ConvPrompt.τ).loc Cert.ConvPrompt.main_arg2) = m ((c.tc : Thread Cert.ConvPrompt.nD Cert.ConvPrompt.τ).loc Cert.ConvPrompt.main_arg2)
      ∧ r.2.mem ((c.tc : Thread Cert.ConvPrompt.nD Cert.ConvPrompt.τ).loc Cert.ConvPrompt.main_arg3) = m ((c.tc : Thread Cert.ConvPrompt.nD Cert.ConvPrompt.τ).loc Cert.ConvPrompt.main_arg3)
      ∧ r.2.mem ((c.tc : Thread Cert.ConvPrompt.nD Cert.ConvPrompt.τ).loc Cert.ConvPrompt.main_arg4) = m ((c.tc : Thread Cert.ConvPrompt.nD Cert.ConvPrompt.τ).loc Cert.ConvPrompt.main_arg4))
      ∧ r.2.sem = fun _ => 0)

def quiescent_ConvPromptIdeal [hConvPromptIdeal : Cert.ConvPromptIdeal.Facts] : Prop :=
  ∀ (m : (ℓ : Loc Cert.ConvPromptIdeal.nD Cert.ConvPromptIdeal.τ Cert.ConvPromptIdeal.sig) → Buf (Elt Ideal) ℓ) (g : Dev Cert.ConvPromptIdeal.nD → PrngReg), Pre_ConvPromptIdeal m →
    θ_run (Cert.ConvPromptIdeal.defs (F := Ideal)) (onTc (τ := Cert.ConvPromptIdeal.τ) (Cert.ConvPromptIdeal.main (F := Ideal))) ⟨m, fun _ => 0, g⟩ (fun r => (∀ c : Dev Cert.ConvPromptIdeal.nD,
      r.2.mem ((c.tc : Thread Cert.ConvPromptIdeal.nD Cert.ConvPromptIdeal.τ).loc Cert.ConvPromptIdeal.main_arg0) = m ((c.tc : Thread Cert.ConvPromptIdeal.nD Cert.ConvPromptIdeal.τ).loc Cert.ConvPromptIdeal.main_arg0)
      ∧ r.2.mem ((c.tc : Thread Cert.ConvPromptIdeal.nD Cert.ConvPromptIdeal.τ).loc Cert.ConvPromptIdeal.main_arg1) = m ((c.tc : Thread Cert.ConvPromptIdeal.nD Cert.ConvPromptIdeal.τ).loc Cert.ConvPromptIdeal.main_arg1)
      ∧ r.2.mem ((c.tc : Thread Cert.ConvPromptIdeal.nD Cert.ConvPromptIdeal.τ).loc Cert.ConvPromptIdeal.main_arg2) = m ((c.tc : Thread Cert.ConvPromptIdeal.nD Cert.ConvPromptIdeal.τ).loc Cert.ConvPromptIdeal.main_arg2)
      ∧ r.2.mem ((c.tc : Thread Cert.ConvPromptIdeal.nD Cert.ConvPromptIdeal.τ).loc Cert.ConvPromptIdeal.main_arg3) = m ((c.tc : Thread Cert.ConvPromptIdeal.nD Cert.ConvPromptIdeal.τ).loc Cert.ConvPromptIdeal.main_arg3)
      ∧ r.2.mem ((c.tc : Thread Cert.ConvPromptIdeal.nD Cert.ConvPromptIdeal.τ).loc Cert.ConvPromptIdeal.main_arg4) = m ((c.tc : Thread Cert.ConvPromptIdeal.nD Cert.ConvPromptIdeal.τ).loc Cert.ConvPromptIdeal.main_arg4))
      ∧ r.2.sem = fun _ => 0)

def quiescent_ConvPromptRefIdeal [hConvPromptRefIdeal : Cert.ConvPromptRefIdeal.Facts] : Prop :=
  ∀ (m : (ℓ : Loc Cert.ConvPromptRefIdeal.nD Cert.ConvPromptRefIdeal.τ Cert.ConvPromptRefIdeal.sig) → Buf (Elt Ideal) ℓ) (g : Dev Cert.ConvPromptRefIdeal.nD → PrngReg), Pre_ConvPromptRefIdeal m →
    θ_run (Cert.ConvPromptRefIdeal.defs (F := Ideal)) (onTc (τ := Cert.ConvPromptRefIdeal.τ) (Cert.ConvPromptRefIdeal.main (F := Ideal))) ⟨m, fun _ => 0, g⟩ (fun r => (∀ c : Dev Cert.ConvPromptRefIdeal.nD,
      r.2.mem ((c.tc : Thread Cert.ConvPromptRefIdeal.nD Cert.ConvPromptRefIdeal.τ).loc Cert.ConvPromptRefIdeal.main_arg0) = m ((c.tc : Thread Cert.ConvPromptRefIdeal.nD Cert.ConvPromptRefIdeal.τ).loc Cert.ConvPromptRefIdeal.main_arg0)
      ∧ r.2.mem ((c.tc : Thread Cert.ConvPromptRefIdeal.nD Cert.ConvPromptRefIdeal.τ).loc Cert.ConvPromptRefIdeal.main_arg1) = m ((c.tc : Thread Cert.ConvPromptRefIdeal.nD Cert.ConvPromptRefIdeal.τ).loc Cert.ConvPromptRefIdeal.main_arg1)
      ∧ r.2.mem ((c.tc : Thread Cert.ConvPromptRefIdeal.nD Cert.ConvPromptRefIdeal.τ).loc Cert.ConvPromptRefIdeal.main_arg2) = m ((c.tc : Thread Cert.ConvPromptRefIdeal.nD Cert.ConvPromptRefIdeal.τ).loc Cert.ConvPromptRefIdeal.main_arg2)
      ∧ r.2.mem ((c.tc : Thread Cert.ConvPromptRefIdeal.nD Cert.ConvPromptRefIdeal.τ).loc Cert.ConvPromptRefIdeal.main_arg3) = m ((c.tc : Thread Cert.ConvPromptRefIdeal.nD Cert.ConvPromptRefIdeal.τ).loc Cert.ConvPromptRefIdeal.main_arg3)
      ∧ r.2.mem ((c.tc : Thread Cert.ConvPromptRefIdeal.nD Cert.ConvPromptRefIdeal.τ).loc Cert.ConvPromptRefIdeal.main_arg4) = m ((c.tc : Thread Cert.ConvPromptRefIdeal.nD Cert.ConvPromptRefIdeal.τ).loc Cert.ConvPromptRefIdeal.main_arg4))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ r.2.sem = fun _ => 0)

def quiescent_QkvIdeal_pre_rope_halves [hQkvIdeal : Cert.QkvIdeal.Facts] [hPre_rope_halves : Cert.Pre_rope_halves.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal_rope_halves m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6))
      ∧ r.2.sem = fun _ => 0)

def quiescent_QkvRefIdeal_pre_rope_halves [hQkvRefIdeal : Cert.QkvRefIdeal.Facts] [hPre_rope_halves : Cert.Pre_rope_halves.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal_rope_halves m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6))
      ∧ r.2.sem = fun _ => 0)

def quiescent_GlaSample [hGlaSample : Cert.GlaSample.Facts] : Prop :=
  ∀ (m : (ℓ : Loc Cert.GlaSample.nD Cert.GlaSample.τ Cert.GlaSample.sig) → Buf (Elt Bits) ℓ) (g : Dev Cert.GlaSample.nD → PrngReg), Pre_GlaSample m →
    θ_run (Cert.GlaSample.defs (F := Bits)) (onTc (τ := Cert.GlaSample.τ) (Cert.GlaSample.main (F := Bits))) ⟨m, fun _ => 0, g⟩ (fun r => (∀ c : Dev Cert.GlaSample.nD,
      r.2.mem ((c.tc : Thread Cert.GlaSample.nD Cert.GlaSample.τ).loc Cert.GlaSample.main_arg0) = m ((c.tc : Thread Cert.GlaSample.nD Cert.GlaSample.τ).loc Cert.GlaSample.main_arg0)
      ∧ r.2.mem ((c.tc : Thread Cert.GlaSample.nD Cert.GlaSample.τ).loc Cert.GlaSample.main_arg1) = m ((c.tc : Thread Cert.GlaSample.nD Cert.GlaSample.τ).loc Cert.GlaSample.main_arg1)
      ∧ r.2.mem ((c.tc : Thread Cert.GlaSample.nD Cert.GlaSample.τ).loc Cert.GlaSample.main_arg2) = m ((c.tc : Thread Cert.GlaSample.nD Cert.GlaSample.τ).loc Cert.GlaSample.main_arg2)
      ∧ r.2.mem ((c.tc : Thread Cert.GlaSample.nD Cert.GlaSample.τ).loc Cert.GlaSample.main_arg3) = m ((c.tc : Thread Cert.GlaSample.nD Cert.GlaSample.τ).loc Cert.GlaSample.main_arg3)
      ∧ r.2.mem ((c.tc : Thread Cert.GlaSample.nD Cert.GlaSample.τ).loc Cert.GlaSample.main_arg4) = m ((c.tc : Thread Cert.GlaSample.nD Cert.GlaSample.τ).loc Cert.GlaSample.main_arg4)
      ∧ r.2.mem ((c.tc : Thread Cert.GlaSample.nD Cert.GlaSample.τ).loc Cert.GlaSample.main_arg5) = m ((c.tc : Thread Cert.GlaSample.nD Cert.GlaSample.τ).loc Cert.GlaSample.main_arg5))
      ∧ r.2.sem = fun _ => 0)

def quiescent_GlaSampleIdeal [hGlaSampleIdeal : Cert.GlaSampleIdeal.Facts] : Prop :=
  ∀ (m : (ℓ : Loc Cert.GlaSampleIdeal.nD Cert.GlaSampleIdeal.τ Cert.GlaSampleIdeal.sig) → Buf (Elt Ideal) ℓ) (g : Dev Cert.GlaSampleIdeal.nD → PrngReg), Pre_GlaSampleIdeal m →
    θ_run (Cert.GlaSampleIdeal.defs (F := Ideal)) (onTc (τ := Cert.GlaSampleIdeal.τ) (Cert.GlaSampleIdeal.main (F := Ideal))) ⟨m, fun _ => 0, g⟩ (fun r => (∀ c : Dev Cert.GlaSampleIdeal.nD,
      r.2.mem ((c.tc : Thread Cert.GlaSampleIdeal.nD Cert.GlaSampleIdeal.τ).loc Cert.GlaSampleIdeal.main_arg0) = m ((c.tc : Thread Cert.GlaSampleIdeal.nD Cert.GlaSampleIdeal.τ).loc Cert.GlaSampleIdeal.main_arg0)
      ∧ r.2.mem ((c.tc : Thread Cert.GlaSampleIdeal.nD Cert.GlaSampleIdeal.τ).loc Cert.GlaSampleIdeal.main_arg1) = m ((c.tc : Thread Cert.GlaSampleIdeal.nD Cert.GlaSampleIdeal.τ).loc Cert.GlaSampleIdeal.main_arg1)
      ∧ r.2.mem ((c.tc : Thread Cert.GlaSampleIdeal.nD Cert.GlaSampleIdeal.τ).loc Cert.GlaSampleIdeal.main_arg2) = m ((c.tc : Thread Cert.GlaSampleIdeal.nD Cert.GlaSampleIdeal.τ).loc Cert.GlaSampleIdeal.main_arg2)
      ∧ r.2.mem ((c.tc : Thread Cert.GlaSampleIdeal.nD Cert.GlaSampleIdeal.τ).loc Cert.GlaSampleIdeal.main_arg3) = m ((c.tc : Thread Cert.GlaSampleIdeal.nD Cert.GlaSampleIdeal.τ).loc Cert.GlaSampleIdeal.main_arg3)
      ∧ r.2.mem ((c.tc : Thread Cert.GlaSampleIdeal.nD Cert.GlaSampleIdeal.τ).loc Cert.GlaSampleIdeal.main_arg4) = m ((c.tc : Thread Cert.GlaSampleIdeal.nD Cert.GlaSampleIdeal.τ).loc Cert.GlaSampleIdeal.main_arg4)
      ∧ r.2.mem ((c.tc : Thread Cert.GlaSampleIdeal.nD Cert.GlaSampleIdeal.τ).loc Cert.GlaSampleIdeal.main_arg5) = m ((c.tc : Thread Cert.GlaSampleIdeal.nD Cert.GlaSampleIdeal.τ).loc Cert.GlaSampleIdeal.main_arg5))
      ∧ r.2.sem = fun _ => 0)

def quiescent_GlaSampleRefIdeal [hGlaSampleRefIdeal : Cert.GlaSampleRefIdeal.Facts] : Prop :=
  ∀ (m : (ℓ : Loc Cert.GlaSampleRefIdeal.nD Cert.GlaSampleRefIdeal.τ Cert.GlaSampleRefIdeal.sig) → Buf (Elt Ideal) ℓ) (g : Dev Cert.GlaSampleRefIdeal.nD → PrngReg), Pre_GlaSampleRefIdeal m →
    θ_run (Cert.GlaSampleRefIdeal.defs (F := Ideal)) (onTc (τ := Cert.GlaSampleRefIdeal.τ) (Cert.GlaSampleRefIdeal.main (F := Ideal))) ⟨m, fun _ => 0, g⟩ (fun r => (∀ c : Dev Cert.GlaSampleRefIdeal.nD,
      r.2.mem ((c.tc : Thread Cert.GlaSampleRefIdeal.nD Cert.GlaSampleRefIdeal.τ).loc Cert.GlaSampleRefIdeal.main_arg0) = m ((c.tc : Thread Cert.GlaSampleRefIdeal.nD Cert.GlaSampleRefIdeal.τ).loc Cert.GlaSampleRefIdeal.main_arg0)
      ∧ r.2.mem ((c.tc : Thread Cert.GlaSampleRefIdeal.nD Cert.GlaSampleRefIdeal.τ).loc Cert.GlaSampleRefIdeal.main_arg1) = m ((c.tc : Thread Cert.GlaSampleRefIdeal.nD Cert.GlaSampleRefIdeal.τ).loc Cert.GlaSampleRefIdeal.main_arg1)
      ∧ r.2.mem ((c.tc : Thread Cert.GlaSampleRefIdeal.nD Cert.GlaSampleRefIdeal.τ).loc Cert.GlaSampleRefIdeal.main_arg2) = m ((c.tc : Thread Cert.GlaSampleRefIdeal.nD Cert.GlaSampleRefIdeal.τ).loc Cert.GlaSampleRefIdeal.main_arg2)
      ∧ r.2.mem ((c.tc : Thread Cert.GlaSampleRefIdeal.nD Cert.GlaSampleRefIdeal.τ).loc Cert.GlaSampleRefIdeal.main_arg3) = m ((c.tc : Thread Cert.GlaSampleRefIdeal.nD Cert.GlaSampleRefIdeal.τ).loc Cert.GlaSampleRefIdeal.main_arg3)
      ∧ r.2.mem ((c.tc : Thread Cert.GlaSampleRefIdeal.nD Cert.GlaSampleRefIdeal.τ).loc Cert.GlaSampleRefIdeal.main_arg4) = m ((c.tc : Thread Cert.GlaSampleRefIdeal.nD Cert.GlaSampleRefIdeal.τ).loc Cert.GlaSampleRefIdeal.main_arg4)
      ∧ r.2.mem ((c.tc : Thread Cert.GlaSampleRefIdeal.nD Cert.GlaSampleRefIdeal.τ).loc Cert.GlaSampleRefIdeal.main_arg5) = m ((c.tc : Thread Cert.GlaSampleRefIdeal.nD Cert.GlaSampleRefIdeal.τ).loc Cert.GlaSampleRefIdeal.main_arg5))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v43) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)) →
    ∃ (v0 : (c : Dev Cert.GateUpIdeal.nD) → Buf (Elt Ideal) ((c.tc : Thread Cert.GateUpIdeal.nD Cert.GateUpIdeal.τ).loc Cert.GateUpIdeal.main_v0)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v8) = v0 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v4) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v17) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v4) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_MixerA_MixerAIdeal : Prop :=
  True

def algebraic_MixerAIdeal_MixerARefIdeal [hMixerAIdeal : Cert.MixerAIdeal.Facts] [hMixerARefIdeal : Cert.MixerARefIdeal.Facts] : Prop :=
  ∀ (m : (ℓ : Loc Cert.MixerAIdeal.nD Cert.MixerAIdeal.τ Cert.MixerAIdeal.sig) → Buf (Elt Ideal) ℓ) (g : Dev Cert.MixerAIdeal.nD → PrngReg)
    (m' : (ℓ : Loc Cert.MixerARefIdeal.nD Cert.MixerARefIdeal.τ Cert.MixerARefIdeal.sig) → Buf (Elt Ideal) ℓ) (g' : Dev Cert.MixerARefIdeal.nD → PrngReg), Pre_MixerAIdeal m →
    (∀ c : Dev Cert.MixerAIdeal.nD,
      m' ((c.tc : Thread Cert.MixerARefIdeal.nD Cert.MixerARefIdeal.τ).loc Cert.MixerARefIdeal.main_arg0) = m ((c.tc : Thread Cert.MixerAIdeal.nD Cert.MixerAIdeal.τ).loc Cert.MixerAIdeal.main_arg0)
      ∧ m' ((c.tc : Thread Cert.MixerARefIdeal.nD Cert.MixerARefIdeal.τ).loc Cert.MixerARefIdeal.main_arg1) = m ((c.tc : Thread Cert.MixerAIdeal.nD Cert.MixerAIdeal.τ).loc Cert.MixerAIdeal.main_arg1)
      ∧ m' ((c.tc : Thread Cert.MixerARefIdeal.nD Cert.MixerARefIdeal.τ).loc Cert.MixerARefIdeal.main_arg2) = m ((c.tc : Thread Cert.MixerAIdeal.nD Cert.MixerAIdeal.τ).loc Cert.MixerAIdeal.main_arg2)
      ∧ m' ((c.tc : Thread Cert.MixerARefIdeal.nD Cert.MixerARefIdeal.τ).loc Cert.MixerARefIdeal.main_arg3) = m ((c.tc : Thread Cert.MixerAIdeal.nD Cert.MixerAIdeal.τ).loc Cert.MixerAIdeal.main_arg3)
      ∧ m' ((c.tc : Thread Cert.MixerARefIdeal.nD Cert.MixerARefIdeal.τ).loc Cert.MixerARefIdeal.main_arg4) = m ((c.tc : Thread Cert.MixerAIdeal.nD Cert.MixerAIdeal.τ).loc Cert.MixerAIdeal.main_arg4)) →
    ∃ (v0 : (c : Dev Cert.MixerAIdeal.nD) → Buf (Elt Ideal) ((c.tc : Thread Cert.MixerAIdeal.nD Cert.MixerAIdeal.τ).loc Cert.MixerAIdeal.main_v26_1)),
      θ_run (Cert.MixerAIdeal.defs (F := Ideal)) (onTc (τ := Cert.MixerAIdeal.τ) (Cert.MixerAIdeal.main (F := Ideal))) ⟨m, fun _ => 0, g⟩ (fun r => ∀ c : Dev Cert.MixerAIdeal.nD,
          r.2.mem ((c.tc : Thread Cert.MixerAIdeal.nD Cert.MixerAIdeal.τ).loc Cert.MixerAIdeal.main_v26_1) = v0 c
          ∧ r.2.mem ((c.tc : Thread Cert.MixerAIdeal.nD Cert.MixerAIdeal.τ).loc Cert.MixerAIdeal.main_arg0) = m ((c.tc : Thread Cert.MixerAIdeal.nD Cert.MixerAIdeal.τ).loc Cert.MixerAIdeal.main_arg0)
          ∧ r.2.mem ((c.tc : Thread Cert.MixerAIdeal.nD Cert.MixerAIdeal.τ).loc Cert.MixerAIdeal.main_arg1) = m ((c.tc : Thread Cert.MixerAIdeal.nD Cert.MixerAIdeal.τ).loc Cert.MixerAIdeal.main_arg1)
          ∧ r.2.mem ((c.tc : Thread Cert.MixerAIdeal.nD Cert.MixerAIdeal.τ).loc Cert.MixerAIdeal.main_arg2) = m ((c.tc : Thread Cert.MixerAIdeal.nD Cert.MixerAIdeal.τ).loc Cert.MixerAIdeal.main_arg2)
          ∧ r.2.mem ((c.tc : Thread Cert.MixerAIdeal.nD Cert.MixerAIdeal.τ).loc Cert.MixerAIdeal.main_arg3) = m ((c.tc : Thread Cert.MixerAIdeal.nD Cert.MixerAIdeal.τ).loc Cert.MixerAIdeal.main_arg3)
          ∧ r.2.mem ((c.tc : Thread Cert.MixerAIdeal.nD Cert.MixerAIdeal.τ).loc Cert.MixerAIdeal.main_arg4) = m ((c.tc : Thread Cert.MixerAIdeal.nD Cert.MixerAIdeal.τ).loc Cert.MixerAIdeal.main_arg4))
      ∧ θ_run (Cert.MixerARefIdeal.defs (F := Ideal)) (onTc (τ := Cert.MixerARefIdeal.τ) (Cert.MixerARefIdeal.main (F := Ideal))) ⟨m', fun _ => 0, g'⟩ (fun r => ∀ c : Dev Cert.MixerARefIdeal.nD,
          r.2.mem ((c.tc : Thread Cert.MixerARefIdeal.nD Cert.MixerARefIdeal.τ).loc Cert.MixerARefIdeal.main_v35) = v0 c
          ∧ r.2.mem ((c.tc : Thread Cert.MixerARefIdeal.nD Cert.MixerARefIdeal.τ).loc Cert.MixerARefIdeal.main_arg0) = m' ((c.tc : Thread Cert.MixerARefIdeal.nD Cert.MixerARefIdeal.τ).loc Cert.MixerARefIdeal.main_arg0)
          ∧ r.2.mem ((c.tc : Thread Cert.MixerARefIdeal.nD Cert.MixerARefIdeal.τ).loc Cert.MixerARefIdeal.main_arg1) = m' ((c.tc : Thread Cert.MixerARefIdeal.nD Cert.MixerARefIdeal.τ).loc Cert.MixerARefIdeal.main_arg1)
          ∧ r.2.mem ((c.tc : Thread Cert.MixerARefIdeal.nD Cert.MixerARefIdeal.τ).loc Cert.MixerARefIdeal.main_arg2) = m' ((c.tc : Thread Cert.MixerARefIdeal.nD Cert.MixerARefIdeal.τ).loc Cert.MixerARefIdeal.main_arg2)
          ∧ r.2.mem ((c.tc : Thread Cert.MixerARefIdeal.nD Cert.MixerARefIdeal.τ).loc Cert.MixerARefIdeal.main_arg3) = m' ((c.tc : Thread Cert.MixerARefIdeal.nD Cert.MixerARefIdeal.τ).loc Cert.MixerARefIdeal.main_arg3)
          ∧ r.2.mem ((c.tc : Thread Cert.MixerARefIdeal.nD Cert.MixerARefIdeal.τ).loc Cert.MixerARefIdeal.main_arg4) = m' ((c.tc : Thread Cert.MixerARefIdeal.nD Cert.MixerARefIdeal.τ).loc Cert.MixerARefIdeal.main_arg4))

def preserves_ConvSample_ConvSampleIdeal : Prop :=
  True

def algebraic_ConvSampleIdeal_ConvSampleRefIdeal [hConvSampleIdeal : Cert.ConvSampleIdeal.Facts] [hConvSampleRefIdeal : Cert.ConvSampleRefIdeal.Facts] : Prop :=
  ∀ (m : (ℓ : Loc Cert.ConvSampleIdeal.nD Cert.ConvSampleIdeal.τ Cert.ConvSampleIdeal.sig) → Buf (Elt Ideal) ℓ) (g : Dev Cert.ConvSampleIdeal.nD → PrngReg)
    (m' : (ℓ : Loc Cert.ConvSampleRefIdeal.nD Cert.ConvSampleRefIdeal.τ Cert.ConvSampleRefIdeal.sig) → Buf (Elt Ideal) ℓ) (g' : Dev Cert.ConvSampleRefIdeal.nD → PrngReg), Pre_ConvSampleIdeal m →
    (∀ c : Dev Cert.ConvSampleIdeal.nD,
      m' ((c.tc : Thread Cert.ConvSampleRefIdeal.nD Cert.ConvSampleRefIdeal.τ).loc Cert.ConvSampleRefIdeal.main_arg0) = m ((c.tc : Thread Cert.ConvSampleIdeal.nD Cert.ConvSampleIdeal.τ).loc Cert.ConvSampleIdeal.main_arg0)
      ∧ m' ((c.tc : Thread Cert.ConvSampleRefIdeal.nD Cert.ConvSampleRefIdeal.τ).loc Cert.ConvSampleRefIdeal.main_arg1) = m ((c.tc : Thread Cert.ConvSampleIdeal.nD Cert.ConvSampleIdeal.τ).loc Cert.ConvSampleIdeal.main_arg1)
      ∧ m' ((c.tc : Thread Cert.ConvSampleRefIdeal.nD Cert.ConvSampleRefIdeal.τ).loc Cert.ConvSampleRefIdeal.main_arg2) = m ((c.tc : Thread Cert.ConvSampleIdeal.nD Cert.ConvSampleIdeal.τ).loc Cert.ConvSampleIdeal.main_arg2)
      ∧ m' ((c.tc : Thread Cert.ConvSampleRefIdeal.nD Cert.ConvSampleRefIdeal.τ).loc Cert.ConvSampleRefIdeal.main_arg3) = m ((c.tc : Thread Cert.ConvSampleIdeal.nD Cert.ConvSampleIdeal.τ).loc Cert.ConvSampleIdeal.main_arg3)
      ∧ m' ((c.tc : Thread Cert.ConvSampleRefIdeal.nD Cert.ConvSampleRefIdeal.τ).loc Cert.ConvSampleRefIdeal.main_arg4) = m ((c.tc : Thread Cert.ConvSampleIdeal.nD Cert.ConvSampleIdeal.τ).loc Cert.ConvSampleIdeal.main_arg4)
      ∧ m' ((c.tc : Thread Cert.ConvSampleRefIdeal.nD Cert.ConvSampleRefIdeal.τ).loc Cert.ConvSampleRefIdeal.main_arg5) = m ((c.tc : Thread Cert.ConvSampleIdeal.nD Cert.ConvSampleIdeal.τ).loc Cert.ConvSampleIdeal.main_arg5)) →
    ∃ (v0 : (c : Dev Cert.ConvSampleIdeal.nD) → Buf (Elt Ideal) ((c.tc : Thread Cert.ConvSampleIdeal.nD Cert.ConvSampleIdeal.τ).loc Cert.ConvSampleIdeal.main_v4_1)),
      θ_run (Cert.ConvSampleIdeal.defs (F := Ideal)) (onTc (τ := Cert.ConvSampleIdeal.τ) (Cert.ConvSampleIdeal.main (F := Ideal))) ⟨m, fun _ => 0, g⟩ (fun r => ∀ c : Dev Cert.ConvSampleIdeal.nD,
          r.2.mem ((c.tc : Thread Cert.ConvSampleIdeal.nD Cert.ConvSampleIdeal.τ).loc Cert.ConvSampleIdeal.main_v4_1) = v0 c
          ∧ r.2.mem ((c.tc : Thread Cert.ConvSampleIdeal.nD Cert.ConvSampleIdeal.τ).loc Cert.ConvSampleIdeal.main_arg0) = m ((c.tc : Thread Cert.ConvSampleIdeal.nD Cert.ConvSampleIdeal.τ).loc Cert.ConvSampleIdeal.main_arg0)
          ∧ r.2.mem ((c.tc : Thread Cert.ConvSampleIdeal.nD Cert.ConvSampleIdeal.τ).loc Cert.ConvSampleIdeal.main_arg1) = m ((c.tc : Thread Cert.ConvSampleIdeal.nD Cert.ConvSampleIdeal.τ).loc Cert.ConvSampleIdeal.main_arg1)
          ∧ r.2.mem ((c.tc : Thread Cert.ConvSampleIdeal.nD Cert.ConvSampleIdeal.τ).loc Cert.ConvSampleIdeal.main_arg2) = m ((c.tc : Thread Cert.ConvSampleIdeal.nD Cert.ConvSampleIdeal.τ).loc Cert.ConvSampleIdeal.main_arg2)
          ∧ r.2.mem ((c.tc : Thread Cert.ConvSampleIdeal.nD Cert.ConvSampleIdeal.τ).loc Cert.ConvSampleIdeal.main_arg3) = m ((c.tc : Thread Cert.ConvSampleIdeal.nD Cert.ConvSampleIdeal.τ).loc Cert.ConvSampleIdeal.main_arg3)
          ∧ r.2.mem ((c.tc : Thread Cert.ConvSampleIdeal.nD Cert.ConvSampleIdeal.τ).loc Cert.ConvSampleIdeal.main_arg4) = m ((c.tc : Thread Cert.ConvSampleIdeal.nD Cert.ConvSampleIdeal.τ).loc Cert.ConvSampleIdeal.main_arg4)
          ∧ r.2.mem ((c.tc : Thread Cert.ConvSampleIdeal.nD Cert.ConvSampleIdeal.τ).loc Cert.ConvSampleIdeal.main_arg5) = m ((c.tc : Thread Cert.ConvSampleIdeal.nD Cert.ConvSampleIdeal.τ).loc Cert.ConvSampleIdeal.main_arg5))
      ∧ θ_run (Cert.ConvSampleRefIdeal.defs (F := Ideal)) (onTc (τ := Cert.ConvSampleRefIdeal.τ) (Cert.ConvSampleRefIdeal.main (F := Ideal))) ⟨m', fun _ => 0, g'⟩ (fun r => ∀ c : Dev Cert.ConvSampleRefIdeal.nD,
          r.2.mem ((c.tc : Thread Cert.ConvSampleRefIdeal.nD Cert.ConvSampleRefIdeal.τ).loc Cert.ConvSampleRefIdeal.main_v14) = v0 c
          ∧ r.2.mem ((c.tc : Thread Cert.ConvSampleRefIdeal.nD Cert.ConvSampleRefIdeal.τ).loc Cert.ConvSampleRefIdeal.main_arg0) = m' ((c.tc : Thread Cert.ConvSampleRefIdeal.nD Cert.ConvSampleRefIdeal.τ).loc Cert.ConvSampleRefIdeal.main_arg0)
          ∧ r.2.mem ((c.tc : Thread Cert.ConvSampleRefIdeal.nD Cert.ConvSampleRefIdeal.τ).loc Cert.ConvSampleRefIdeal.main_arg1) = m' ((c.tc : Thread Cert.ConvSampleRefIdeal.nD Cert.ConvSampleRefIdeal.τ).loc Cert.ConvSampleRefIdeal.main_arg1)
          ∧ r.2.mem ((c.tc : Thread Cert.ConvSampleRefIdeal.nD Cert.ConvSampleRefIdeal.τ).loc Cert.ConvSampleRefIdeal.main_arg2) = m' ((c.tc : Thread Cert.ConvSampleRefIdeal.nD Cert.ConvSampleRefIdeal.τ).loc Cert.ConvSampleRefIdeal.main_arg2)
          ∧ r.2.mem ((c.tc : Thread Cert.ConvSampleRefIdeal.nD Cert.ConvSampleRefIdeal.τ).loc Cert.ConvSampleRefIdeal.main_arg3) = m' ((c.tc : Thread Cert.ConvSampleRefIdeal.nD Cert.ConvSampleRefIdeal.τ).loc Cert.ConvSampleRefIdeal.main_arg3)
          ∧ r.2.mem ((c.tc : Thread Cert.ConvSampleRefIdeal.nD Cert.ConvSampleRefIdeal.τ).loc Cert.ConvSampleRefIdeal.main_arg4) = m' ((c.tc : Thread Cert.ConvSampleRefIdeal.nD Cert.ConvSampleRefIdeal.τ).loc Cert.ConvSampleRefIdeal.main_arg4)
          ∧ r.2.mem ((c.tc : Thread Cert.ConvSampleRefIdeal.nD Cert.ConvSampleRefIdeal.τ).loc Cert.ConvSampleRefIdeal.main_arg5) = m' ((c.tc : Thread Cert.ConvSampleRefIdeal.nD Cert.ConvSampleRefIdeal.τ).loc Cert.ConvSampleRefIdeal.main_arg5))

def preserves_ConvPrompt_ConvPromptIdeal : Prop :=
  True

def algebraic_ConvPromptIdeal_ConvPromptRefIdeal [hConvPromptIdeal : Cert.ConvPromptIdeal.Facts] [hConvPromptRefIdeal : Cert.ConvPromptRefIdeal.Facts] : Prop :=
  ∀ (m : (ℓ : Loc Cert.ConvPromptIdeal.nD Cert.ConvPromptIdeal.τ Cert.ConvPromptIdeal.sig) → Buf (Elt Ideal) ℓ) (g : Dev Cert.ConvPromptIdeal.nD → PrngReg)
    (m' : (ℓ : Loc Cert.ConvPromptRefIdeal.nD Cert.ConvPromptRefIdeal.τ Cert.ConvPromptRefIdeal.sig) → Buf (Elt Ideal) ℓ) (g' : Dev Cert.ConvPromptRefIdeal.nD → PrngReg), Pre_ConvPromptIdeal m →
    (∀ c : Dev Cert.ConvPromptIdeal.nD,
      m' ((c.tc : Thread Cert.ConvPromptRefIdeal.nD Cert.ConvPromptRefIdeal.τ).loc Cert.ConvPromptRefIdeal.main_arg0) = m ((c.tc : Thread Cert.ConvPromptIdeal.nD Cert.ConvPromptIdeal.τ).loc Cert.ConvPromptIdeal.main_arg0)
      ∧ m' ((c.tc : Thread Cert.ConvPromptRefIdeal.nD Cert.ConvPromptRefIdeal.τ).loc Cert.ConvPromptRefIdeal.main_arg1) = m ((c.tc : Thread Cert.ConvPromptIdeal.nD Cert.ConvPromptIdeal.τ).loc Cert.ConvPromptIdeal.main_arg1)
      ∧ m' ((c.tc : Thread Cert.ConvPromptRefIdeal.nD Cert.ConvPromptRefIdeal.τ).loc Cert.ConvPromptRefIdeal.main_arg2) = m ((c.tc : Thread Cert.ConvPromptIdeal.nD Cert.ConvPromptIdeal.τ).loc Cert.ConvPromptIdeal.main_arg2)
      ∧ m' ((c.tc : Thread Cert.ConvPromptRefIdeal.nD Cert.ConvPromptRefIdeal.τ).loc Cert.ConvPromptRefIdeal.main_arg3) = m ((c.tc : Thread Cert.ConvPromptIdeal.nD Cert.ConvPromptIdeal.τ).loc Cert.ConvPromptIdeal.main_arg3)
      ∧ m' ((c.tc : Thread Cert.ConvPromptRefIdeal.nD Cert.ConvPromptRefIdeal.τ).loc Cert.ConvPromptRefIdeal.main_arg4) = m ((c.tc : Thread Cert.ConvPromptIdeal.nD Cert.ConvPromptIdeal.τ).loc Cert.ConvPromptIdeal.main_arg4)) →
    ∃ (v0 : (c : Dev Cert.ConvPromptIdeal.nD) → Buf (Elt Ideal) ((c.tc : Thread Cert.ConvPromptIdeal.nD Cert.ConvPromptIdeal.τ).loc Cert.ConvPromptIdeal.main_v3_1)),
      θ_run (Cert.ConvPromptIdeal.defs (F := Ideal)) (onTc (τ := Cert.ConvPromptIdeal.τ) (Cert.ConvPromptIdeal.main (F := Ideal))) ⟨m, fun _ => 0, g⟩ (fun r => ∀ c : Dev Cert.ConvPromptIdeal.nD,
          r.2.mem ((c.tc : Thread Cert.ConvPromptIdeal.nD Cert.ConvPromptIdeal.τ).loc Cert.ConvPromptIdeal.main_v3_1) = v0 c
          ∧ r.2.mem ((c.tc : Thread Cert.ConvPromptIdeal.nD Cert.ConvPromptIdeal.τ).loc Cert.ConvPromptIdeal.main_arg0) = m ((c.tc : Thread Cert.ConvPromptIdeal.nD Cert.ConvPromptIdeal.τ).loc Cert.ConvPromptIdeal.main_arg0)
          ∧ r.2.mem ((c.tc : Thread Cert.ConvPromptIdeal.nD Cert.ConvPromptIdeal.τ).loc Cert.ConvPromptIdeal.main_arg1) = m ((c.tc : Thread Cert.ConvPromptIdeal.nD Cert.ConvPromptIdeal.τ).loc Cert.ConvPromptIdeal.main_arg1)
          ∧ r.2.mem ((c.tc : Thread Cert.ConvPromptIdeal.nD Cert.ConvPromptIdeal.τ).loc Cert.ConvPromptIdeal.main_arg2) = m ((c.tc : Thread Cert.ConvPromptIdeal.nD Cert.ConvPromptIdeal.τ).loc Cert.ConvPromptIdeal.main_arg2)
          ∧ r.2.mem ((c.tc : Thread Cert.ConvPromptIdeal.nD Cert.ConvPromptIdeal.τ).loc Cert.ConvPromptIdeal.main_arg3) = m ((c.tc : Thread Cert.ConvPromptIdeal.nD Cert.ConvPromptIdeal.τ).loc Cert.ConvPromptIdeal.main_arg3)
          ∧ r.2.mem ((c.tc : Thread Cert.ConvPromptIdeal.nD Cert.ConvPromptIdeal.τ).loc Cert.ConvPromptIdeal.main_arg4) = m ((c.tc : Thread Cert.ConvPromptIdeal.nD Cert.ConvPromptIdeal.τ).loc Cert.ConvPromptIdeal.main_arg4))
      ∧ θ_run (Cert.ConvPromptRefIdeal.defs (F := Ideal)) (onTc (τ := Cert.ConvPromptRefIdeal.τ) (Cert.ConvPromptRefIdeal.main (F := Ideal))) ⟨m', fun _ => 0, g'⟩ (fun r => ∀ c : Dev Cert.ConvPromptRefIdeal.nD,
          r.2.mem ((c.tc : Thread Cert.ConvPromptRefIdeal.nD Cert.ConvPromptRefIdeal.τ).loc Cert.ConvPromptRefIdeal.main_v12) = v0 c
          ∧ r.2.mem ((c.tc : Thread Cert.ConvPromptRefIdeal.nD Cert.ConvPromptRefIdeal.τ).loc Cert.ConvPromptRefIdeal.main_arg0) = m' ((c.tc : Thread Cert.ConvPromptRefIdeal.nD Cert.ConvPromptRefIdeal.τ).loc Cert.ConvPromptRefIdeal.main_arg0)
          ∧ r.2.mem ((c.tc : Thread Cert.ConvPromptRefIdeal.nD Cert.ConvPromptRefIdeal.τ).loc Cert.ConvPromptRefIdeal.main_arg1) = m' ((c.tc : Thread Cert.ConvPromptRefIdeal.nD Cert.ConvPromptRefIdeal.τ).loc Cert.ConvPromptRefIdeal.main_arg1)
          ∧ r.2.mem ((c.tc : Thread Cert.ConvPromptRefIdeal.nD Cert.ConvPromptRefIdeal.τ).loc Cert.ConvPromptRefIdeal.main_arg2) = m' ((c.tc : Thread Cert.ConvPromptRefIdeal.nD Cert.ConvPromptRefIdeal.τ).loc Cert.ConvPromptRefIdeal.main_arg2)
          ∧ r.2.mem ((c.tc : Thread Cert.ConvPromptRefIdeal.nD Cert.ConvPromptRefIdeal.τ).loc Cert.ConvPromptRefIdeal.main_arg3) = m' ((c.tc : Thread Cert.ConvPromptRefIdeal.nD Cert.ConvPromptRefIdeal.τ).loc Cert.ConvPromptRefIdeal.main_arg3)
          ∧ r.2.mem ((c.tc : Thread Cert.ConvPromptRefIdeal.nD Cert.ConvPromptRefIdeal.τ).loc Cert.ConvPromptRefIdeal.main_arg4) = m' ((c.tc : Thread Cert.ConvPromptRefIdeal.nD Cert.ConvPromptRefIdeal.τ).loc Cert.ConvPromptRefIdeal.main_arg4))

def preserves_Qkv_QkvIdeal : Prop :=
  True

def algebraic_QkvIdeal_QkvRefIdeal_pre_rope_halves [hQkvIdeal : Cert.QkvIdeal.Facts] [hQkvRefIdeal : Cert.QkvRefIdeal.Facts] [hPre_rope_halves : Cert.Pre_rope_halves.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal_rope_halves m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)) →
    ∃ (v0 : (c : Dev Cert.QkvIdeal.nD) → Buf (Elt Ideal) ((c.tc : Thread Cert.QkvIdeal.nD Cert.QkvIdeal.τ).loc Cert.QkvIdeal.main_v36_0)) (v1 : (c : Dev Cert.QkvIdeal.nD) → Buf (Elt Ideal) ((c.tc : Thread Cert.QkvIdeal.nD Cert.QkvIdeal.τ).loc Cert.QkvIdeal.main_v36_1)) (v2 : (c : Dev Cert.QkvIdeal.nD) → Buf (Elt Ideal) ((c.tc : Thread Cert.QkvIdeal.nD Cert.QkvIdeal.τ).loc Cert.QkvIdeal.main_v36_2)) (v3 : (c : Dev Cert.QkvIdeal.nD) → Buf (Elt Ideal) ((c.tc : Thread Cert.QkvIdeal.nD Cert.QkvIdeal.τ).loc Cert.QkvIdeal.main_v36_3)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v36_0) = v0 c
          ∧ r.2.mem ((c.tc : Thread Cert.QkvIdeal.nD Cert.QkvIdeal.τ).loc Cert.QkvIdeal.main_v36_1) = v1 c
          ∧ r.2.mem ((c.tc : Thread Cert.QkvIdeal.nD Cert.QkvIdeal.τ).loc Cert.QkvIdeal.main_v36_2) = v2 c
          ∧ r.2.mem ((c.tc : Thread Cert.QkvIdeal.nD Cert.QkvIdeal.τ).loc Cert.QkvIdeal.main_v36_3) = v3 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v13) = v0 c
          ∧ r.2.mem ((c.tc : Thread Cert.QkvRefIdeal.nD Cert.QkvRefIdeal.τ).loc Cert.QkvRefIdeal.main_v39) = v1 c
          ∧ r.2.mem ((c.tc : Thread Cert.QkvRefIdeal.nD Cert.QkvRefIdeal.τ).loc Cert.QkvRefIdeal.main_v40) = v2 c
          ∧ r.2.mem ((c.tc : Thread Cert.QkvRefIdeal.nD Cert.QkvRefIdeal.τ).loc Cert.QkvRefIdeal.main_v41) = v3 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6))

def preserves_GlaSample_GlaSampleIdeal : Prop :=
  True

def algebraic_GlaSampleIdeal_GlaSampleRefIdeal [hGlaSampleIdeal : Cert.GlaSampleIdeal.Facts] [hGlaSampleRefIdeal : Cert.GlaSampleRefIdeal.Facts] : Prop :=
  ∀ (m : (ℓ : Loc Cert.GlaSampleIdeal.nD Cert.GlaSampleIdeal.τ Cert.GlaSampleIdeal.sig) → Buf (Elt Ideal) ℓ) (g : Dev Cert.GlaSampleIdeal.nD → PrngReg)
    (m' : (ℓ : Loc Cert.GlaSampleRefIdeal.nD Cert.GlaSampleRefIdeal.τ Cert.GlaSampleRefIdeal.sig) → Buf (Elt Ideal) ℓ) (g' : Dev Cert.GlaSampleRefIdeal.nD → PrngReg), Pre_GlaSampleIdeal m →
    (∀ c : Dev Cert.GlaSampleIdeal.nD,
      m' ((c.tc : Thread Cert.GlaSampleRefIdeal.nD Cert.GlaSampleRefIdeal.τ).loc Cert.GlaSampleRefIdeal.main_arg0) = m ((c.tc : Thread Cert.GlaSampleIdeal.nD Cert.GlaSampleIdeal.τ).loc Cert.GlaSampleIdeal.main_arg0)
      ∧ m' ((c.tc : Thread Cert.GlaSampleRefIdeal.nD Cert.GlaSampleRefIdeal.τ).loc Cert.GlaSampleRefIdeal.main_arg1) = m ((c.tc : Thread Cert.GlaSampleIdeal.nD Cert.GlaSampleIdeal.τ).loc Cert.GlaSampleIdeal.main_arg1)
      ∧ m' ((c.tc : Thread Cert.GlaSampleRefIdeal.nD Cert.GlaSampleRefIdeal.τ).loc Cert.GlaSampleRefIdeal.main_arg2) = m ((c.tc : Thread Cert.GlaSampleIdeal.nD Cert.GlaSampleIdeal.τ).loc Cert.GlaSampleIdeal.main_arg2)
      ∧ m' ((c.tc : Thread Cert.GlaSampleRefIdeal.nD Cert.GlaSampleRefIdeal.τ).loc Cert.GlaSampleRefIdeal.main_arg3) = m ((c.tc : Thread Cert.GlaSampleIdeal.nD Cert.GlaSampleIdeal.τ).loc Cert.GlaSampleIdeal.main_arg3)
      ∧ m' ((c.tc : Thread Cert.GlaSampleRefIdeal.nD Cert.GlaSampleRefIdeal.τ).loc Cert.GlaSampleRefIdeal.main_arg4) = m ((c.tc : Thread Cert.GlaSampleIdeal.nD Cert.GlaSampleIdeal.τ).loc Cert.GlaSampleIdeal.main_arg4)
      ∧ m' ((c.tc : Thread Cert.GlaSampleRefIdeal.nD Cert.GlaSampleRefIdeal.τ).loc Cert.GlaSampleRefIdeal.main_arg5) = m ((c.tc : Thread Cert.GlaSampleIdeal.nD Cert.GlaSampleIdeal.τ).loc Cert.GlaSampleIdeal.main_arg5)) →
    ∃ (v0 : (c : Dev Cert.GlaSampleIdeal.nD) → Buf (Elt Ideal) ((c.tc : Thread Cert.GlaSampleIdeal.nD Cert.GlaSampleIdeal.τ).loc Cert.GlaSampleIdeal.main_v6_1)),
      θ_run (Cert.GlaSampleIdeal.defs (F := Ideal)) (onTc (τ := Cert.GlaSampleIdeal.τ) (Cert.GlaSampleIdeal.main (F := Ideal))) ⟨m, fun _ => 0, g⟩ (fun r => ∀ c : Dev Cert.GlaSampleIdeal.nD,
          r.2.mem ((c.tc : Thread Cert.GlaSampleIdeal.nD Cert.GlaSampleIdeal.τ).loc Cert.GlaSampleIdeal.main_v6_1) = v0 c
          ∧ r.2.mem ((c.tc : Thread Cert.GlaSampleIdeal.nD Cert.GlaSampleIdeal.τ).loc Cert.GlaSampleIdeal.main_arg0) = m ((c.tc : Thread Cert.GlaSampleIdeal.nD Cert.GlaSampleIdeal.τ).loc Cert.GlaSampleIdeal.main_arg0)
          ∧ r.2.mem ((c.tc : Thread Cert.GlaSampleIdeal.nD Cert.GlaSampleIdeal.τ).loc Cert.GlaSampleIdeal.main_arg1) = m ((c.tc : Thread Cert.GlaSampleIdeal.nD Cert.GlaSampleIdeal.τ).loc Cert.GlaSampleIdeal.main_arg1)
          ∧ r.2.mem ((c.tc : Thread Cert.GlaSampleIdeal.nD Cert.GlaSampleIdeal.τ).loc Cert.GlaSampleIdeal.main_arg2) = m ((c.tc : Thread Cert.GlaSampleIdeal.nD Cert.GlaSampleIdeal.τ).loc Cert.GlaSampleIdeal.main_arg2)
          ∧ r.2.mem ((c.tc : Thread Cert.GlaSampleIdeal.nD Cert.GlaSampleIdeal.τ).loc Cert.GlaSampleIdeal.main_arg3) = m ((c.tc : Thread Cert.GlaSampleIdeal.nD Cert.GlaSampleIdeal.τ).loc Cert.GlaSampleIdeal.main_arg3)
          ∧ r.2.mem ((c.tc : Thread Cert.GlaSampleIdeal.nD Cert.GlaSampleIdeal.τ).loc Cert.GlaSampleIdeal.main_arg4) = m ((c.tc : Thread Cert.GlaSampleIdeal.nD Cert.GlaSampleIdeal.τ).loc Cert.GlaSampleIdeal.main_arg4)
          ∧ r.2.mem ((c.tc : Thread Cert.GlaSampleIdeal.nD Cert.GlaSampleIdeal.τ).loc Cert.GlaSampleIdeal.main_arg5) = m ((c.tc : Thread Cert.GlaSampleIdeal.nD Cert.GlaSampleIdeal.τ).loc Cert.GlaSampleIdeal.main_arg5))
      ∧ θ_run (Cert.GlaSampleRefIdeal.defs (F := Ideal)) (onTc (τ := Cert.GlaSampleRefIdeal.τ) (Cert.GlaSampleRefIdeal.main (F := Ideal))) ⟨m', fun _ => 0, g'⟩ (fun r => ∀ c : Dev Cert.GlaSampleRefIdeal.nD,
          r.2.mem ((c.tc : Thread Cert.GlaSampleRefIdeal.nD Cert.GlaSampleRefIdeal.τ).loc Cert.GlaSampleRefIdeal.main_v24) = v0 c
          ∧ r.2.mem ((c.tc : Thread Cert.GlaSampleRefIdeal.nD Cert.GlaSampleRefIdeal.τ).loc Cert.GlaSampleRefIdeal.main_arg0) = m' ((c.tc : Thread Cert.GlaSampleRefIdeal.nD Cert.GlaSampleRefIdeal.τ).loc Cert.GlaSampleRefIdeal.main_arg0)
          ∧ r.2.mem ((c.tc : Thread Cert.GlaSampleRefIdeal.nD Cert.GlaSampleRefIdeal.τ).loc Cert.GlaSampleRefIdeal.main_arg1) = m' ((c.tc : Thread Cert.GlaSampleRefIdeal.nD Cert.GlaSampleRefIdeal.τ).loc Cert.GlaSampleRefIdeal.main_arg1)
          ∧ r.2.mem ((c.tc : Thread Cert.GlaSampleRefIdeal.nD Cert.GlaSampleRefIdeal.τ).loc Cert.GlaSampleRefIdeal.main_arg2) = m' ((c.tc : Thread Cert.GlaSampleRefIdeal.nD Cert.GlaSampleRefIdeal.τ).loc Cert.GlaSampleRefIdeal.main_arg2)
          ∧ r.2.mem ((c.tc : Thread Cert.GlaSampleRefIdeal.nD Cert.GlaSampleRefIdeal.τ).loc Cert.GlaSampleRefIdeal.main_arg3) = m' ((c.tc : Thread Cert.GlaSampleRefIdeal.nD Cert.GlaSampleRefIdeal.τ).loc Cert.GlaSampleRefIdeal.main_arg3)
          ∧ r.2.mem ((c.tc : Thread Cert.GlaSampleRefIdeal.nD Cert.GlaSampleRefIdeal.τ).loc Cert.GlaSampleRefIdeal.main_arg4) = m' ((c.tc : Thread Cert.GlaSampleRefIdeal.nD Cert.GlaSampleRefIdeal.τ).loc Cert.GlaSampleRefIdeal.main_arg4)
          ∧ r.2.mem ((c.tc : Thread Cert.GlaSampleRefIdeal.nD Cert.GlaSampleRefIdeal.τ).loc Cert.GlaSampleRefIdeal.main_arg5) = m' ((c.tc : Thread Cert.GlaSampleRefIdeal.nD Cert.GlaSampleRefIdeal.τ).loc Cert.GlaSampleRefIdeal.main_arg5))

def Claim : Prop :=
  ∃ (hAttn : Cert.Attn.Facts) (hAttnIdeal : Cert.AttnIdeal.Facts) (hAttnRefIdeal : Cert.AttnRefIdeal.Facts) (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hMixerA : Cert.MixerA.Facts) (hMixerAIdeal : Cert.MixerAIdeal.Facts) (hMixerARefIdeal : Cert.MixerARefIdeal.Facts) (hConvSample : Cert.ConvSample.Facts) (hConvSampleIdeal : Cert.ConvSampleIdeal.Facts) (hConvSampleRefIdeal : Cert.ConvSampleRefIdeal.Facts) (hConvPrompt : Cert.ConvPrompt.Facts) (hConvPromptIdeal : Cert.ConvPromptIdeal.Facts) (hConvPromptRefIdeal : Cert.ConvPromptRefIdeal.Facts) (hQkv : Cert.Qkv.Facts) (hQkvIdeal : Cert.QkvIdeal.Facts) (hQkvRefIdeal : Cert.QkvRefIdeal.Facts) (hGlaSample : Cert.GlaSample.Facts) (hGlaSampleIdeal : Cert.GlaSampleIdeal.Facts) (hGlaSampleRefIdeal : Cert.GlaSampleRefIdeal.Facts) (hPre_attn_finite : Cert.Pre_attn_finite.Facts) (hPre_rope_halves : Cert.Pre_rope_halves.Facts),
    quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_MixerA (hMixerA := hMixerA)
    ∧ quiescent_MixerAIdeal (hMixerAIdeal := hMixerAIdeal)
    ∧ quiescent_MixerARefIdeal (hMixerARefIdeal := hMixerARefIdeal)
    ∧ quiescent_ConvSample (hConvSample := hConvSample)
    ∧ quiescent_ConvSampleIdeal (hConvSampleIdeal := hConvSampleIdeal)
    ∧ quiescent_ConvSampleRefIdeal (hConvSampleRefIdeal := hConvSampleRefIdeal)
    ∧ quiescent_ConvPrompt (hConvPrompt := hConvPrompt)
    ∧ quiescent_ConvPromptIdeal (hConvPromptIdeal := hConvPromptIdeal)
    ∧ quiescent_ConvPromptRefIdeal (hConvPromptRefIdeal := hConvPromptRefIdeal)
    ∧ quiescent_Qkv (hQkv := hQkv)
    ∧ quiescent_QkvIdeal (hQkvIdeal := hQkvIdeal)
    ∧ quiescent_QkvIdeal_pre_rope_halves (hQkvIdeal := hQkvIdeal) (hPre_rope_halves := hPre_rope_halves)
    ∧ quiescent_QkvRefIdeal (hQkvRefIdeal := hQkvRefIdeal)
    ∧ quiescent_QkvRefIdeal_pre_rope_halves (hQkvRefIdeal := hQkvRefIdeal) (hPre_rope_halves := hPre_rope_halves)
    ∧ quiescent_GlaSample (hGlaSample := hGlaSample)
    ∧ quiescent_GlaSampleIdeal (hGlaSampleIdeal := hGlaSampleIdeal)
    ∧ quiescent_GlaSampleRefIdeal (hGlaSampleRefIdeal := hGlaSampleRefIdeal)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_MixerA_MixerAIdeal
    ∧ algebraic_MixerAIdeal_MixerARefIdeal (hMixerAIdeal := hMixerAIdeal) (hMixerARefIdeal := hMixerARefIdeal)
    ∧ preserves_ConvSample_ConvSampleIdeal
    ∧ algebraic_ConvSampleIdeal_ConvSampleRefIdeal (hConvSampleIdeal := hConvSampleIdeal) (hConvSampleRefIdeal := hConvSampleRefIdeal)
    ∧ preserves_ConvPrompt_ConvPromptIdeal
    ∧ algebraic_ConvPromptIdeal_ConvPromptRefIdeal (hConvPromptIdeal := hConvPromptIdeal) (hConvPromptRefIdeal := hConvPromptRefIdeal)
    ∧ preserves_Qkv_QkvIdeal
    ∧ algebraic_QkvIdeal_QkvRefIdeal_pre_rope_halves (hQkvIdeal := hQkvIdeal) (hQkvRefIdeal := hQkvRefIdeal) (hPre_rope_halves := hPre_rope_halves)
    ∧ preserves_GlaSample_GlaSampleIdeal
    ∧ algebraic_GlaSampleIdeal_GlaSampleRefIdeal (hGlaSampleIdeal := hGlaSampleIdeal) (hGlaSampleRefIdeal := hGlaSampleRefIdeal)
-- ==== Pre_attn_finite.lean ====
abbrev S8x8320x256 : Shape := ⟨3, ![8, 8320, 256]⟩
abbrev S8x8320x128 : Shape := ⟨3, ![8, 8320, 128]⟩
abbrev S8320x256 : Shape := ⟨2, ![8320, 256]⟩
abbrev S8320x128 : Shape := ⟨2, ![8320, 128]⟩
abbrev S_ : Shape := ⟨0, ![]⟩

class Facts : Prop where
  bitsLt_bf16_f32 : FTy.bits .bf16 < FTy.bits .f32
  bcast_S_S8x8320x256 : S_.BroadcastsInDim S8x8320x256 (![] : Fin 0 → Fin S8x8320x256.rank)
  reducesTo_S8x8320x256_S_d0_1_2 : S8x8320x256.ReducesTo [0, 1, 2] S_
  h_S_ : 0 < S_.numel
  bcast_S_S8x8320x128 : S_.BroadcastsInDim S8x8320x128 (![] : Fin 0 → Fin S8x8320x128.rank)
  reducesTo_S8x8320x128_S_d0_1_2 : S8x8320x128.ReducesTo [0, 1, 2] S_
  bcast_S_S8320x256 : S_.BroadcastsInDim S8320x256 (![] : Fin 0 → Fin S8320x256.rank)
  reducesTo_S8320x256_S_d0_1 : S8320x256.ReducesTo [0, 1] S_
  bcast_S_S8320x128 : S_.BroadcastsInDim S8320x128 (![] : Fin 0 → Fin S8320x128.rank)
  reducesTo_S8320x128_S_d0_1 : S8320x128.ReducesTo [0, 1] S_

variable [Facts]

def fn_part1 {F : FTy → Type} [FloatOps F] (main_v16 : IVec S_ 1) (main_v17 : FVec F S8320x128 .f32) : IVec S_ 1 :=
  let main_v18 : FVec F S8320x128 .f32 := Host.absf main_v17
  let main_cst_4 : FVec F S_ .f32 := constant S_ .f32 0x7F800000#32
  let main_v19 : FVec F S8320x128 .f32 := broadcastInDim S8320x128 ![] bcast_S_S8320x128 main_cst_4
  let main_v20 : IVec S8320x128 1 := cmpf .olt main_v18 main_v19
  let main_c_5 : IVec S_ 1 := constantI S_ 1 1#1
  let main_v21 : IVec S_ 1 := (fun x v => Host.reduce IntOp.andi x v reducesTo_S8320x128_S_d0_1 h_S_) main_v20 main_c_5
  let main_v22 : IVec S_ 1 := andi main_v16 main_v21
  main_v22

def fn {F : FTy → Type} [FloatOps F] (main_arg0 : FVec F S8x8320x256 .bf16) (main_arg1 : FVec F S8x8320x128 .bf16) (main_arg2 : FVec F S8320x256 .bf16) (main_arg3 : FVec F S8320x128 .bf16) : IVec S_ 1 :=
  let main_v0 : FVec F S8x8320x256 .f32 := (extf .f32 · bitsLt_bf16_f32) main_arg0
  let main_v1 : FVec F S8x8320x256 .f32 := Host.absf main_v0
  let main_cst : FVec F S_ .f32 := constant S_ .f32 0x7F800000#32
  let main_v2 : FVec F S8x8320x256 .f32 := broadcastInDim S8x8320x256 ![] bcast_S_S8x8320x256 main_cst
  let main_v3 : IVec S8x8320x256 1 := cmpf .olt main_v1 main_v2
  let main_c : IVec S_ 1 := constantI S_ 1 1#1
  let main_v4 : IVec S_ 1 := (fun x v => Host.reduce IntOp.andi x v reducesTo_S8x8320x256_S_d0_1_2 h_S_) main_v3 main_c
  let main_v5 : FVec F S8x8320x128 .f32 := (extf .f32 · bitsLt_bf16_f32) main_arg1
  let main_v6 : FVec F S8x8320x128 .f32 := Host.absf main_v5
  let main_cst_0 : FVec F S_ .f32 := constant S_ .f32 0x7F800000#32
  let main_v7 : FVec F S8x8320x128 .f32 := broadcastInDim S8x8320x128 ![] bcast_S_S8x8320x128 main_cst_0
  let main_v8 : IVec S8x8320x128 1 := cmpf .olt main_v6 main_v7
  let main_c_1 : IVec S_ 1 := constantI S_ 1 1#1
  let main_v9 : IVec S_ 1 := (fun x v => Host.reduce IntOp.andi x v reducesTo_S8x8320x128_S_d0_1_2 h_S_) main_v8 main_c_1
  let main_v10 : IVec S_ 1 := andi main_v4 main_v9
  let main_v11 : FVec F S8320x256 .f32 := (extf .f32 · bitsLt_bf16_f32) main_arg2
  let main_v12 : FVec F S8320x256 .f32 := Host.absf main_v11
  let main_cst_2 : FVec F S_ .f32 := constant S_ .f32 0x7F800000#32
  let main_v13 : FVec F S8320x256 .f32 := broadcastInDim S8320x256 ![] bcast_S_S8320x256 main_cst_2
  let main_v14 : IVec S8320x256 1 := cmpf .olt main_v12 main_v13
  let main_c_3 : IVec S_ 1 := constantI S_ 1 1#1
  let main_v15 : IVec S_ 1 := (fun x v => Host.reduce IntOp.andi x v reducesTo_S8320x256_S_d0_1 h_S_) main_v14 main_c_3
  let main_v16 : IVec S_ 1 := andi main_v10 main_v15
  let main_v17 : FVec F S8320x128 .f32 := (extf .f32 · bitsLt_bf16_f32) main_arg3
  fn_part1 (F := F) main_v16 main_v17
-- ==== Pre_rope_halves.lean ====
abbrev S8320x24576 : Shape := ⟨2, ![8320, 24576]⟩
abbrev S8320x256 : Shape := ⟨2, ![8320, 256]⟩
abbrev S8320 : Shape := ⟨1, ![8320]⟩
abbrev S768 : Shape := ⟨1, ![768]⟩
abbrev S256 : Shape := ⟨1, ![256]⟩
abbrev S768x1536 : Shape := ⟨2, ![768, 1536]⟩
abbrev S256x8x128 : Shape := ⟨3, ![256, 8, 128]⟩
abbrev S8320x32 : Shape := ⟨2, ![8320, 32]⟩
abbrev S_ : Shape := ⟨0, ![]⟩

class Facts : Prop where
  slices_S8320x256_S8320x32_0_64 : S8320x256.Slices ![0, 64] S8320x32
  slices_S8320x256_S8320x32_0_32 : S8320x256.Slices ![0, 32] S8320x32
  reducesTo_S8320x32_S_d0_1 : S8320x32.ReducesTo [0, 1] S_
  h_S_ : 0 < S_.numel
  slices_S8320x256_S8320x32_0_96 : S8320x256.Slices ![0, 96] S8320x32
  slices_S8320x256_S8320x32_0_0 : S8320x256.Slices ![0, 0] S8320x32

variable [Facts]

def fn {F : FTy → Type} [FloatOps F] (main_arg0 : FVec F S8320x24576 .f32) (main_arg1 : FVec F S8320x256 .f32) (main_arg2 : IVec S8320 32) (main_arg3 : FVec F S768 .f32) (main_arg4 : FVec F S256 .f32) (main_arg5 : FVec F S768x1536 .f32) (main_arg6 : FVec F S256x8x128 .f32) : IVec S_ 1 :=
  let main_v0 : FVec F S8320x32 .f32 := (extractStridedSlice S8320x32 ![0, 64] · slices_S8320x256_S8320x32_0_64) main_arg1
  let main_v1 : FVec F S8320x32 .f32 := (extractStridedSlice S8320x32 ![0, 32] · slices_S8320x256_S8320x32_0_32) main_arg1
  let main_v2 : IVec S8320x32 1 := cmpf .oeq main_v0 main_v1
  let main_c : IVec S_ 1 := constantI S_ 1 1#1
  let main_v3 : IVec S_ 1 := (fun x v => Host.reduce IntOp.andi x v reducesTo_S8320x32_S_d0_1 h_S_) main_v2 main_c
  let main_v4 : FVec F S8320x32 .f32 := (extractStridedSlice S8320x32 ![0, 96] · slices_S8320x256_S8320x32_0_96) main_arg1
  let main_v5 : FVec F S8320x32 .f32 := (extractStridedSlice S8320x32 ![0, 0] · slices_S8320x256_S8320x32_0_0) main_arg1
  let main_v6 : IVec S8320x32 1 := cmpf .oeq main_v4 main_v5
  let main_c_0 : IVec S_ 1 := constantI S_ 1 1#1
  let main_v7 : IVec S_ 1 := (fun x v => Host.reduce IntOp.andi x v reducesTo_S8320x32_S_d0_1 h_S_) main_v6 main_c_0
  let main_v8 : IVec S_ 1 := andi main_v3 main_v7
  main_v8
-- ==== Attn.lean ====
abbrev S8x8320x256 : Shape := ⟨3, ![8, 8320, 256]⟩
abbrev S8x8320x128 : Shape := ⟨3, ![8, 8320, 128]⟩
abbrev S8320x256 : Shape := ⟨2, ![8320, 256]⟩
abbrev S8320x128 : Shape := ⟨2, ![8320, 128]⟩
abbrev S8x8192x256 : Shape := ⟨3, ![8, 8192, 256]⟩
abbrev S8x512x256 : Shape := ⟨3, ![8, 512, 256]⟩
abbrev S8x512x128 : Shape := ⟨3, ![8, 512, 128]⟩
abbrev S2048x256 : Shape := ⟨2, ![2048, 256]⟩
abbrev S2048x128 : Shape := ⟨2, ![2048, 128]⟩
abbrev S8x512x1 : Shape := ⟨3, ![8, 512, 1]⟩
abbrev S512x512 : Shape := ⟨2, ![512, 512]⟩
abbrev S512x256 : Shape := ⟨2, ![512, 256]⟩
abbrev S512x128 : Shape := ⟨2, ![512, 128]⟩
abbrev S1x512x256 : Shape := ⟨3, ![1, 512, 256]⟩
abbrev S1x512x128 : Shape := ⟨3, ![1, 512, 128]⟩
abbrev S1x512x1 : Shape := ⟨3, ![1, 512, 1]⟩
abbrev S512x1 : Shape := ⟨2, ![512, 1]⟩
abbrev S512 : Shape := ⟨1, ![512]⟩

abbrev nBuf : Space → Nat
  | .hbm => 5
  | .vmem => 13
  | .smem => 0
  | _ => 0

abbrev bufTy : (tb : Table) → Fin (tcTables nBuf tb) → BufTy
  | .hbm, ⟨0, _⟩ => ⟨S8x8320x256, .bf16⟩
  | .hbm, ⟨1, _⟩ => ⟨S8x8320x128, .bf16⟩
  | .hbm, ⟨2, _⟩ => ⟨S8320x256, .bf16⟩
  | .hbm, ⟨3, _⟩ => ⟨S8320x128, .bf16⟩
  | .hbm, ⟨4, _⟩ => ⟨S8x8192x256, .bf16⟩
  | .local _ .vmem, ⟨0, _⟩ => ⟨S8x512x256, .bf16⟩
  | .local _ .vmem, ⟨1, _⟩ => ⟨S8x512x256, .bf16⟩
  | .local _ .vmem, ⟨2, _⟩ => ⟨S8x512x128, .bf16⟩
  | .local _ .vmem, ⟨3, _⟩ => ⟨S8x512x128, .bf16⟩
  | .local _ .vmem, ⟨4, _⟩ => ⟨S2048x256, .bf16⟩
  | .local _ .vmem, ⟨5, _⟩ => ⟨S2048x256, .bf16⟩
  | .local _ .vmem, ⟨6, _⟩ => ⟨S2048x128, .bf16⟩
  | .local _ .vmem, ⟨7, _⟩ => ⟨S2048x128, .bf16⟩
  | .local _ .vmem, ⟨8, _⟩ => ⟨S8x512x256, .bf16⟩
  | .local _ .vmem, ⟨9, _⟩ => ⟨S8x512x256, .bf16⟩
  | .local _ .vmem, ⟨10, _⟩ => ⟨S8x512x1, .f32⟩
  | .local _ .vmem, ⟨11, _⟩ => ⟨S8x512x1, .f32⟩
  | .local _ .vmem, ⟨12, _⟩ => ⟨S8x512x256, .f32⟩
  | _, _ => ⟨S8x8320x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

@[reducible] def k0_t1_loop (i : grid0.Coords) : Scf.Loop 32 :=
  let c0_i32_10 : BitVec 32 := 0#32
  let arg1 : BitVec 32 := BitVec.ofNat 32 (i 1).val
  let c1_i32 : BitVec 32 := 1#32
  let v17 : BitVec 32 := Scalar.addi arg1 c1_i32
  let v18 : BitVec 32 := Scalar.subi v17 c0_i32_10
  let c1_i32_11 : BitVec 32 := 1#32
  let v20 : BitVec 32 := Scalar.divsi v18 c1_i32_11
  let v21 : BitVec 32 := Scalar.muli v20 c1_i32_11
  let v22 : BitVec 32 := Scalar.addi c0_i32_10 v21
  let c1_i32_12 : BitVec 32 := 1#32
  ⟨c0_i32_10, v22, c1_i32_12⟩
def k0_mult1 (i : grid0.Coords) (k0_t1 : Fin (k0_t1_loop i).trips) : BitVec 32 :=
  let c0_i32_10 : BitVec 32 := 0#32
  let c1_i32_12 : BitVec 32 := 1#32
  let arg10 : BitVec 32 := Scf.iv c0_i32_10 c1_i32_12 k0_t1
  let c512_i32_79 : BitVec 32 := 512#32
  let v103 : BitVec 32 := Scalar.muli arg10 c512_i32_79
  v103
def k0_off1 (i : grid0.Coords) (k0_t1 : Fin (k0_t1_loop i).trips) : Fin 2 → Nat :=
  let c0_i32_10 : BitVec 32 := 0#32
  let c1_i32_12 : BitVec 32 := 1#32
  let arg10 : BitVec 32 := Scf.iv c0_i32_10 c1_i32_12 k0_t1
  let c512_i32_79 : BitVec 32 := 512#32
  let v103 : BitVec 32 := Scalar.muli arg10 c512_i32_79
  let v104 : BitVec 32 := v103
  let v105 : Index := Scalar.indexCast v104
  let c0_80 : Index := 0#32
  ![v105.toNat, 0]
def k0_off2 (i : grid0.Coords) (k0_t1 : Fin (k0_t1_loop i).trips) : Fin 2 → Nat :=
  let c0_i32_10 : BitVec 32 := 0#32
  let c1_i32_12 : BitVec 32 := 1#32
  let arg10 : BitVec 32 := Scf.iv c0_i32_10 c1_i32_12 k0_t1
  let c512_i32_79 : BitVec 32 := 512#32
  let v103 : BitVec 32 := Scalar.muli arg10 c512_i32_79
  let v104 : BitVec 32 := v103
  let v107 : Index := Scalar.indexCast v104
  let c0_81 : Index := 0#32
  ![v107.toNat, 0]
@[reducible] def k0_t2_loop (i : grid0.Coords) : Scf.Loop 32 :=
  let c0_i32_10 : BitVec 32 := 0#32
  let arg1 : BitVec 32 := BitVec.ofNat 32 (i 1).val
  let c1_i32 : BitVec 32 := 1#32
  let v17 : BitVec 32 := Scalar.addi arg1 c1_i32
  let v18 : BitVec 32 := Scalar.subi v17 c0_i32_10
  let c1_i32_11 : BitVec 32 := 1#32
  let v20 : BitVec 32 := Scalar.divsi v18 c1_i32_11
  let v21 : BitVec 32 := Scalar.muli v20 c1_i32_11
  let v22 : BitVec 32 := Scalar.addi c0_i32_10 v21
  let v19 : BitVec 32 := Scalar.addi c0_i32_10 v18
  let c1_i32_13 : BitVec 32 := 1#32
  ⟨v22, v19, c1_i32_13⟩
def k0_mult2 (i : grid0.Coords) (k0_t2 : Fin (k0_t2_loop i).trips) : BitVec 32 :=
  let c0_i32_10 : BitVec 32 := 0#32
  let arg1 : BitVec 32 := BitVec.ofNat 32 (i 1).val
  let c1_i32 : BitVec 32 := 1#32
  let v17 : BitVec 32 := Scalar.addi arg1 c1_i32
  let v18 : BitVec 32 := Scalar.subi v17 c0_i32_10
  let c1_i32_11 : BitVec 32 := 1#32
  let v20 : BitVec 32 := Scalar.divsi v18 c1_i32_11
  let v21 : BitVec 32 := Scalar.muli v20 c1_i32_11
  let v22 : BitVec 32 := Scalar.addi c0_i32_10 v21
  let c1_i32_13 : BitVec 32 := 1#32
  let arg10 : BitVec 32 := Scf.iv v22 c1_i32_13 k0_t2
  let c512_i32_79 : BitVec 32 := 512#32
  let v103 : BitVec 32 := Scalar.muli arg10 c512_i32_79
  v103
def k0_off3 (i : grid0.Coords) (k0_t2 : Fin (k0_t2_loop i).trips) : Fin 2 → Nat :=
  let c0_i32_10 : BitVec 32 := 0#32
  let arg1 : BitVec 32 := BitVec.ofNat 32 (i 1).val
  let c1_i32 : BitVec 32 := 1#32
  let v17 : BitVec 32 := Scalar.addi arg1 c1_i32
  let v18 : BitVec 32 := Scalar.subi v17 c0_i32_10
  let c1_i32_11 : BitVec 32 := 1#32
  let v20 : BitVec 32 := Scalar.divsi v18 c1_i32_11
  let v21 : BitVec 32 := Scalar.muli v20 c1_i32_11
  let v22 : BitVec 32 := Scalar.addi c0_i32_10 v21
  let c1_i32_13 : BitVec 32 := 1#32
  let arg10 : BitVec 32 := Scf.iv v22 c1_i32_13 k0_t2
  let c512_i32_79 : BitVec 32 := 512#32
  let v103 : BitVec 32 := Scalar.muli arg10 c512_i32_79
  let v104 : BitVec 32 := v103
  let v105 : Index := Scalar.indexCast v104
  let c0_80 : Index := 0#32
  ![v105.toNat, 0]
def k0_off4 (i : grid0.Coords) (k0_t2 : Fin (k0_t2_loop i).trips) : Fin 2 → Nat :=
  let c0_i32_10 : BitVec 32 := 0#32
  let arg1 : BitVec 32 := BitVec.ofNat 32 (i 1).val
  let c1_i32 : BitVec 32 := 1#32
  let v17 : BitVec 32 := Scalar.addi arg1 c1_i32
  let v18 : BitVec 32 := Scalar.subi v17 c0_i32_10
  let c1_i32_11 : BitVec 32 := 1#32
  let v20 : BitVec 32 := Scalar.divsi v18 c1_i32_11
  let v21 : BitVec 32 := Scalar.muli v20 c1_i32_11
  let v22 : BitVec 32 := Scalar.addi c0_i32_10 v21
  let c1_i32_13 : BitVec 32 := 1#32
  let arg10 : BitVec 32 := Scf.iv v22 c1_i32_13 k0_t2
  let c512_i32_79 : BitVec 32 := 512#32
  let v103 : BitVec 32 := Scalar.muli arg10 c512_i32_79
  let v104 : BitVec 32 := v103
  let v107 : Index := Scalar.indexCast v104
  let c0_81 : Index := 0#32
  ![v107.toNat, 0]
def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

abbrev stage0_0 : Fin 2 → Memref sig .tc .vmem S8x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S8x8320x256 : Shape := ⟨3, ![8, 8320, 256]⟩
abbrev S8x8320x128 : Shape := ⟨3, ![8, 8320, 128]⟩
abbrev S8320x256 : Shape := ⟨2, ![8320, 256]⟩
abbrev S8320x128 : Shape := ⟨2, ![8320, 128]⟩
abbrev S8x8192x256 : Shape := ⟨3, ![8, 8192, 256]⟩
abbrev S8x4x2048x256 : Shape := ⟨4, ![8, 4, 2048, 256]⟩
abbrev S8x8192x128 : Shape := ⟨3, ![8, 8192, 128]⟩
abbrev S8x4x2048x128 : Shape := ⟨4, ![8, 4, 2048, 128]⟩
abbrev S8192x256 : Shape := ⟨2, ![8192, 256]⟩
abbrev S4x2048x256 : Shape := ⟨3, ![4, 2048, 256]⟩
abbrev S8192x128 : Shape := ⟨2, ![8192, 128]⟩
abbrev S4x2048x128 : Shape := ⟨3, ![4, 2048, 128]⟩
abbrev S2048 : Shape := ⟨1, ![2048]⟩
abbrev S4x8x2048x2048 : Shape := ⟨4, ![4, 8, 2048, 2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S4x8x2048 : Shape := ⟨3, ![4, 8, 2048]⟩
abbrev S4x8x2048x1 : Shape := ⟨4, ![4, 8, 2048, 1]⟩
abbrev S4x256x8x2048 : Shape := ⟨4, ![4, 256, 8, 2048]⟩

abbrev nBuf : Space → Nat
  | .hbm => 56
  | .vmem => 0
  | .smem => 0
  | _ => 0

abbrev bufTy : (tb : Table) → Fin (tcTables nBuf tb) → BufTy
  | .hbm, ⟨0, _⟩ => ⟨S8x8320x256, .bf16⟩
  | .hbm, ⟨1, _⟩ => ⟨S8x8320x128, .bf16⟩
  | .hbm, ⟨2, _⟩ => ⟨S8320x256, .bf16⟩
  | .hbm, ⟨3, _⟩ => ⟨S8320x128, .bf16⟩
  | .hbm, ⟨4, _⟩ => ⟨S8x8192x256, .bf16⟩
  | .hbm, ⟨5, _⟩ => ⟨S8x8192x256, .f32⟩
  | .hbm, ⟨6, _⟩ => ⟨S8x4x2048x256, .f32⟩
  | .hbm, ⟨7, _⟩ => ⟨S8x8192x128, .bf16⟩
  | .hbm, ⟨8, _⟩ => ⟨S8x8192x128, .f32⟩
  | .hbm, ⟨9, _⟩ => ⟨S8x4x2048x128, .f32⟩
  | .hbm, ⟨10, _⟩ => ⟨S8192x256, .bf16⟩
  | .hbm, ⟨11, _⟩ => ⟨S8192x256, .f32⟩
  | .hbm, ⟨12, _⟩ => ⟨S4x2048x256, .f32⟩
  | .hbm, ⟨13, _⟩ => ⟨S8192x128, .bf16⟩
  | .hbm, ⟨14, _⟩ => ⟨S8192x128, .f32⟩
  | .hbm, ⟨15, _⟩ => ⟨S4x2048x128, .f32⟩
  | .hbm, ⟨16, _⟩ => ⟨S2048, .i32⟩
  | .hbm, ⟨17, _⟩ => ⟨S4x8x2048x2048, .f32⟩
  | .hbm, ⟨18, _⟩ => ⟨S4x8x2048x2048, .bf16⟩
  | .hbm, ⟨19, _⟩ => ⟨S4x8x2048x2048, .f32⟩
  | .hbm, ⟨20, _⟩ => ⟨S4x8x2048x2048, .bf16⟩
  | .hbm, ⟨21, _⟩ => ⟨S4x8x2048x2048, .bf16⟩
  | .hbm, ⟨22, _⟩ => ⟨S1x2048, .i32⟩
  | .hbm, ⟨23, _⟩ => ⟨S2048x1, .i32⟩
  | .hbm, ⟨24, _⟩ => ⟨S2048x2048, .i32⟩
  | .hbm, ⟨25, _⟩ => ⟨S2048x2048, .i32⟩
  | .hbm, ⟨26, _⟩ => ⟨S2048x2048, .i1⟩
  | .hbm, ⟨27, _⟩ => ⟨S4x8x2048x2048, .f32⟩
  | .hbm, ⟨28, _⟩ => ⟨S_, .f32⟩
  | .hbm, ⟨29, _⟩ => ⟨S4x8x2048x2048, .f32⟩
  | .hbm, ⟨30, _⟩ => ⟨S4x8x2048x2048, .f32⟩
  | .hbm, ⟨31, _⟩ => ⟨S_, .f32⟩
  | .hbm, ⟨32, _⟩ => ⟨S_, .f32⟩
  | .hbm, ⟨33, _⟩ => ⟨S4x8x2048x2048, .i1⟩
  | .hbm, ⟨34, _⟩ => ⟨S4x8x2048x2048, .f32⟩
  | .hbm, ⟨35, _⟩ => ⟨S4x8x2048x2048, .f32⟩
  | .hbm, ⟨36, _⟩ => ⟨S_, .f32⟩
  | .hbm, ⟨37, _⟩ => ⟨S4x8x2048, .f32⟩
  | .hbm, ⟨38, _⟩ => ⟨S_, .f32⟩
  | .hbm, ⟨39, _⟩ => ⟨S4x8x2048, .f32⟩
  | .hbm, ⟨40, _⟩ => ⟨S4x8x2048, .f32⟩
  | .hbm, ⟨41, _⟩ => ⟨S4x8x2048x1, .f32⟩
  | .hbm, ⟨42, _⟩ => ⟨S4x8x2048x2048, .f32⟩
  | .hbm, ⟨43, _⟩ => ⟨S4x8x2048x2048, .f32⟩
  | .hbm, ⟨44, _⟩ => ⟨S4x8x2048x2048, .f32⟩
  | .hbm, ⟨45, _⟩ => ⟨S_, .f32⟩
  | .hbm, ⟨46, _⟩ => ⟨S4x8x2048, .f32⟩
  | .hbm, ⟨47, _⟩ => ⟨S4x8x2048x1, .f32⟩
  | .hbm, ⟨48, _⟩ => ⟨S4x8x2048x2048, .f32⟩
  | .hbm, ⟨49, _⟩ => ⟨S4x8x2048x2048, .f32⟩
  | .hbm, ⟨50, _⟩ => ⟨S4x8x2048x2048, .bf16⟩
  | .hbm, ⟨51, _⟩ => ⟨S4x8x2048x2048, .f32⟩
  | .hbm, ⟨52, _⟩ => ⟨S4x256x8x2048, .f32⟩
  | .hbm, ⟨53, _⟩ => ⟨S8x4x2048x256, .f32⟩
  | .hbm, ⟨54, _⟩ => ⟨S8x8192x256, .f32⟩
  | .hbm, ⟨55, _⟩ => ⟨S8x8192x256, .bf16⟩
  | _, _ => ⟨S8x8320x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst : Ref sig .tc := ⟨.hbm, 28, rfl⟩
abbrev main_v24 : Ref sig .tc := ⟨.hbm, 29, rfl⟩
abbrev main_v25 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v26 : Ref sig .tc := ⟨.hbm, 35, rfl⟩
abbrev main_cst_1 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩

abbrev nD : Nat := 1
abbrev τ : Topo := Topo.v7x

variable {F : FTy → Type} [FloatOps F]
-- ==== GateUp.lean ====
abbrev S8320x4096 : Shape := ⟨2, ![8320, 4096]⟩
abbrev S2x4096x22016 : Shape := ⟨3, ![2, 4096, 22016]⟩
abbrev S8320x11008 : Shape := ⟨2, ![8320, 11008]⟩
abbrev S2080x4096 : Shape := ⟨2, ![2080, 4096]⟩
abbrev S1x4096x256 : Shape := ⟨3, ![1, 4096, 256]⟩
abbrev S2080x256 : Shape := ⟨2, ![2080, 256]⟩
abbrev S4096x256 : Shape := ⟨2, ![4096, 256]⟩

abbrev nBuf : Space → Nat
  | .hbm => 3
  | .vmem => 7
  | .smem => 0
  | _ => 0

abbrev bufTy : (tb : Table) → Fin (tcTables nBuf tb) → BufTy
  | .hbm, ⟨0, _⟩ => ⟨S8320x4096, .bf16⟩
  | .hbm, ⟨1, _⟩ => ⟨S2x4096x22016, .f32⟩
  | .hbm, ⟨2, _⟩ => ⟨S8320x11008, .bf16⟩
  | .local _ .vmem, ⟨0, _⟩ => ⟨S2080x4096, .bf16⟩
  | .local _ .vmem, ⟨1, _⟩ => ⟨S1x4096x256, .f32⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S2080x256, .bf16⟩
  | .local _ .vmem, ⟨6, _⟩ => ⟨S2080x256, .bf16⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi arg1 c43_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2080x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2080x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GateUpRefIdeal.lean ====
abbrev S8320x4096 : Shape := ⟨2, ![8320, 4096]⟩
abbrev S2x4096x22016 : Shape := ⟨3, ![2, 4096, 22016]⟩
abbrev S1x4096x22016 : Shape := ⟨3, ![1, 4096, 22016]⟩
abbrev S4096x22016 : Shape := ⟨2, ![4096, 22016]⟩
abbrev S8320x22016 : Shape := ⟨2, ![8320, 22016]⟩
abbrev S8320x11008 : Shape := ⟨2, ![8320, 11008]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S2x4096x22016, .f32⟩
  | .hbm, ⟨2, _⟩ => ⟨S8320x4096, .f32⟩
  | .hbm, ⟨3, _⟩ => ⟨S1x4096x22016, .f32⟩
  | .hbm, ⟨4, _⟩ => ⟨S4096x22016, .f32⟩
  | .hbm, ⟨5, _⟩ => ⟨S8320x22016, .f32⟩
  | .hbm, ⟨6, _⟩ => ⟨S8320x11008, .f32⟩
  | .hbm, ⟨7, _⟩ => ⟨S8320x11008, .f32⟩
  | .hbm, ⟨8, _⟩ => ⟨S8320x11008, .f32⟩
  | .hbm, ⟨9, _⟩ => ⟨S8320x11008, .f32⟩
  | .hbm, ⟨10, _⟩ => ⟨S_, .f32⟩
  | .hbm, ⟨11, _⟩ => ⟨S8320x11008, .f32⟩
  | .hbm, ⟨12, _⟩ => ⟨S8320x11008, .f32⟩
  | .hbm, ⟨13, _⟩ => ⟨S_, .f32⟩
  | .hbm, ⟨14, _⟩ => ⟨S8320x11008, .f32⟩
  | .hbm, ⟨15, _⟩ => ⟨S8320x11008, .f32⟩
  | .hbm, ⟨16, _⟩ => ⟨S8320x11008, .f32⟩
  | .hbm, ⟨17, _⟩ => ⟨S8320x11008, .f32⟩
  | .hbm, ⟨18, _⟩ => ⟨S8320x11008, .bf16⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Down.lean ====
abbrev S8320x11008 : Shape := ⟨2, ![8320, 11008]⟩
abbrev S2x11008x4096 : Shape := ⟨3, ![2, 11008, 4096]⟩
abbrev S8320x4096 : Shape := ⟨2, ![8320, 4096]⟩
abbrev S832x11008 : Shape := ⟨2, ![832, 11008]⟩
abbrev S1x11008x256 : Shape := ⟨3, ![1, 11008, 256]⟩
abbrev S832x256 : Shape := ⟨2, ![832, 256]⟩
abbrev S11008x256 : Shape := ⟨2, ![11008, 256]⟩

abbrev nBuf : Space → Nat
  | .hbm => 3
  | .vmem => 5
  | .smem => 0
  | _ => 0

abbrev bufTy : (tb : Table) → Fin (tcTables nBuf tb) → BufTy
  | .hbm, ⟨0, _⟩ => ⟨S8320x11008, .bf16⟩
  | .hbm, ⟨1, _⟩ => ⟨S2x11008x4096, .f32⟩
  | .hbm, ⟨2, _⟩ => ⟨S8320x4096, .bf16⟩
  | .local _ .vmem, ⟨0, _⟩ => ⟨S832x11008, .bf16⟩
  | .local _ .vmem, ⟨1, _⟩ => ⟨S1x11008x256, .f32⟩
  | .local _ .vmem, ⟨2, _⟩ => ⟨S1x11008x256, .f32⟩
  | .local _ .vmem, ⟨3, _⟩ => ⟨S832x256, .bf16⟩
  | .local _ .vmem, ⟨4, _⟩ => ⟨S832x256, .bf16⟩
  | _, _ => ⟨S8320x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![10, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S832x11008 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x11008x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S832x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownRefIdeal.lean ====
abbrev S8320x11008 : Shape := ⟨2, ![8320, 11008]⟩
abbrev S2x11008x4096 : Shape := ⟨3, ![2, 11008, 4096]⟩
abbrev S1x11008x4096 : Shape := ⟨3, ![1, 11008, 4096]⟩
abbrev S11008x4096 : Shape := ⟨2, ![11008, 4096]⟩
abbrev S8320x4096 : Shape := ⟨2, ![8320, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8320x11008, .bf16⟩
  | .hbm, ⟨1, _⟩ => ⟨S2x11008x4096, .f32⟩
  | .hbm, ⟨2, _⟩ => ⟨S8320x11008, .f32⟩
  | .hbm, ⟨3, _⟩ => ⟨S1x11008x4096, .f32⟩
  | .hbm, ⟨4, _⟩ => ⟨S11008x4096, .f32⟩
  | .hbm, ⟨5, _⟩ => ⟨S8320x4096, .f32⟩
  | .hbm, ⟨6, _⟩ => ⟨S8320x4096, .bf16⟩
  | _, _ => ⟨S8320x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InProj.lean ====
abbrev S8320x4096 : Shape := ⟨2, ![8320, 4096]⟩
abbrev S2x4096x24656 : Shape := ⟨3, ![2, 4096, 24656]⟩
abbrev S2x24656x4096 : Shape := ⟨3, ![2, 24656, 4096]⟩
abbrev S8320x24576 : Shape := ⟨2, ![8320, 24576]⟩
abbrev S2080x4096 : Shape := ⟨2, ![2080, 4096]⟩
abbrev S1x512x4096 : Shape := ⟨3, ![1, 512, 4096]⟩
abbrev S2080x512 : Shape := ⟨2, ![2080, 512]⟩
abbrev S512x4096 : Shape := ⟨2, ![512, 4096]⟩

abbrev nBuf : Space → Nat
  | .hbm => 4
  | .vmem => 5
  | .smem => 0
  | _ => 0

abbrev bufTy : (tb : Table) → Fin (tcTables nBuf tb) → BufTy
  | .hbm, ⟨0, _⟩ => ⟨S8320x4096, .bf16⟩
  | .hbm, ⟨1, _⟩ => ⟨S2x4096x24656, .f32⟩
  | .hbm, ⟨2, _⟩ => ⟨S2x24656x4096, .f32⟩
  | .hbm, ⟨3, _⟩ => ⟨S8320x24576, .f32⟩
  | .local _ .vmem, ⟨0, _⟩ => ⟨S2080x4096, .bf16⟩
  | .local _ .vmem, ⟨1, _⟩ => ⟨S1x512x4096, .f32⟩
  | .local _ .vmem, ⟨2, _⟩ => ⟨S1x512x4096, .f32⟩
  | .local _ .vmem, ⟨3, _⟩ => ⟨S2080x512, .f32⟩
  | .local _ .vmem, ⟨4, _⟩ => ⟨S2080x512, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 48], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c64_i32 : BitVec 32 := 64#32
  let v1 : BitVec 32 := Scalar.muli arg1 c64_i32
  let c16_i32 : BitVec 32 := 16#32
  let v2 : BitVec 1 := Scalar.cmpi .slt arg1 c16_i32
  let c8_i32_0 : BitVec 32 := 8#32
  let v3 : BitVec 32 := Scalar.subi arg1 c8_i32_0
  let c64_i32_1 : BitVec 32 := 64#32
  let v4 : BitVec 32 := Scalar.muli v3 c64_i32_1
  let c514_i32 : BitVec 32 := 514#32
  let v5 : BitVec 32 := Scalar.addi c514_i32 v4
  let c16_i32_2 : BitVec 32 := 16#32
  let v6 : BitVec 32 := Scalar.subi arg1 c16_i32_2
  let c64_i32_3 : BitVec 32 := 64#32
  let v7 : BitVec 32 := Scalar.muli v6 c64_i32_3
  let c1034_i32 : BitVec 32 := 1034#32
  let v8 : BitVec 32 := Scalar.addi c1034_i32 v7
  let v9 : BitVec 32 := Scalar.select v2 v5 v8
  let v10 : BitVec 32 := Scalar.select v0 v1 v9
  let c8_i32_4 : BitVec 32 := 8#32
  let v11 : BitVec 32 := Scalar.muli c8_i32_4 v10
  let c0_i32 : BitVec 32 := 0#32
  let c0_i32_5 : BitVec 32 := 0#32
  let c0_i32_6 : BitVec 32 := 0#32
  ![c0_i32.toNat, v11.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2080x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2080x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S8320x4096 : Shape := ⟨2, ![8320, 4096]⟩
abbrev S2x4096x24656 : Shape := ⟨3, ![2, 4096, 24656]⟩
abbrev S1x4096x24656 : Shape := ⟨3, ![1, 4096, 24656]⟩
abbrev S4096x24656 : Shape := ⟨2, ![4096, 24656]⟩
abbrev S8320x24656 : Shape := ⟨2, ![8320, 24656]⟩
abbrev S8320x1024 : Shape := ⟨2, ![8320, 1024]⟩
abbrev S8320x512 : Shape := ⟨2, ![8320, 512]⟩
abbrev S8320x16 : Shape := ⟨2, ![8320, 16]⟩
abbrev S8320x768 : Shape := ⟨2, ![8320, 768]⟩
abbrev S8320x256 : Shape := ⟨2, ![8320, 256]⟩
abbrev S8320x64 : Shape := ⟨2, ![8320, 64]⟩
abbrev S8320x16384 : Shape := ⟨2, ![8320, 16384]⟩
abbrev S8320x24576 : Shape := ⟨2, ![8320, 24576]⟩

abbrev nBuf : Space → Nat
  | .hbm => 20
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S2x4096x24656, .f32⟩
  | .hbm, ⟨2, _⟩ => ⟨S8320x4096, .f32⟩
  | .hbm, ⟨3, _⟩ => ⟨S1x4096x24656, .f32⟩
  | .hbm, ⟨4, _⟩ => ⟨S4096x24656, .f32⟩
  | .hbm, ⟨5, _⟩ => ⟨S8320x24656, .f32⟩
  | .hbm, ⟨6, _⟩ => ⟨S8320x1024, .f32⟩
  | .hbm, ⟨7, _⟩ => ⟨S8320x1024, .f32⟩
  | .hbm, ⟨8, _⟩ => ⟨S8320x512, .f32⟩
  | .hbm, ⟨9, _⟩ => ⟨S8320x512, .f32⟩
  | .hbm, ⟨10, _⟩ => ⟨S8320x1024, .f32⟩
  | .hbm, ⟨11, _⟩ => ⟨S8320x16, .f32⟩
  | .hbm, ⟨12, _⟩ => ⟨S8320x1024, .f32⟩
  | .hbm, ⟨13, _⟩ => ⟨S8320x1024, .f32⟩
  | .hbm, ⟨14, _⟩ => ⟨S8320x1024, .f32⟩
  | .hbm, ⟨15, _⟩ => ⟨S8320x768, .f32⟩
  | .hbm, ⟨16, _⟩ => ⟨S8320x256, .f32⟩
  | .hbm, ⟨17, _⟩ => ⟨S8320x64, .f32⟩
  | .hbm, ⟨18, _⟩ => ⟨S8320x16384, .f32⟩
  | .hbm, ⟨19, _⟩ => ⟨S8320x24576, .f32⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩

abbrev nD : Nat := 1
abbrev τ : Topo := Topo.v7x

variable {F : FTy → Type} [FloatOps F]
-- ==== OutProj.lean ====
abbrev S8320x4096 : Shape := ⟨2, ![8320, 4096]⟩
abbrev S2x4096x4096 : Shape := ⟨3, ![2, 4096, 4096]⟩
abbrev S2080x4096 : Shape := ⟨2, ![2080, 4096]⟩
abbrev S1x4096x512 : Shape := ⟨3, ![1, 4096, 512]⟩
abbrev S2080x512 : Shape := ⟨2, ![2080, 512]⟩
abbrev S4096x512 : Shape := ⟨2, ![4096, 512]⟩

abbrev nBuf : Space → Nat
  | .hbm => 3
  | .vmem => 5
  | .smem => 0
  | _ => 0

abbrev bufTy : (tb : Table) → Fin (tcTables nBuf tb) → BufTy
  | .hbm, ⟨0, _⟩ => ⟨S8320x4096, .bf16⟩
  | .hbm, ⟨1, _⟩ => ⟨S2x4096x4096, .f32⟩
  | .hbm, ⟨2, _⟩ => ⟨S8320x4096, .bf16⟩
  | .local _ .vmem, ⟨0, _⟩ => ⟨S2080x4096, .bf16⟩
  | .local _ .vmem, ⟨1, _⟩ => ⟨S1x4096x512, .f32⟩
  | .local _ .vmem, ⟨2, _⟩ => ⟨S1x4096x512, .f32⟩
  | .local _ .vmem, ⟨3, _⟩ => ⟨S2080x512, .bf16⟩
  | .local _ .vmem, ⟨4, _⟩ => ⟨S2080x512, .bf16⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2080x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2080x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutProjRefIdeal.lean ====
abbrev S8320x4096 : Shape := ⟨2, ![8320, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S2x4096x4096, .f32⟩
  | .hbm, ⟨2, _⟩ => ⟨S8320x4096, .f32⟩
  | .hbm, ⟨3, _⟩ => ⟨S1x4096x4096, .f32⟩
  | .hbm, ⟨4, _⟩ => ⟨S4096x4096, .f32⟩
  | .hbm, ⟨5, _⟩ => ⟨S8320x4096, .f32⟩
  | .hbm, ⟨6, _⟩ => ⟨S8320x4096, .bf16⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== MixerA.lean ====
abbrev S8320x24576 : Shape := ⟨2, ![8320, 24576]⟩
abbrev S1024 : Shape := ⟨1, ![1024]⟩
abbrev S4x128x128 : Shape := ⟨3, ![4, 128, 128]⟩
abbrev S4x128 : Shape := ⟨2, ![4, 128]⟩
abbrev S_ : Shape := ⟨0, ![]⟩
abbrev S128x128 : Shape := ⟨2, ![128, 128]⟩
abbrev S4x1x1 : Shape := ⟨3, ![4, 1, 1]⟩
abbrev S1x128x128 : Shape := ⟨3, ![1, 128, 128]⟩
abbrev S1x4x128x128 : Shape := ⟨4, ![1, 4, 128, 128]⟩
abbrev S2x4x128x128 : Shape := ⟨4, ![2, 4, 128, 128]⟩
abbrev S4x1 : Shape := ⟨2, ![4, 1]⟩
abbrev S1x4x128 : Shape := ⟨3, ![1, 4, 128]⟩
abbrev S2x4x128 : Shape := ⟨3, ![2, 4, 128]⟩
abbrev S2x4x128x1 : Shape := ⟨4, ![2, 4, 128, 1]⟩
abbrev S1x1024 : Shape := ⟨2, ![1, 1024]⟩
abbrev S8320x1024 : Shape := ⟨2, ![8320, 1024]⟩
abbrev S128x1024 : Shape := ⟨2, ![128, 1024]⟩
abbrev S128x2048 : Shape := ⟨2, ![128, 2048]⟩
abbrev S1x4x128x1 : Shape := ⟨4, ![1, 4, 128, 1]⟩
abbrev S128 : Shape := ⟨1, ![128]⟩
abbrev S128x1 : Shape := ⟨2, ![128, 1]⟩
abbrev S1x1x128x128 : Shape := ⟨4, ![1, 1, 128, 128]⟩
abbrev S128x256 : Shape := ⟨2, ![128, 256]⟩
abbrev S1x1x128x1 : Shape := ⟨4, ![1, 1, 128, 1]⟩

abbrev nBuf : Space → Nat
  | .hbm => 47
  | .vmem => 11
  | .smem => 0
  | _ => 0

abbrev bufTy : (tb : Table) → Fin (tcTables nBuf tb) → BufTy
  | .hbm, ⟨0, _⟩ => ⟨S8320x24576, .f32⟩
  | .hbm, ⟨1, _⟩ => ⟨S1024, .f32⟩
  | .hbm, ⟨2, _⟩ => ⟨S1024, .f32⟩
  | .hbm, ⟨3, _⟩ => ⟨S4x128x128, .f32⟩
  | .hbm, ⟨4, _⟩ => ⟨S4x128, .f32⟩
  | .hbm, ⟨5, _⟩ => ⟨S_, .i1⟩
  | .hbm, ⟨6, _⟩ => ⟨S128x128, .i1⟩
  | .hbm, ⟨7, _⟩ => ⟨S128x128, .i32⟩
  | .hbm, ⟨8, _⟩ => ⟨S_, .i32⟩
  | .hbm, ⟨9, _⟩ => ⟨S128x128, .i32⟩
  | .hbm, ⟨10, _⟩ => ⟨S128x128, .i32⟩
  | .hbm, ⟨11, _⟩ => ⟨S128x128, .i32⟩
  | .hbm, ⟨12, _⟩ => ⟨S128x128, .i1⟩
  | .hbm, ⟨13, _⟩ => ⟨S_, .i1⟩
  | .hbm, ⟨14, _⟩ => ⟨S128x128, .i1⟩
  | .hbm, ⟨15, _⟩ => ⟨S128x128, .i1⟩
  | .hbm, ⟨16, _⟩ => ⟨S_, .f32⟩
  | .hbm, ⟨17, _⟩ => ⟨S_, .f32⟩
  | .hbm, ⟨18, _⟩ => ⟨S4x128x128, .i1⟩
  | .hbm, ⟨19, _⟩ => ⟨S4x128x128, .f32⟩
  | .hbm, ⟨20, _⟩ => ⟨S4x128x128, .f32⟩
  | .hbm, ⟨21, _⟩ => ⟨S4x1x1, .f32⟩
  | .hbm, ⟨22, _⟩ => ⟨S128x128, .i32⟩
  | .hbm, ⟨23, _⟩ => ⟨S128x128, .i32⟩
  | .hbm, ⟨24, _⟩ => ⟨S_, .i32⟩
  | .hbm, ⟨25, _⟩ => ⟨S128x128, .i32⟩
  | .hbm, ⟨26, _⟩ => ⟨S128x128, .i32⟩
  | .hbm, ⟨27, _⟩ => ⟨S128x128, .i1⟩
  | .hbm, ⟨28, _⟩ => ⟨S128x128, .f32⟩
  | .hbm, ⟨29, _⟩ => ⟨S1x128x128, .f32⟩
  | .hbm, ⟨30, _⟩ => ⟨S4x128x128, .f32⟩
  | .hbm, ⟨31, _⟩ => ⟨S4x128x128, .f32⟩
  | .hbm, ⟨32, _⟩ => ⟨S4x128x128, .f32⟩
  | .hbm, ⟨33, _⟩ => ⟨S1x4x128x128, .f32⟩
  | .hbm, ⟨34, _⟩ => ⟨S1x4x128x128, .f32⟩
  | .hbm, ⟨35, _⟩ => ⟨S2x4x128x128, .f32⟩
  | .hbm, ⟨36, _⟩ => ⟨S2x4x128x128, .bf16⟩
  | .hbm, ⟨37, _⟩ => ⟨S4x1, .f32⟩
  | .hbm, ⟨38, _⟩ => ⟨S4x128, .f32⟩
  | .hbm, ⟨39, _⟩ => ⟨S1x4x128, .f32⟩
  | .hbm, ⟨40, _⟩ => ⟨S1x4x128, .f32⟩
  | .hbm, ⟨41, _⟩ => ⟨S2x4x128, .f32⟩
  | .hbm, ⟨42, _⟩ => ⟨S2x4x128x1, .f32⟩
  | .hbm, ⟨43, _⟩ => ⟨S1x1024, .f32⟩
  | .hbm, ⟨44, _⟩ => ⟨S1x1024, .f32⟩
  | .hbm, ⟨45, _⟩ => ⟨S8320x1024, .bf16⟩
  | .hbm, ⟨46, _⟩ => ⟨S128x1024, .f32⟩
  | .local _ .vmem, ⟨0, _⟩ => ⟨S128x2048, .f32⟩
  | .local _ .vmem, ⟨1, _⟩ => ⟨S128x2048, .f32⟩
  | .local _ .vmem, ⟨2, _⟩ => ⟨S1x1024, .f32⟩
  | .local _ .vmem, ⟨3, _⟩ => ⟨S1x1024, .f32⟩
  | .local _ .vmem, ⟨4, _⟩ => ⟨S1x4x128x128, .bf16⟩
  | .local _ .vmem, ⟨5, _⟩ => ⟨S1x4x128x128, .bf16⟩
  | .local _ .vmem, ⟨6, _⟩ => ⟨S1x4x128x1, .f32⟩
  | .local _ .vmem, ⟨7, _⟩ => ⟨S1x4x128x1, .f32⟩
  | .local _ .vmem, ⟨8, _⟩ => ⟨S128x1024, .bf16⟩
  | .local _ .vmem, ⟨9, _⟩ => ⟨S128x1024, .bf16⟩
  | .local _ .vmem, ⟨10, _⟩ => ⟨S128x1024, .f32⟩
  | _, _ => ⟨S8320x24576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_call0_v0 : Ref sig .tc := ⟨.hbm, 7, rfl⟩
abbrev main_call0_c : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c_0 : Ref sig .tc := ⟨.hbm, 13, rfl⟩
abbrev main_call0_v5 : Ref sig .tc := ⟨.hbm, 14, rfl⟩
abbrev main_v1 : Ref sig .tc := ⟨.hbm, 15, rfl⟩
abbrev main_cst : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26_0 : Ref sig .tc := ⟨.hbm, 45, rfl⟩
abbrev main_v26_1 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_4 (i : grid0.Coords) : Fin 4 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x4x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== MixerARefIdeal.lean ====
abbrev S8320x24576 : Shape := ⟨2, ![8320, 24576]⟩
abbrev S1024 : Shape := ⟨1, ![1024]⟩
abbrev S4x128x128 : Shape := ⟨3, ![4, 128, 128]⟩
abbrev S4x128 : Shape := ⟨2, ![4, 128]⟩
abbrev S128x1024 : Shape := ⟨2, ![128, 1024]⟩
abbrev S_ : Shape := ⟨0, ![]⟩
abbrev S128 : Shape := ⟨1, ![128]⟩
abbrev S128x1 : Shape := ⟨2, ![128, 1]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8320x24576, .f32⟩
  | .hbm, ⟨1, _⟩ => ⟨S1024, .f32⟩
  | .hbm, ⟨2, _⟩ => ⟨S1024, .f32⟩
  | .hbm, ⟨3, _⟩ => ⟨S4x128x128, .f32⟩
  | .hbm, ⟨4, _⟩ => ⟨S4x128, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S_, .f32⟩
  | .hbm, ⟨9, _⟩ => ⟨S128x1024, .f32⟩
  | .hbm, ⟨10, _⟩ => ⟨S128x1024, .f32⟩
  | .hbm, ⟨11, _⟩ => ⟨S128x1024, .f32⟩
  | .hbm, ⟨12, _⟩ => ⟨S_, .f32⟩
  | .hbm, ⟨13, _⟩ => ⟨S128x1024, .f32⟩
  | .hbm, ⟨14, _⟩ => ⟨S128x1024, .f32⟩
  | .hbm, ⟨15, _⟩ => ⟨S128x1024, .f32⟩
  | .hbm, ⟨16, _⟩ => ⟨S_, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S_, .f32⟩
  | .hbm, ⟨24, _⟩ => ⟨S128, .f32⟩
  | .hbm, ⟨25, _⟩ => ⟨S128x1, .f32⟩
  | .hbm, ⟨26, _⟩ => ⟨S_, .f32⟩
  | .hbm, ⟨27, _⟩ => ⟨S128x1, .f32⟩
  | .hbm, ⟨28, _⟩ => ⟨S128x1, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128, .f32⟩
  | .hbm, ⟨34, _⟩ => ⟨S128x1, .f32⟩
  | .hbm, ⟨35, _⟩ => ⟨S_, .f32⟩
  | .hbm, ⟨36, _⟩ => ⟨S128x1, .f32⟩
  | .hbm, ⟨37, _⟩ => ⟨S128x1, .f32⟩
  | .hbm, ⟨38, _⟩ => ⟨S_, .f32⟩
  | .hbm, ⟨39, _⟩ => ⟨S128x1, .f32⟩
  | .hbm, ⟨40, _⟩ => ⟨S128x1, .f32⟩
  | .hbm, ⟨41, _⟩ => ⟨S128x1, .f32⟩
  | .hbm, ⟨42, _⟩ => ⟨S128x1024, .f32⟩
  | .hbm, ⟨43, _⟩ => ⟨S128x1024, .f32⟩
  | .hbm, ⟨44, _⟩ => ⟨S1x1024, .f32⟩
  | .hbm, ⟨45, _⟩ => ⟨S128x1024, .f32⟩
  | .hbm, ⟨46, _⟩ => ⟨S128x1024, .f32⟩
  | .hbm, ⟨47, _⟩ => ⟨S1x1024, .f32⟩
  | .hbm, ⟨48, _⟩ => ⟨S128x1024, .f32⟩
  | .hbm, ⟨49, _⟩ => ⟨S128x1024, .f32⟩
  | _, _ => ⟨S8320x24576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== ConvSample.lean ====
abbrev S8320x24576 : Shape := ⟨2, ![8320, 24576]⟩
abbrev S2x128x30x1024 : Shape := ⟨4, ![2, 128, 30, 1024]⟩
abbrev S31x1024 : Shape := ⟨2, ![31, 1024]⟩
abbrev S1024 : Shape := ⟨1, ![1024]⟩
abbrev S2x30x128x1024 : Shape := ⟨4, ![2, 30, 128, 1024]⟩
abbrev S1x1024 : Shape := ⟨2, ![1, 1024]⟩
abbrev S128x1024 : Shape := ⟨2, ![128, 1024]⟩
abbrev S30x128x1024 : Shape := ⟨3, ![30, 128, 1024]⟩
abbrev S32x1024 : Shape := ⟨2, ![32, 1024]⟩
abbrev S1x30x32x1024 : Shape := ⟨4, ![1, 30, 32, 1024]⟩
abbrev S30x32x1024 : Shape := ⟨3, ![30, 32, 1024]⟩
abbrev S1x1x32x1024 : Shape := ⟨4, ![1, 1, 32, 1024]⟩
abbrev S1x32x1024 : Shape := ⟨3, ![1, 32, 1024]⟩
abbrev S32 : Shape := ⟨1, ![32]⟩
abbrev S32x1 : Shape := ⟨2, ![32, 1]⟩

abbrev nBuf : Space → Nat
  | .hbm => 12
  | .vmem => 14
  | .smem => 0
  | _ => 0

abbrev bufTy : (tb : Table) → Fin (tcTables nBuf tb) → BufTy
  | .hbm, ⟨0, _⟩ => ⟨S8320x24576, .f32⟩
  | .hbm, ⟨1, _⟩ => ⟨S2x128x30x1024, .f32⟩
  | .hbm, ⟨2, _⟩ => ⟨S31x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S2x30x128x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S128x1024, .f32⟩
  | .hbm, ⟨11, _⟩ => ⟨S30x128x1024, .f32⟩
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S32x1024, .f32⟩
  | .local _ .vmem, ⟨4, _⟩ => ⟨S1x30x32x1024, .f32⟩
  | .local _ .vmem, ⟨5, _⟩ => ⟨S1x30x32x1024, .f32⟩
  | .local _ .vmem, ⟨6, _⟩ => ⟨S31x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S32x1024, .f32⟩
  | .local _ .vmem, ⟨11, _⟩ => ⟨S32x1024, .f32⟩
  | .local _ .vmem, ⟨12, _⟩ => ⟨S30x32x1024, .f32⟩
  | .local _ .vmem, ⟨13, _⟩ => ⟨S30x32x1024, .f32⟩
  | _, _ => ⟨S8320x24576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c256_i32 : BitVec 32 := 256#32
  let v0 : BitVec 32 := Scalar.addi c256_i32 arg0
  let c5_i32 : BitVec 32 := 5#32
  let c0_i32 : BitVec 32 := 0#32
  ![v0.toNat, c5_i32.toNat]

def cc0_transform_1 (i : grid0.Coords) : Fin 2 → Nat :=
  let arg0 : BitVec 32 := BitVec.ofNat 32 (i 0).val
  let c256_i32 : BitVec 32 := 256#32
  let v0 : BitVec 32 := Scalar.addi c256_i32 arg0
  let c6_i32 : BitVec 32 := 6#32
  let c0_i32 : BitVec 32 := 0#32
  ![v0.toNat, c6_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x30x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S31x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S30x32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ConvSampleRefIdeal.lean ====
abbrev S8320x24576 : Shape := ⟨2, ![8320, 24576]⟩
abbrev S2x128x30x1024 : Shape := ⟨4, ![2, 128, 30, 1024]⟩
abbrev S31x1024 : Shape := ⟨2, ![31, 1024]⟩
abbrev S1024 : Shape := ⟨1, ![1024]⟩
abbrev S128x1024 : Shape := ⟨2, ![128, 1024]⟩
abbrev S_ : Shape := ⟨0, ![]⟩
abbrev S1x128x30x1024 : Shape := ⟨4, ![1, 128, 30, 1024]⟩
abbrev S128x30x1024 : Shape := ⟨3, ![128, 30, 1024]⟩
abbrev S128x1x1024 : Shape := ⟨3, ![128, 1, 1024]⟩
abbrev S128x31x1024 : Shape := ⟨3, ![128, 31, 1024]⟩
abbrev S30x128x1024 : Shape := ⟨3, ![30, 128, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8320x24576, .f32⟩
  | .hbm, ⟨1, _⟩ => ⟨S2x128x30x1024, .f32⟩
  | .hbm, ⟨2, _⟩ => ⟨S31x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S_, .f32⟩
  | .hbm, ⟨14, _⟩ => ⟨S128x1024, .f32⟩
  | .hbm, ⟨15, _⟩ => ⟨S128x1024, .f32⟩
  | .hbm, ⟨16, _⟩ => ⟨S128x1024, .f32⟩
  | .hbm, ⟨17, _⟩ => ⟨S1x128x30x1024, .f32⟩
  | .hbm, ⟨18, _⟩ => ⟨S128x30x1024, .f32⟩
  | .hbm, ⟨19, _⟩ => ⟨S128x1x1024, .f32⟩
  | .hbm, ⟨20, _⟩ => ⟨S128x31x1024, .f32⟩
  | .hbm, ⟨21, _⟩ => ⟨S128x30x1024, .f32⟩
  | .hbm, ⟨22, _⟩ => ⟨S30x128x1024, .f32⟩
  | _, _ => ⟨S8320x24576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== ConvPrompt.lean ====
abbrev S8320x24576 : Shape := ⟨2, ![8320, 24576]⟩
abbrev S31x1024 : Shape := ⟨2, ![31, 1024]⟩
abbrev S1024 : Shape := ⟨1, ![1024]⟩
abbrev S1x1024 : Shape := ⟨2, ![1, 1024]⟩
abbrev S8192x1024 : Shape := ⟨2, ![8192, 1024]⟩
abbrev S4x32x1024 : Shape := ⟨3, ![4, 32, 1024]⟩
abbrev S256x1024 : Shape := ⟨2, ![256, 1024]⟩
abbrev S32x1024 : Shape := ⟨2, ![32, 1024]⟩
abbrev S1x32x1024 : Shape := ⟨3, ![1, 32, 1024]⟩
abbrev S288x1024 : Shape := ⟨2, ![288, 1024]⟩
abbrev S1x128 : Shape := ⟨2, ![1, 128]⟩
abbrev S256x128 : Shape := ⟨2, ![256, 128]⟩
abbrev S256 : Shape := ⟨1, ![256]⟩
abbrev S256x1 : Shape := ⟨2, ![256, 1]⟩

abbrev nBuf : Space → Nat
  | .hbm => 10
  | .vmem => 18
  | .smem => 0
  | _ => 0

abbrev bufTy : (tb : Table) → Fin (tcTables nBuf tb) → BufTy
  | .hbm, ⟨0, _⟩ => ⟨S8320x24576, .f32⟩
  | .hbm, ⟨1, _⟩ => ⟨S31x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S8192x1024, .bf16⟩
  | .hbm, ⟨9, _⟩ => ⟨S4x32x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S31x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S256x1024, .bf16⟩
  | .local _ .vmem, ⟨13, _⟩ => ⟨S256x1024, .bf16⟩
  | .local _ .vmem, ⟨14, _⟩ => ⟨S1x32x1024, .f32⟩
  | .local _ .vmem, ⟨15, _⟩ => ⟨S1x32x1024, .f32⟩
  | .local _ .vmem, ⟨16, _⟩ => ⟨S288x1024, .f32⟩
  | .local _ .vmem, ⟨17, _⟩ => ⟨S256x1024, .f32⟩
  | _, _ => ⟨S8320x24576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c5_i32 : BitVec 32 := 5#32
  let c0_i32 : BitVec 32 := 0#32
  ![v1.toNat, c5_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c6_i32 : BitVec 32 := 6#32
  let c0_i32 : BitVec 32 := 0#32
  ![v1.toNat, c6_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c8_i32_0 : BitVec 32 := 8#32
  let v2 : BitVec 32 := Scalar.muli v1 c8_i32_0
  let c1_i32 : BitVec 32 := 1#32
  let v3 : BitVec 32 := Scalar.subi v2 c1_i32
  let c0_i32 : BitVec 32 := 0#32
  let v4 : BitVec 32 := Scalar.maxsi v3 c0_i32
  let c5_i32 : BitVec 32 := 5#32
  let c0_i32_1 : BitVec 32 := 0#32
  ![v4.toNat, c5_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c8_i32_0 : BitVec 32 := 8#32
  let v2 : BitVec 32 := Scalar.muli v1 c8_i32_0
  let c1_i32 : BitVec 32 := 1#32
  let v3 : BitVec 32 := Scalar.subi v2 c1_i32
  let c0_i32 : BitVec 32 := 0#32
  let v4 : BitVec 32 := Scalar.maxsi v3 c0_i32
  let c6_i32 : BitVec 32 := 6#32
  let c0_i32_1 : BitVec 32 := 0#32
  ![v4.toNat, c6_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S31x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x32x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ConvPromptRefIdeal.lean ====
abbrev S8320x24576 : Shape := ⟨2, ![8320, 24576]⟩
abbrev S31x1024 : Shape := ⟨2, ![31, 1024]⟩
abbrev S1024 : Shape := ⟨1, ![1024]⟩
abbrev S8192x1024 : Shape := ⟨2, ![8192, 1024]⟩
abbrev S_ : Shape := ⟨0, ![]⟩
abbrev S4x2048x1024 : Shape := ⟨3, ![4, 2048, 1024]⟩
abbrev S4x30x1024 : Shape := ⟨3, ![4, 30, 1024]⟩
abbrev S4x2078x1024 : Shape := ⟨3, ![4, 2078, 1024]⟩
abbrev S4x32x1024 : Shape := ⟨3, ![4, 32, 1024]⟩

abbrev nBuf : Space → Nat
  | .hbm => 21
  | .vmem => 0
  | .smem => 0
  | _ => 0

abbrev bufTy : (tb : Table) → Fin (tcTables nBuf tb) → BufTy
  | .hbm, ⟨0, _⟩ => ⟨S8320x24576, .f32⟩
  | .hbm, ⟨1, _⟩ => ⟨S31x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S4x2048x1024, .f32⟩
  | .hbm, ⟨17, _⟩ => ⟨S_, .f32⟩
  | .hbm, ⟨18, _⟩ => ⟨S4x30x1024, .f32⟩
  | .hbm, ⟨19, _⟩ => ⟨S4x2078x1024, .f32⟩
  | .hbm, ⟨20, _⟩ => ⟨S4x32x1024, .f32⟩
  | _, _ => ⟨S8320x24576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]
-- ==== Qkv.lean ====
abbrev S8320x24576 : Shape := ⟨2, ![8320, 24576]⟩
abbrev S8320x256 : Shape := ⟨2, ![8320, 256]⟩
abbrev S8320 : Shape := ⟨1, ![8320]⟩
abbrev S768 : Shape := ⟨1, ![768]⟩
abbrev S256 : Shape := ⟨1, ![256]⟩
abbrev S768x1536 : Shape := ⟨2, ![768, 1536]⟩
abbrev S256x8x128 : Shape := ⟨3, ![256, 8, 128]⟩
abbrev S32 : Shape := ⟨1, ![32]⟩
abbrev S_ : Shape := ⟨0, ![]⟩
abbrev S8320x1 : Shape := ⟨2, ![8320, 1]⟩
abbrev S1x32 : Shape := ⟨2, ![1, 32]⟩
abbrev S8320x32 : Shape := ⟨2, ![8320, 32]⟩
abbrev S8320x64 : Shape := ⟨2, ![8320, 64]⟩
abbrev S8320x128 : Shape := ⟨2, ![8320, 128]⟩
abbrev S768x8x192 : Shape := ⟨3, ![768, 8, 192]⟩
abbrev S768x8x128 : Shape := ⟨3, ![768, 8, 128]⟩
abbrev S768x1024 : Shape := ⟨2, ![768, 1024]⟩
abbrev S768x8x64 : Shape := ⟨3, ![768, 8, 64]⟩
abbrev S768x8x32 : Shape := ⟨3, ![768, 8, 32]⟩
abbrev S8x128x256 : Shape := ⟨3, ![8, 128, 256]⟩
abbrev S1x768 : Shape := ⟨2, ![1, 768]⟩
abbrev S1x256 : Shape := ⟨2, ![1, 256]⟩
abbrev S8x8320x256 : Shape := ⟨3, ![8, 8320, 256]⟩
abbrev S8x8320x128 : Shape := ⟨3, ![8, 8320, 128]⟩
abbrev S416x1024 : Shape := ⟨2, ![416, 1024]⟩
abbrev S416x256 : Shape := ⟨2, ![416, 256]⟩
abbrev S416x128 : Shape := ⟨2, ![416, 128]⟩
abbrev S8x416x256 : Shape := ⟨3, ![8, 416, 256]⟩
abbrev S8x416x128 : Shape := ⟨3, ![8, 416, 128]⟩
abbrev S416x768 : Shape := ⟨2, ![416, 768]⟩
abbrev S416 : Shape := ⟨1, ![416]⟩
abbrev S416x1 : Shape := ⟨2, ![416, 1]⟩
abbrev S1x128x256 : Shape := ⟨3, ![1, 128, 256]⟩
abbrev S128x256 : Shape := ⟨2, ![128, 256]⟩
abbrev S1x416x256 : Shape := ⟨3, ![1, 416, 256]⟩
abbrev S1x416x128 : Shape := ⟨3, ![1, 416, 128]⟩

abbrev nBuf : Space → Nat
  | .hbm => 53
  | .vmem => 26
  | .smem => 0
  | _ => 0

abbrev bufTy : (tb : Table) → Fin (tcTables nBuf tb) → BufTy
  | .hbm, ⟨0, _⟩ => ⟨S8320x24576, .f32⟩
  | .hbm, ⟨1, _⟩ => ⟨S8320x256, .f32⟩
  | .hbm, ⟨2, _⟩ => ⟨S8320, .i32⟩
  | .hbm, ⟨3, _⟩ => ⟨S768, .f32⟩
  | .hbm, ⟨4, _⟩ => ⟨S256, .f32⟩
  | .hbm, ⟨5, _⟩ => ⟨S768x1536, .f32⟩
  | .hbm, ⟨6, _⟩ => ⟨S256x8x128, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S8320, .f32⟩
  | .hbm, ⟨16, _⟩ => ⟨S8320x1, .f32⟩
  | .hbm, ⟨17, _⟩ => ⟨S1x32, .f32⟩
  | .hbm, ⟨18, _⟩ => ⟨S8320x32, .f32⟩
  | .hbm, ⟨19, _⟩ => ⟨S8320x32, .f32⟩
  | .hbm, ⟨20, _⟩ => ⟨S8320x32, .f32⟩
  | .hbm, ⟨21, _⟩ => ⟨S8320x32, .f32⟩
  | .hbm, ⟨22, _⟩ => ⟨S8320x32, .f32⟩
  | .hbm, ⟨23, _⟩ => ⟨S_, .f32⟩
  | .hbm, ⟨24, _⟩ => ⟨S8320x64, .f32⟩
  | .hbm, ⟨25, _⟩ => ⟨S8320x128, .f32⟩
  | .hbm, ⟨26, _⟩ => ⟨S8320x32, .f32⟩
  | .hbm, ⟨27, _⟩ => ⟨S8320x128, .f32⟩
  | .hbm, ⟨28, _⟩ => ⟨S768x8x192, .f32⟩
  | .hbm, ⟨29, _⟩ => ⟨S768x8x128, .f32⟩
  | .hbm, ⟨30, _⟩ => ⟨S768x1024, .f32⟩
  | .hbm, ⟨31, _⟩ => ⟨S768x1024, .bf16⟩
  | .hbm, ⟨32, _⟩ => ⟨S768x8x64, .f32⟩
  | .hbm, ⟨33, _⟩ => ⟨S_, .f32⟩
  | .hbm, ⟨34, _⟩ => ⟨S768x8x64, .f32⟩
  | .hbm, ⟨35, _⟩ => ⟨S768x8x128, .f32⟩
  | .hbm, ⟨36, _⟩ => ⟨S768x1024, .f32⟩
  | .hbm, ⟨37, _⟩ => ⟨S768x1024, .bf16⟩
  | .hbm, ⟨38, _⟩ => ⟨S768x8x32, .f32⟩
  | .hbm, ⟨39, _⟩ => ⟨S768x8x32, .f32⟩
  | .hbm, ⟨40, _⟩ => ⟨S768x8x128, .f32⟩
  | .hbm, ⟨41, _⟩ => ⟨S768x1024, .f32⟩
  | .hbm, ⟨42, _⟩ => ⟨S768x1024, .bf16⟩
  | .hbm, ⟨43, _⟩ => ⟨S8x128x256, .f32⟩
  | .hbm, ⟨44, _⟩ => ⟨S8x128x256, .bf16⟩
  | .hbm, ⟨45, _⟩ => ⟨S1x768, .f32⟩
  | .hbm, ⟨46, _⟩ => ⟨S1x256, .f32⟩
  | .hbm, ⟨47, _⟩ => ⟨S8320x256, .f32⟩
  | .hbm, ⟨48, _⟩ => ⟨S8320x128, .f32⟩
  | .hbm, ⟨49, _⟩ => ⟨S8320x256, .bf16⟩
  | .hbm, ⟨50, _⟩ => ⟨S8320x128, .bf16⟩
  | .hbm, ⟨51, _⟩ => ⟨S8x8320x256, .bf16⟩
  | .hbm, ⟨52, _⟩ => ⟨S8x8320x128, .bf16⟩
  | .local _ .vmem, ⟨0, _⟩ => ⟨S416x1024, .f32⟩
  | .local _ .vmem, ⟨1, _⟩ => ⟨S416x1024, .f32⟩
  | .local _ .vmem, ⟨2, _⟩ => ⟨S416x256, .f32⟩
  | .local _ .vmem, ⟨3, _⟩ => ⟨S416x256, .f32⟩
  | .local _ .vmem, ⟨4, _⟩ => ⟨S416x128, .f32⟩
  | .local _ .vmem, ⟨5, _⟩ => ⟨S416x128, .f32⟩
  | .local _ .vmem, ⟨6, _⟩ => ⟨S416x128, .f32⟩
  | .local _ .vmem, ⟨7, _⟩ => ⟨S416x128, .f32⟩
  | .local _ .vmem, ⟨8, _⟩ => ⟨S1x768, .f32⟩
  | .local _ .vmem, ⟨9, _⟩ => ⟨S1x256, .f32⟩
  | .local _ .vmem, ⟨10, _⟩ => ⟨S768x1024, .bf16⟩
  | .local _ .vmem, ⟨11, _⟩ => ⟨S768x1024, .bf16⟩
  | .local _ .vmem, ⟨12, _⟩ => ⟨S768x1024, .bf16⟩
  | .local _ .vmem, ⟨13, _⟩ => ⟨S8x128x256, .bf16⟩
  | .local _ .vmem, ⟨14, _⟩ => ⟨S416x256, .f32⟩
  | .local _ .vmem, ⟨15, _⟩ => ⟨S416x256, .f32⟩
  | .local _ .vmem, ⟨16, _⟩ => ⟨S416x128, .f32⟩
  | .local _ .vmem, ⟨17, _⟩ => ⟨S416x128, .f32⟩
  | .local _ .vmem, ⟨18, _⟩ => ⟨S416x256, .bf16⟩
  | .local _ .vmem, ⟨19, _⟩ => ⟨S416x256, .bf16⟩
  | .local _ .vmem, ⟨20, _⟩ => ⟨S416x128, .bf16⟩
  | .local _ .vmem, ⟨21, _⟩ => ⟨S416x128, .bf16⟩
  | .local _ .vmem, ⟨22, _⟩ => ⟨S8x416x256, .bf16⟩
  | .local _ .vmem, ⟨23, _⟩ => ⟨S8x416x256, .bf16⟩
  | .local _ .vmem, ⟨24, _⟩ => ⟨S8x416x128, .bf16⟩
  | .local _ .vmem, ⟨25, _⟩ => ⟨S8x416x128, .bf16⟩
  | _, _ => ⟨S8320x24576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36_0 : Ref sig .tc := ⟨.hbm, 47, rfl⟩
abbrev main_v36_1 : Ref sig .tc := ⟨.hbm, 48, rfl⟩
abbrev main_v36_2 : Ref sig .tc := ⟨.hbm, 49, rfl⟩
abbrev main_v36_3 : Ref sig .tc := ⟨.hbm, 50, rfl⟩
abbrev main_v36_4 : Ref sig .tc := ⟨.hbm, 51, rfl⟩
abbrev main_v36_5 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S416x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S416x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S416x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S416x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S768x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S768x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S416x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S416x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S416x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S416x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x416x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x416x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== QkvRefIdeal.lean ====
abbrev S8320x24576 : Shape := ⟨2, ![8320, 24576]⟩
abbrev S8320x256 : Shape := ⟨2, ![8320, 256]⟩
abbrev S8320 : Shape := ⟨1, ![8320]⟩
abbrev S768 : Shape := ⟨1, ![768]⟩
abbrev S256 : Shape := ⟨1, ![256]⟩
abbrev S768x1536 : Shape := ⟨2, ![768, 1536]⟩
abbrev S256x8x128 : Shape := ⟨3, ![256, 8, 128]⟩
abbrev S_ : Shape := ⟨0, ![]⟩
abbrev S8320x1 : Shape := ⟨2, ![8320, 1]⟩
abbrev S1x256 : Shape := ⟨2, ![1, 256]⟩
abbrev S8320x64 : Shape := ⟨2, ![8320, 64]⟩
abbrev S32 : Shape := ⟨1, ![32]⟩
abbrev S1x32 : Shape := ⟨2, ![1, 32]⟩
abbrev S8320x32 : Shape := ⟨2, ![8320, 32]⟩
abbrev S8320x128 : Shape := ⟨2, ![8320, 128]⟩

abbrev nBuf : Space → Nat
  | .hbm => 55
  | .vmem => 0
  | .smem => 0
  | _ => 0

abbrev bufTy : (tb : Table) → Fin (tcTables nBuf tb) → BufTy
  | .hbm, ⟨0, _⟩ => ⟨S8320x24576, .f32⟩
  | .hbm, ⟨1, _⟩ => ⟨S8320x256, .f32⟩
  | .hbm, ⟨2, _⟩ => ⟨S8320, .i32⟩
  | .hbm, ⟨3, _⟩ => ⟨S768, .f32⟩
  | .hbm, ⟨4, _⟩ => ⟨S256, .f32⟩
  | .hbm, ⟨5, _⟩ => ⟨S768x1536, .f32⟩
  | .hbm, ⟨6, _⟩ => ⟨S256x8x128, .f32⟩
  | .hbm, ⟨7, _⟩ => ⟨S8320x256, .f32⟩
  | .hbm, ⟨8, _⟩ => ⟨S8320x256, .f32⟩
  | .hbm, ⟨9, _⟩ => ⟨S_, .f32⟩
  | .hbm, ⟨10, _⟩ => ⟨S8320, .f32⟩
  | .hbm, ⟨11, _⟩ => ⟨S8320x1, .f32⟩
  | .hbm, ⟨12, _⟩ => ⟨S_, .f32⟩
  | .hbm, ⟨13, _⟩ => ⟨S8320x1, .f32⟩
  | .hbm, ⟨14, _⟩ => ⟨S8320x1, .f32⟩
  | .hbm, ⟨15, _⟩ => ⟨S_, .f32⟩
  | .hbm, ⟨16, _⟩ => ⟨S8320x1, .f32⟩
  | .hbm, ⟨17, _⟩ => ⟨S8320x1, .f32⟩
  | .hbm, ⟨18, _⟩ => ⟨S8320x1, .f32⟩
  | .hbm, ⟨19, _⟩ => ⟨S8320x256, .f32⟩
  | .hbm, ⟨20, _⟩ => ⟨S8320x256, .f32⟩
  | .hbm, ⟨21, _⟩ => ⟨S1x256, .f32⟩
  | .hbm, ⟨22, _⟩ => ⟨S8320x256, .f32⟩
  | .hbm, ⟨23, _⟩ => ⟨S8320x256, .f32⟩
  | .hbm, ⟨24, _⟩ => ⟨S8320x64, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S_, .f32⟩
  | .hbm, ⟨31, _⟩ => ⟨S32, .f32⟩
  | .hbm, ⟨32, _⟩ => ⟨S32, .f32⟩
  | .hbm, ⟨33, _⟩ => ⟨S8320, .f32⟩
  | .hbm, ⟨34, _⟩ => ⟨S8320x1, .f32⟩
  | .hbm, ⟨35, _⟩ => ⟨S1x32, .f32⟩
  | .hbm, ⟨36, _⟩ => ⟨S8320x32, .f32⟩
  | .hbm, ⟨37, _⟩ => ⟨S8320x32, .f32⟩
  | .hbm, ⟨38, _⟩ => ⟨S8320x32, .f32⟩
  | .hbm, ⟨39, _⟩ => ⟨S8320x32, .f32⟩
  | .hbm, ⟨40, _⟩ => ⟨S8320x32, .f32⟩
  | .hbm, ⟨41, _⟩ => ⟨S8320x32, .f32⟩
  | .hbm, ⟨42, _⟩ => ⟨S8320x32, .f32⟩
  | .hbm, ⟨43, _⟩ => ⟨S8320x32, .f32⟩
  | .hbm, ⟨44, _⟩ => ⟨S8320x32, .f32⟩
  | .hbm, ⟨45, _⟩ => ⟨S8320x32, .f32⟩
  | .hbm, ⟨46, _⟩ => ⟨S8320x32, .f32⟩
  | .hbm, ⟨47, _⟩ => ⟨S8320x32, .f32⟩
  | .hbm, ⟨48, _⟩ => ⟨S8320x32, .f32⟩
  | .hbm, ⟨49, _⟩ => ⟨S8320x64, .f32⟩
  | .hbm, ⟨50, _⟩ => ⟨S_, .f32⟩
  | .hbm, ⟨51, _⟩ => ⟨S8320x64, .f32⟩
  | .hbm, ⟨52, _⟩ => ⟨S8320x128, .f32⟩
  | .hbm, ⟨53, _⟩ => ⟨S8320x256, .bf16⟩
  | .hbm, ⟨54, _⟩ => ⟨S8320x128, .bf16⟩
  | _, _ => ⟨S8320x24576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== GlaSample.lean ====
abbrev S8320x24576 : Shape := ⟨2, ![8320, 24576]⟩
abbrev S8320x256 : Shape := ⟨2, ![8320, 256]⟩
abbrev S16x512 : Shape := ⟨2, ![16, 512]⟩
abbrev S512 : Shape := ⟨1, ![512]⟩
abbrev S1024 : Shape := ⟨1, ![1024]⟩
abbrev S2x128x4x128x256 : Shape := ⟨5, ![2, 128, 4, 128, 256]⟩
abbrev S_ : Shape := ⟨0, ![]⟩
abbrev S256x512 : Shape := ⟨2, ![256, 512]⟩
abbrev S1 : Shape := ⟨1, ![1]⟩
abbrev S1x512 : Shape := ⟨2, ![1, 512]⟩
abbrev S1x1024 : Shape := ⟨2, ![1, 1024]⟩
abbrev S128x1024 : Shape := ⟨2, ![128, 1024]⟩
abbrev S128x4x128x256 : Shape := ⟨4, ![128, 4, 128, 256]⟩
abbrev S8x512 : Shape := ⟨2, ![8, 512]⟩
abbrev S8x1024 : Shape := ⟨2, ![8, 1024]⟩
abbrev S8x256 : Shape := ⟨2, ![8, 256]⟩
abbrev S1x8x4x128x256 : Shape := ⟨5, ![1, 8, 4, 128, 256]⟩
abbrev S8x4x128x256 : Shape := ⟨4, ![8, 4, 128, 256]⟩
abbrev S128x128 : Shape := ⟨2, ![128, 128]⟩
abbrev S128x256 : Shape := ⟨2, ![128, 256]⟩
abbrev S1x128 : Shape := ⟨2, ![1, 128]⟩
abbrev S1x256 : Shape := ⟨2, ![1, 256]⟩
abbrev S1x1 : Shape := ⟨2, ![1, 1]⟩
abbrev S1x1x1x128x256 : Shape := ⟨5, ![1, 1, 1, 128, 256]⟩
abbrev S8x128 : Shape := ⟨2, ![8, 128]⟩
abbrev S1x1x128x256 : Shape := ⟨4, ![1, 1, 128, 256]⟩

abbrev nBuf : Space → Nat
  | .hbm => 16
  | .vmem => 19
  | .smem => 0
  | _ => 0

abbrev bufTy : (tb : Table) → Fin (tcTables nBuf tb) → BufTy
  | .hbm, ⟨0, _⟩ => ⟨S8320x24576, .f32⟩
  | .hbm, ⟨1, _⟩ => ⟨S8320x256, .f32⟩
  | .hbm, ⟨2, _⟩ => ⟨S16x512, .f32⟩
  | .hbm, ⟨3, _⟩ => ⟨S512, .f32⟩
  | .hbm, ⟨4, _⟩ => ⟨S1024, .f32⟩
  | .hbm, ⟨5, _⟩ => ⟨S2x128x4x128x256, .f32⟩
  | .hbm, ⟨6, _⟩ => ⟨S_, .f32⟩
  | .hbm, ⟨7, _⟩ => ⟨S256x512, .f32⟩
  | .hbm, ⟨8, _⟩ => ⟨S_, .i32⟩
  | .hbm, ⟨9, _⟩ => ⟨S1, .i32⟩
  | .hbm, ⟨10, _⟩ => ⟨S256x512, .f32⟩
  | .hbm, ⟨11, _⟩ => ⟨S256x512, .bf16⟩
  | .hbm, ⟨12, _⟩ => ⟨S1x512, .f32⟩
  | .hbm, ⟨13, _⟩ => ⟨S1x1024, .f32⟩
  | .hbm, ⟨14, _⟩ => ⟨S128x1024, .f32⟩
  | .hbm, ⟨15, _⟩ => ⟨S128x4x128x256, .f32⟩
  | .local _ .vmem, ⟨0, _⟩ => ⟨S8x512, .f32⟩
  | .local _ .vmem, ⟨1, _⟩ => ⟨S8x512, .f32⟩
  | .local _ .vmem, ⟨2, _⟩ => ⟨S8x512, .f32⟩
  | .local _ .vmem, ⟨3, _⟩ => ⟨S8x512, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x256, .f32⟩
  | .local _ .vmem, ⟨9, _⟩ => ⟨S8x256, .f32⟩
  | .local _ .vmem, ⟨10, _⟩ => ⟨S256x512, .bf16⟩
  | .local _ .vmem, ⟨11, _⟩ => ⟨S1x512, .f32⟩
  | .local _ .vmem, ⟨12, _⟩ => ⟨S1x1024, .f32⟩
  | .local _ .vmem, ⟨13, _⟩ => ⟨S1x8x4x128x256, .f32⟩
  | .local _ .vmem, ⟨14, _⟩ => ⟨S1x8x4x128x256, .f32⟩
  | .local _ .vmem, ⟨15, _⟩ => ⟨S8x1024, .f32⟩
  | .local _ .vmem, ⟨16, _⟩ => ⟨S8x1024, .f32⟩
  | .local _ .vmem, ⟨17, _⟩ => ⟨S8x4x128x256, .f32⟩
  | .local _ .vmem, ⟨18, _⟩ => ⟨S8x4x128x256, .f32⟩
  | _, _ => ⟨S8320x24576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1024_i32 : BitVec 32 := 1024#32
  let v0 : BitVec 32 := Scalar.addi c1024_i32 arg0
  let c4_i32 : BitVec 32 := 4#32
  let c0_i32 : BitVec 32 := 0#32
  ![v0.toNat, c4_i32.toNat]

def cc0_transform_1 (i : grid0.Coords) : Fin 2 → Nat :=
  let arg0 : BitVec 32 := BitVec.ofNat 32 (i 0).val
  let c1024_i32 : BitVec 32 := 1024#32
  let v0 : BitVec 32 := Scalar.addi c1024_i32 arg0
  let c5_i32 : BitVec 32 := 5#32
  let c0_i32 : BitVec 32 := 0#32
  ![v0.toNat, c5_i32.toNat]

def cc0_transform_2 (i : grid0.Coords) : Fin 2 → Nat :=
  let arg0 : BitVec 32 := BitVec.ofNat 32 (i 0).val
  let c1024_i32 : BitVec 32 := 1024#32
  let v0 : BitVec 32 := Scalar.addi c1024_i32 arg0
  let c3_i32 : BitVec 32 := 3#32
  let c0_i32 : BitVec 32 := 0#32
  ![v0.toNat, c3_i32.toNat]

def cc0_transform_3 (i : grid0.Coords) : Fin 2 → Nat :=
  let arg0 : BitVec 32 := BitVec.ofNat 32 (i 0).val
  let c1024_i32 : BitVec 32 := 1024#32
  let v0 : BitVec 32 := Scalar.addi c1024_i32 arg0
  let c4_i32 : BitVec 32 := 4#32
  let c0_i32 : BitVec 32 := 0#32
  ![v0.toNat, c4_i32.toNat]

def cc0_transform_4 (i : grid0.Coords) : Fin 2 → Nat :=
  let arg0 : BitVec 32 := BitVec.ofNat 32 (i 0).val
  let c1024_i32 : BitVec 32 := 1024#32
  let v0 : BitVec 32 := Scalar.addi c1024_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x8x4x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x4x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== GlaSampleRefIdeal.lean ====
abbrev S8320x24576 : Shape := ⟨2, ![8320, 24576]⟩
abbrev S8320x256 : Shape := ⟨2, ![8320, 256]⟩
abbrev S16x512 : Shape := ⟨2, ![16, 512]⟩
abbrev S512 : Shape := ⟨1, ![512]⟩
abbrev S1024 : Shape := ⟨1, ![1024]⟩
abbrev S2x128x4x128x256 : Shape := ⟨5, ![2, 128, 4, 128, 256]⟩
abbrev S128x512 : Shape := ⟨2, ![128, 512]⟩
abbrev S128x4x128 : Shape := ⟨3, ![128, 4, 128]⟩
abbrev S128x1024 : Shape := ⟨2, ![128, 1024]⟩
abbrev S128x4x256 : Shape := ⟨3, ![128, 4, 256]⟩
abbrev S128x16 : Shape := ⟨2, ![128, 16]⟩
abbrev S1x512 : Shape := ⟨2, ![1, 512]⟩
abbrev S_ : Shape := ⟨0, ![]⟩
abbrev S128x4x128x1 : Shape := ⟨4, ![128, 4, 128, 1]⟩
abbrev S1x128x4x128x256 : Shape := ⟨5, ![1, 128, 4, 128, 256]⟩
abbrev S128x4x128x256 : Shape := ⟨4, ![128, 4, 128, 256]⟩
abbrev S128x4x1x256 : Shape := ⟨4, ![128, 4, 1, 256]⟩

abbrev nBuf : Space → Nat
  | .hbm => 47
  | .vmem => 0
  | .smem => 0
  | _ => 0

abbrev bufTy : (tb : Table) → Fin (tcTables nBuf tb) → BufTy
  | .hbm, ⟨0, _⟩ => ⟨S8320x24576, .f32⟩
  | .hbm, ⟨1, _⟩ => ⟨S8320x256, .f32⟩
  | .hbm, ⟨2, _⟩ => ⟨S16x512, .f32⟩
  | .hbm, ⟨3, _⟩ => ⟨S512, .f32⟩
  | .hbm, ⟨4, _⟩ => ⟨S1024, .f32⟩
  | .hbm, ⟨5, _⟩ => ⟨S2x128x4x128x256, .f32⟩
  | .hbm, ⟨6, _⟩ => ⟨S128x512, .f32⟩
  | .hbm, ⟨7, _⟩ => ⟨S128x4x128, .f32⟩
  | .hbm, ⟨8, _⟩ => ⟨S128x1024, .f32⟩
  | .hbm, ⟨9, _⟩ => ⟨S128x4x256, .f32⟩
  | .hbm, ⟨10, _⟩ => ⟨S128x16, .f32⟩
  | .hbm, ⟨11, _⟩ => ⟨S128x512, .f32⟩
  | .hbm, ⟨12, _⟩ => ⟨S1x512, .f32⟩
  | .hbm, ⟨13, _⟩ => ⟨S128x512, .f32⟩
  | .hbm, ⟨14, _⟩ => ⟨S128x512, .f32⟩
  | .hbm, ⟨15, _⟩ => ⟨S128x512, .f32⟩
  | .hbm, ⟨16, _⟩ => ⟨S_, .f32⟩
  | .hbm, ⟨17, _⟩ => ⟨S128x512, .f32⟩
  | .hbm, ⟨18, _⟩ => ⟨S128x512, .f32⟩
  | .hbm, ⟨19, _⟩ => ⟨S128x512, .f32⟩
  | .hbm, ⟨20, _⟩ => ⟨S128x512, .f32⟩
  | .hbm, ⟨21, _⟩ => ⟨S128x512, .i1⟩
  | .hbm, ⟨22, _⟩ => ⟨S128x512, .f32⟩
  | .hbm, ⟨23, _⟩ => ⟨S128x512, .f32⟩
  | .hbm, ⟨24, _⟩ => ⟨S128x512, .f32⟩
  | .hbm, ⟨25, _⟩ => ⟨S128x512, .f32⟩
  | .hbm, ⟨26, _⟩ => ⟨S128x512, .f32⟩
  | .hbm, ⟨27, _⟩ => ⟨S128x512, .f32⟩
  | .hbm, ⟨28, _⟩ => ⟨S128x512, .f32⟩
  | .hbm, ⟨29, _⟩ => ⟨S128x512, .f32⟩
  | .hbm, ⟨30, _⟩ => ⟨S128x512, .f32⟩
  | .hbm, ⟨31, _⟩ => ⟨S_, .f32⟩
  | .hbm, ⟨32, _⟩ => ⟨S128x512, .f32⟩
  | .hbm, ⟨33, _⟩ => ⟨S128x512, .f32⟩
  | .hbm, ⟨34, _⟩ => ⟨S128x4x128, .f32⟩
  | .hbm, ⟨35, _⟩ => ⟨S128x4x128, .f32⟩
  | .hbm, ⟨36, _⟩ => ⟨S128x4x128x1, .f32⟩
  | .hbm, ⟨37, _⟩ => ⟨S1x128x4x128x256, .f32⟩
  | .hbm, ⟨38, _⟩ => ⟨S128x4x128x256, .f32⟩
  | .hbm, ⟨39, _⟩ => ⟨S128x4x128x256, .f32⟩
  | .hbm, ⟨40, _⟩ => ⟨S128x4x128x256, .f32⟩
  | .hbm, ⟨41, _⟩ => ⟨S128x4x128x1, .f32⟩
  | .hbm, ⟨42, _⟩ => ⟨S128x4x1x256, .f32⟩
  | .hbm, ⟨43, _⟩ => ⟨S128x4x128x256, .f32⟩
  | .hbm, ⟨44, _⟩ => ⟨S128x4x128x256, .f32⟩
  | .hbm, ⟨45, _⟩ => ⟨S128x4x128x256, .f32⟩
  | .hbm, ⟨46, _⟩ => ⟨S128x4x128x256, .f32⟩
  | _, _ => ⟨S8320x24576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_v0 : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_v1 : Ref sig .tc := ⟨.hbm, 29, rfl⟩
abbrev main_v9 : Ref sig .tc := ⟨.hbm, 30, rfl⟩
abbrev main_cst : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩

abbrev nD : Nat := 1
abbrev τ : Topo := Topo.v7x

variable {F : FTy → Type} [FloatOps F]
-- ==== Proof.Online.lean ====
/-
  THE RUNNING SOFTMAX of one query: keys arrive in blocks of 512, and the running maximum, sum and
  accumulator after a block are those of all keys so far. At the end the quotient of accumulator and sum is
  the softmax-weighted sum of the values, whatever real number the weights were shifted by.
-/
module
public import Idealize.ShloMosaic.Lib.Pointwise
@[expose] public section
noncomputable section
namespace Cert.Attn1
open Idealize.ShloMosaic

/-- The scale: `192 ^ (-1/2)` rounded to f32. -/
def sc : ℝ := 9686330 * (2 ^ 27)⁻¹

theorem sc_bits : Ideal.ofBits .f32 0x3D93CD3A#32 = (sc : EReal) := by
  unfold sc
  rw [EReal.coe_mul]
  simp [Ideal.ofBits, Ideal.ieee]
  try rfl

/-- The pattern a maximum starts from is minus infinity. -/
theorem negInf : Ideal.ofBits .f32 0xFF800000#32 = (⊥ : EReal) := by
  simp [Ideal.ofBits, Ideal.ieee]

/-- The weight of key `n` for a query at position `q`, scores `x` shifted by `μ`: later keys weigh nothing. -/
def wt (x : ℕ → ℝ) (q : ℕ) (μ : ℝ) (n : ℕ) : ℝ := if n ≤ q then Real.exp (x n - μ) else 0

/-- What the running maximum, sum and accumulator are once the first `N` keys were seen. -/
def Seen {D : Type} (x : ℕ → ℝ) (v : ℕ → D → ℝ) (q N : ℕ) (m l : EReal) (a : D → EReal) : Prop :=
  ∃ μ : ℝ, m = μ ∧ l = ((∑ n ∈ Finset.range N, wt x q μ n : ℝ) : EReal) ∧
    ∀ d, a d = ((∑ n ∈ Finset.range N, wt x q μ n * v n d : ℝ) : EReal)

theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A key's masked score. -/
def masked (x : ℕ → ℝ) (q n : ℕ) : EReal := if n ≤ q then (x n : EReal) else ⊥

variable {D : Type} {x : ℕ → ℝ} {v : ℕ → D → ℝ} {q : ℕ}

theorem masked_lt_top (n : ℕ) : masked x q n < ⊤ := by
  unfold masked
  split_ifs
  · exact EReal.coe_lt_top _
  · exact bot_lt_top

/-- The exponential of a masked score less a real number is the key's weight. -/
theorem exp_masked (μ : ℝ) (n : ℕ) : Ideal.exp (masked x q n - μ) = (wt x q μ n : EReal) := by
  unfold masked wt
  split_ifs
  · rw [← EReal.coe_sub, Ideal.exp_coe]
  · rw [EReal.bot_sub, Ideal.exp_bot, EReal.coe_zero]

/-- The maximum of masked scores is a real number, if one of them or what it starts from is. -/
theorem max_real {n : ℕ} (N : ℕ) (m : EReal) (hm : m ≠ ⊤) (h : m ≠ ⊥ ∨ ∃ c : Fin n, N + c.val ≤ q) :
    ∃ μ : ℝ, max m (Finset.univ.fold max (⊥ : EReal) fun c : Fin n => masked x q (N + c.val)) = μ := by
  have htop : max m (Finset.univ.fold max (⊥ : EReal) fun c : Fin n => masked x q (N + c.val)) ≠ ⊤ := by
    refine ne_of_lt (max_lt (lt_top_iff_ne_top.mpr hm) ?_)
    exact (Finset.fold_max_lt _).mpr ⟨bot_lt_top, fun c _ => masked_lt_top _⟩
  have hbot : max m (Finset.univ.fold max (⊥ : EReal) fun c : Fin n => masked x q (N + c.val)) ≠ ⊥ := by
    rcases h with h | ⟨c, hc⟩
    · exact ne_of_gt (lt_of_lt_of_le (bot_lt_iff_ne_bot.mpr h) (le_max_left _ _))
    · refine ne_of_gt (lt_of_lt_of_le (b := masked x q (N + c.val)) ?_ (le_trans ?_ (le_max_right _ _)))
      · rw [masked, if_pos hc]; exact EReal.bot_lt_coe _
      · exact (Finset.le_fold_max _).mpr (.inr ⟨c, Finset.mem_univ _, le_rfl⟩)
  exact ⟨_, (EReal.coe_toReal htop hbot).symm⟩

/-- Another shift rescales every weight alike. -/
theorem wt_shift (μ ν : ℝ) (n : ℕ) : Real.exp (μ - ν) * wt x q μ n = wt x q ν n := by
  unfold wt
  split_ifs
  · rw [← Real.exp_add]; congr 1; ring
  · exact mul_zero _

theorem sum_range_block (N B : ℕ) (f : ℕ → ℝ) :
    ∑ n ∈ Finset.range (N + B), f n = ∑ n ∈ Finset.range N, f n + ∑ c : Fin B, f (N + c.val) := by
  rw [Finset.sum_range_add, Finset.sum_range (fun c => f (N + c))]

/-- One block of keys, after earlier ones. -/
theorem Seen.step {N B : ℕ} {m l m' l' : EReal} {a a' : D → EReal} (h : Seen x v q N m l a)
    (hm : m' = max m (Finset.univ.fold max (⊥ : EReal) fun c : Fin B => masked x q (N + c.val)))
    (hl : l' = Ideal.exp (m - m') * l + ∑ c : Fin B, Ideal.exp (masked x q (N + c.val) - m'))
    (ha : ∀ d, a' d = Ideal.exp (m - m') * a d + ∑ c : Fin B, Ideal.exp (masked x q (N + c.val) - m') * (v (N + c.val) d : EReal)) :
    Seen x v q (N + B) m' l' a' := by
  obtain ⟨μ, rfl, rfl, hA⟩ := h
  obtain ⟨ν, hν⟩ := max_real (x := x) (q := q) (n := B) N (μ : EReal) (EReal.coe_ne_top _) (.inl (EReal.coe_ne_bot _))
  rw [hν] at hm
  subst hm
  refine ⟨ν, rfl, ?_, fun d => ?_⟩
  · rw [hl, ← EReal.coe_sub, Ideal.exp_coe, ← EReal.coe_mul, Finset.mul_sum, sum_range_block, EReal.coe_add, coe_sum Finset.univ]
    simp only [wt_shift, exp_masked]
  · rw [ha, hA, ← EReal.coe_sub, Ideal.exp_coe, ← EReal.coe_mul, Finset.mul_sum, sum_range_block, EReal.coe_add, coe_sum Finset.univ]
    simp only [← mul_assoc, wt_shift, exp_masked, EReal.coe_mul]

/-- The first block of keys. -/
theorem Seen.first {B : ℕ} (hB : 0 < B) {m' l' : EReal} {a' : D → EReal}
    (hm : m' = max ⊥ (Finset.univ.fold max (⊥ : EReal) fun c : Fin B => masked x q (0 + c.val)))
    (hl : l' = Ideal.exp (⊥ - m') * 0 + ∑ c : Fin B, Ideal.exp (masked x q (0 + c.val) - m'))
    (ha : ∀ d, a' d = Ideal.exp (⊥ - m') * 0 + ∑ c : Fin B, Ideal.exp (masked x q (0 + c.val) - m') * (v (0 + c.val) d : EReal)) :
    Seen x v q (0 + B) m' l' a' := by
  obtain ⟨ν, hν⟩ := max_real (x := x) (q := q) (n := B) 0 ⊥ bot_ne_top (.inr ⟨⟨0, hB⟩, Nat.zero_le _⟩)
  rw [hν] at hm
  subst hm
  refine ⟨ν, rfl, ?_, fun d => ?_⟩
  · rw [hl, mul_zero, zero_add, sum_range_block, Finset.range_zero, Finset.sum_empty, zero_add, coe_sum Finset.univ]
    simp only [exp_masked]
  · rw [ha, mul_zero, zero_add, sum_range_block, Finset.range_zero, Finset.sum_empty, zero_add, coe_sum Finset.univ]
    simp only [exp_masked, EReal.coe_mul]

/-- Keys after the query add nothing. -/
theorem sum_wt_cut {N T : ℕ} (hN : q < N) (hT : N ≤ T) (μ : ℝ) (f : ℕ → ℝ) :
    ∑ n ∈ Finset.range N, wt x q μ n * f n = ∑ n ∈ Finset.range T, wt x q μ n * f n := by
  refine Finset.sum_subset (Finset.range_mono hT) fun n _ hn => ?_
  have : ¬ n ≤ q := by have := Finset.mem_range.not.mp hn; omega
  rw [wt, if_neg this, zero_mul]

theorem sum_wt_pos {T : ℕ} (hT : 0 < T) (μ : ℝ) : 0 < ∑ n ∈ Finset.range T, wt x q μ n := by
  refine Finset.sum_pos' (fun n _ => ?_) ⟨0, Finset.mem_range.mpr hT, ?_⟩
  · unfold wt; split_ifs
    · exact (Real.exp_pos _).le
    · exact le_rfl
  · rw [wt, if_pos (Nat.zero_le _)]; exact Real.exp_pos _

/-- The quotient at the end is the softmax-weighted sum over all `T` keys. -/
theorem Seen.quotient {N T : ℕ} {m l : EReal} {a : D → EReal} (h : Seen x v q N m l a) (hN : q < N) (hT : N ≤ T) (d : D) :
    Ideal.div (a d) l = ∑ n : Fin T, Ideal.div
        (Ideal.exp (masked x q n.val - max ⊥ (Finset.univ.fold max (⊥ : EReal) fun c : Fin T => masked x q c.val)))
        (∑ j : Fin T, Ideal.exp (masked x q j.val - max ⊥ (Finset.univ.fold max (⊥ : EReal) fun c : Fin T => masked x q c.val)))
      * (v n.val d : EReal) := by
  obtain ⟨μ, -, rfl, hA⟩ := h
  have hT0 : 0 < T := by omega
  obtain ⟨ν, hν⟩ := max_real (x := x) (q := q) (n := T) 0 ⊥ bot_ne_top (.inr ⟨⟨0, hT0⟩, Nat.zero_le _⟩)
  simp only [zero_add] at hν
  have h1 := sum_wt_cut (x := x) hN hT μ (fun _ => 1)
  simp only [mul_one] at h1
  have hp := sum_wt_pos (x := x) (q := q) hT0 μ
  have hq := sum_wt_pos (x := x) (q := q) hT0 ν
  rw [hA, hν, sum_wt_cut hN hT, h1]
  simp only [exp_masked]
  rw [← coe_sum, ← Finset.sum_range (fun n => wt x q ν n), Ideal.div_coe hp.ne', one_div]
  simp only [Ideal.div_coe hq.ne', one_div, ← EReal.coe_mul]
  rw [← coe_sum, ← Finset.sum_range (fun n => wt x q ν n * (∑ j ∈ Finset.range T, wt x q ν j)⁻¹ * v n d)]
  congr 1
  have hs : ∀ f : ℕ → ℝ, ∑ n ∈ Finset.range T, wt x q ν n * f n = Real.exp (μ - ν) * ∑ n ∈ Finset.range T, wt x q μ n * f n := fun f => by
    rw [Finset.mul_sum]; simp only [← mul_assoc, wt_shift]
  have hs1 := hs (fun _ => 1)
  simp only [mul_one] at hs1
  have he := (Real.exp_pos (μ - ν)).ne'
  have hmv : ∀ n, wt x q ν n * (∑ j ∈ Finset.range T, wt x q ν j)⁻¹ * v n d = (∑ j ∈ Finset.range T, wt x q ν j)⁻¹ * (wt x q ν n * v n d) := fun n => by ring
  simp only [hmv]
  rw [← Finset.mul_sum, hs, hs1]
  field_simp

end Cert.Attn1
end
-- ==== Proof.Head.lean ====
/-
  ONE HEAD OF ONE TRIP of the prompt attention's loop over key blocks, as functions of the blocks it
  reads: the key rows `K` (also the values), the rotary key rows `R`, the causal mask, the head's query
  rows `q` and rotary query rows `qr`, and the head's running maximum `m`, sum `l` and accumulator `a`.
  Each function is then read at an index.
-/
module
public import proofs.«01_k».proof.Proof.Gen.AttnIdeal.Loops
public import proofs.«01_k».proof.Proof.Online
@[expose] public section
noncomputable section
namespace Cert.Attn1
open Cert.AttnIdeal Cert.AttnIdeal.Gen Idealize.ShloMosaic

variable (K : FVec Ideal S512x256 .bf16) (R : FVec Ideal S512x128 .bf16) (mask : IVec S512x512 1)
  (q : FVec Ideal S1x512x256 .bf16) (qr : FVec Ideal S1x512x128 .bf16)
  (m l : FVec Ideal S1x512x1 .f32) (a : FVec Ideal S1x512x256 .f32)

/-- The block's scaled scores, hidden keys at the mask's value. -/
def scores : FVec Ideal S512x512 .f32 :=
  select mask
    (mulf (addf (matmul dot_S512x256_S512x256_S512x512_1_1_0_0_n_n none (shapeCast S512x256 q shapeCasts_S1x512x256_S512x256) K
          (constant S512x512 .f32 0x00000000#32))
        (matmul dot_S512x128_S512x128_S512x512_1_1_0_0_n_n none (shapeCast S512x128 qr shapeCasts_S1x512x128_S512x128) R
          (constant S512x512 .f32 0x00000000#32)))
      (broadcast S512x512 (Scalar.ofBits .f32 0x3D93CD3A#32)))
    (broadcast S512x512 (Named.named κ "mask" 0xF149F2CA#32))

/-- The new running maximum. -/
def maxNew : FVec Ideal S512x1 .f32 :=
  maximumf (shapeCast S512x1 m shapeCasts_S1x512x1_S512x1)
    (shapeCast S512x1 (multiReduction .maximumf [1] S512 (scores K R mask q qr) 0xFF800000#32 reduces_S512x512_S512 (.inl rfl) rfl)
      shapeCasts_S512_S512x1)

/-- The factor that rescales what earlier trips left. -/
def alpha : FVec Ideal S512x1 .f32 :=
  exp (subf (shapeCast S512x1 m shapeCasts_S1x512x1_S512x1) (maxNew K R mask q qr m))

/-- The block's unnormalised weights. -/
def weights : FVec Ideal S512x512 .f32 :=
  exp (subf (scores K R mask q qr) (broadcastTo S512x512 (maxNew K R mask q qr m) broadcasts_S512x1_S512x512))

/-- What the trip stores of the running maximum. -/
def outM : FVec Ideal S1x512x1 .f32 := shapeCast S1x512x1 (maxNew K R mask q qr m) shapeCasts_S512x1_S1x512x1

/-- What the trip stores of the running sum. -/
def outL : FVec Ideal S1x512x1 .f32 :=
  shapeCast S1x512x1
    (addf (mulf (alpha K R mask q qr m) (shapeCast S512x1 l shapeCasts_S1x512x1_S512x1))
      (shapeCast S512x1 (multiReduction .add [1] S512 (weights K R mask q qr m) 0x00000000#32 reduces_S512x512_S512 (.inl rfl) rfl)
        shapeCasts_S512_S512x1)) shapeCasts_S512x1_S1x512x1

/-- What the trip stores of the accumulator. -/
def outA : FVec Ideal S1x512x256 .f32 :=
  shapeCast S1x512x256
    (addf (mulf (broadcastTo S512x256 (alpha K R mask q qr m) broadcasts_S512x1_S512x256)
        (shapeCast S512x256 a shapeCasts_S1x512x256_S512x256))
      (matmul dot_S512x512_S512x256_S512x256_1_0_0_1_n_n none (truncf .bf16 (weights K R mask q qr m) bitsLt_bf16_f32) K
        (constant S512x256 .f32 0x00000000#32))) shapeCasts_S512x256_S1x512x256

theorem named_mask : (Named.named (F := Ideal) κ "mask" (φ := .f32) 0xF149F2CA#32 : Ideal .f32) = (⊥ : EReal) :=
  IdealRules.named_const.ideal_named_scalar _ _ _ _ rfl

theorem scores_apply (r c : Fin 512) : scores K R mask q qr (ix2 r c)
    = if mask (ix2 r c) = 1#1 then (((∑ d : Fin 256, q (ix3 0 r d) * K (ix2 c d)) + ∑ d : Fin 128, qr (ix3 0 r d) * R (ix2 c d)) * (sc : EReal) : EReal) else (⊥ : EReal) := by
  pointwise [scores, named_mask, sc_bits]
  rfl

theorem maxNew_apply (r : Fin 512) : maxNew K R mask q qr m (ix2 r 0)
    = max (m (ix3 0 r 0)) (Finset.univ.fold max (⊥ : EReal) fun c : Fin 512 => scores K R mask q qr (ix2 r c)) := by
  pointwise [maxNew, negInf]

theorem outM_apply (r : Fin 512) : outM K R mask q qr m (ix3 0 r 0)
    = max (m (ix3 0 r 0)) (Finset.univ.fold max (⊥ : EReal) fun c : Fin 512 => scores K R mask q qr (ix2 r c)) := by
  rw [← maxNew_apply]
  pointwise [outM]

theorem weights_apply (r c : Fin 512) : weights K R mask q qr m (ix2 r c)
    = Ideal.exp (scores K R mask q qr (ix2 r c) - outM K R mask q qr m (ix3 0 r 0)) := by
  pointwise [weights, outM]

theorem outL_apply (r : Fin 512) : outL K R mask q qr m l (ix3 0 r 0)
    = Ideal.exp (m (ix3 0 r 0) - outM K R mask q qr m (ix3 0 r 0)) * l (ix3 0 r 0)
      + ∑ c : Fin 512, weights K R mask q qr m (ix2 r c) := by
  pointwise [outL, alpha, outM]

theorem outA_apply (r : Fin 512) (d : Fin 256) : outA K R mask q qr m a (ix3 0 r d)
    = Ideal.exp (m (ix3 0 r 0) - outM K R mask q qr m (ix3 0 r 0)) * a (ix3 0 r d)
      + ∑ c : Fin 512, weights K R mask q qr m (ix2 r c) * K (ix2 c d) := by
  pointwise [outA, alpha, outM]

end Cert.Attn1
end
-- ==== Proof.Trip.lean ====
/-
  ONE TRIP of the prompt attention's loop over key blocks: what it leaves in the three scratch blocks
  (running maximum, running sum, accumulator), all eight heads, from what it finds there.
-/
module
public import proofs.«01_k».proof.Proof.Head
public import Idealize.ShloMosaic.Lib.WritesUnit
public import Idealize.ShloMosaic.Lib.Pipeline.FrameBody
@[expose] public section
noncomputable section
namespace Cert.Attn1
open Cert.AttnIdeal Cert.AttnIdeal.Gen Idealize.ShloMosaic Idealize.ShloMosaic.TcCoe Idealize.SL.Sem

/-- Head `h` of a block of eight heads, as a block of one head. -/
def slab {α : Type} {n d : ℕ} (X : (⟨3, ![8, n, d]⟩ : Shape).Idx → α) (h : Fin 8) : (⟨3, ![1, n, d]⟩ : Shape).Idx → α :=
  fun y => X (ix3 h (y 1) (y 2))

/-- Head `h`'s piece of a block of eight heads. -/
def piece {n d : ℕ} {e : EltTy} (h : Fin 8) (w : (⟨3, ![1, n, d]⟩ : Shape).Idx → Elt Ideal e) :
    View.Piece (Elt Ideal) (⟨3, ![8, n, d]⟩ : Shape) e :=
  ⟨Rect.unit ![h.val, 0, 0] ![1, n, d] (fun a => by
    have := h.isLt
    match a with
    | ⟨0, _⟩ => show h.val + 1 ≤ 8; omega
    | ⟨1, _⟩ => show 0 + n ≤ n; omega
    | ⟨2, _⟩ => show 0 + d ≤ d; omega), w⟩

/-- Eight heads' pieces, last head first. -/
def pieces {n d : ℕ} {e : EltTy} (P : Fin 8 → (⟨3, ![1, n, d]⟩ : Shape).Idx → Elt Ideal e) :
    List (View.Piece (Elt Ideal) (⟨3, ![8, n, d]⟩ : Shape) e) :=
  [piece 7 (P 7), piece 6 (P 6), piece 5 (P 5), piece 4 (P 4), piece 3 (P 3), piece 2 (P 2), piece 1 (P 1), piece 0 (P 0)]

section
variable {n d : ℕ} {e : EltTy} {κ : Kind} {sp : Space} (v : View sig κ sp (⟨3, ![8, n, d]⟩ : Shape) e)
  (f : v.ty.Contents (Elt Ideal))

/-- Reading after several heads' pieces, at a head among them: that head's piece. -/
theorem read_heads (P : Fin 8 → (⟨3, ![1, n, d]⟩ : Shape).Idx → Elt Ideal e) (h : Fin 8) (r : Fin n) (x : Fin d) :
    ∀ hs : List (Fin 8), h ∈ hs →
      v.read (Elt Ideal) (v.writes (Elt Ideal) f (hs.map fun h => piece h (P h))) (ix3 h r x) = P h (ix3 0 r x)
  | [], hm => by cases hm
  | g :: hs, hm => by
    by_cases hg : h = g
    · subst hg
      refine View.read_writes_cons_unit_of_mem v f _ _ _ _ (ix3 0 r x) rfl fun a => ?_
      match a with
      | ⟨0, _⟩ => rfl
      | ⟨1, _⟩ => exact (Nat.zero_add _).symm
      | ⟨2, _⟩ => exact (Nat.zero_add _).symm
    · have hv : h.val ≠ g.val := fun hh => hg (Fin.ext hh)
      refine (View.read_writes_cons_unit_of_not_mem v f _ _ _ _ rfl 0 ?_).trans
        (read_heads P h r x hs ((List.mem_cons.mp hm).resolve_left hg))
      show h.val < g.val ∨ g.val + 1 ≤ h.val
      omega

/-- Reading after eight heads' pieces: head `h`'s entry is its piece's. -/
theorem read_pieces (P : Fin 8 → (⟨3, ![1, n, d]⟩ : Shape).Idx → Elt Ideal e) (h : Fin 8) (r : Fin n) (x : Fin d) :
    v.read (Elt Ideal) (v.writes (Elt Ideal) f (pieces P)) (ix3 h r x) = P h (ix3 0 r x) :=
  read_heads v f P h r x [7, 6, 5, 4, 3, 2, 1, 0] (by fin_cases h <;> decide)

/-- The same over earlier pieces. -/
theorem read_pieces_append (P : Fin 8 → (⟨3, ![1, n, d]⟩ : Shape).Idx → Elt Ideal e)
    (L : List (View.Piece (Elt Ideal) (⟨3, ![8, n, d]⟩ : Shape) e)) (h : Fin 8) (r : Fin n) (x : Fin d) :
    v.read (Elt Ideal) (v.writes (Elt Ideal) f (pieces P ++ L)) (ix3 h r x) = P h (ix3 0 r x) := by
  rw [View.writes_append, read_pieces]

/-- A load of head `h` is the slab of what the view reads. -/
theorem readAt_head (h : Fin 8) (inb : ∀ a, (![h.val, 0, 0] : Fin 3 → ℕ) a + (![1, n, d] : Fin 3 → ℕ) a ≤ (![8, n, d] : Fin 3 → ℕ) a) :
    v.readAt (Elt Ideal) (Rect.unit (s := (⟨3, ![8, n, d]⟩ : Shape)) ![h.val, 0, 0] ![1, n, d] inb).toLoadRect f = slab (v.read (Elt Ideal) f) h := by
  funext y
  refine congrArg (v.read (Elt Ideal) f) (funext fun a => Fin.ext ?_)
  match a with
  | ⟨0, _⟩ =>
    have : (y 0).val < 1 := (y 0).isLt
    show h.val + 1 * (y 0).val = h.val
    omega
  | ⟨1, _⟩ => show 0 + 1 * (y 1).val = (y 1).val; omega
  | ⟨2, _⟩ => show 0 + 1 * (y 2).val = (y 2).val; omega
end

section
variable (𝒱 : Variants) (c : Dev nD) (bd : Option 𝒱.V) (i : grid0.Coords)
  (arg2 : Memref sig .tc .vmem S8x512x256 .bf16) (harg2 : arg2.IsWhole)
  (arg3 : Memref sig .tc .vmem S8x512x128 .bf16) (harg3 : arg3.IsWhole)
  (arg4 : Memref sig .tc .vmem S2048x256 .bf16) (harg4 : arg4.IsWhole)
  (arg5 : Memref sig .tc .vmem S2048x128 .bf16) (harg5 : arg5.IsWhole)
  (arg6 : Memref sig .tc .vmem S8x512x256 .bf16) (harg6 : arg6.IsWhole)
  (arg7 : Memref sig .tc .vmem S8x512x1 .f32) (harg7 : arg7.IsWhole)
  (arg8 : Memref sig .tc .vmem S8x512x1 .f32) (harg8 : arg8.IsWhole)
  (arg9 : Memref sig .tc .vmem S8x512x256 .f32) (harg9 : arg9.IsWhole)
  (v16 : IVec S512x512 32) (X2 : BufTy.Contents (Elt Ideal) arg2.view.ty) (X3 : BufTy.Contents (Elt Ideal) arg3.view.ty)
  (X4 : BufTy.Contents (Elt Ideal) arg4.view.ty) (X5 : BufTy.Contents (Elt Ideal) arg5.view.ty) (k : Fin (k0_t1_loop i).trips)
  (f7 : BufTy.Contents (Elt Ideal) arg7.view.ty) (f8 : BufTy.Contents (Elt Ideal) arg8.view.ty) (f9 : BufTy.Contents (Elt Ideal) arg9.view.ty)

/-- The key rows trip `k` reads. -/
def keyRows (x : Vec Ideal S2048x256 .bf16) : FVec Ideal S512x256 .bf16 := View.ld (Val := Elt Ideal) x (Rect.unit (k0_off1 i k) S512x256.size (k0_off1_inb i k))
/-- The rotary key rows trip `k` reads. -/
def rotRows (x : Vec Ideal S2048x128 .bf16) : FVec Ideal S512x128 .bf16 := View.ld (Val := Elt Ideal) x (Rect.unit (k0_off2 i k) S512x128.size (k0_off2_inb i k))
/-- The causal mask of trip `k`. -/
def maskAt : IVec S512x512 1 := k0_pay3 i (k0_pay144 i) v16 0#32 1#32 k

/-- Head `h`'s rectangle in a block of eight heads. -/
abbrev headRect {n : ℕ} (d : ℕ) (h : Fin 8) : Rect (⟨3, ![8, n, d]⟩ : Shape) :=
  Rect.unit ![h.val, 0, 0] ![1, n, d] (fun a => by
    have := h.isLt
    match a with
    | ⟨0, _⟩ => show h.val + 1 ≤ 8; omega
    | ⟨1, _⟩ => show 0 + n ≤ n; omega
    | ⟨2, _⟩ => show 0 + d ≤ d; omega)

set_option maxRecDepth 8192 in
theorem trip_m_raw :
    (trip_k0_t1 (F := Ideal) 𝒱 c bd i arg2 harg2 arg3 harg3 arg4 harg4 arg5 harg5 arg6 harg6 arg7 harg7 arg8 harg8 arg9 harg9 v16 X2 X3 X4 X5 k).1 f7 f8 f9
      = pieces fun h => outM (keyRows i k (arg4.view.read (Elt Ideal) X4)) (rotRows i k (arg5.view.read (Elt Ideal) X5)) (maskAt i v16 k)
          (arg2.view.readAt (Elt Ideal) (headRect 256 h).toLoadRect X2) (arg3.view.readAt (Elt Ideal) (headRect 128 h).toLoadRect X3) (arg7.view.readAt (Elt Ideal) (headRect 1 h).toLoadRect f7) := by
  unfold trip_k0_t1
  rfl

/-- The pieces a trip stores of the running maximum. -/
theorem trip_m :
    (trip_k0_t1 (F := Ideal) 𝒱 c bd i arg2 harg2 arg3 harg3 arg4 harg4 arg5 harg5 arg6 harg6 arg7 harg7 arg8 harg8 arg9 harg9 v16 X2 X3 X4 X5 k).1 f7 f8 f9
      = pieces fun h => outM (keyRows i k (arg4.view.read (Elt Ideal) X4)) (rotRows i k (arg5.view.read (Elt Ideal) X5)) (maskAt i v16 k)
          (slab (arg2.view.read (Elt Ideal) X2) h) (slab (arg3.view.read (Elt Ideal) X3) h) (slab (arg7.view.read (Elt Ideal) f7) h) := by
  rw [trip_m_raw]
  simp only [headRect, readAt_head]

set_option maxRecDepth 8192 in
theorem trip_l_raw :
    (trip_k0_t1 (F := Ideal) 𝒱 c bd i arg2 harg2 arg3 harg3 arg4 harg4 arg5 harg5 arg6 harg6 arg7 harg7 arg8 harg8 arg9 harg9 v16 X2 X3 X4 X5 k).2.1 f7 f8 f9
      = pieces fun h => outL (keyRows i k (arg4.view.read (Elt Ideal) X4)) (rotRows i k (arg5.view.read (Elt Ideal) X5)) (maskAt i v16 k)
          (arg2.view.readAt (Elt Ideal) (headRect 256 h).toLoadRect X2) (arg3.view.readAt (Elt Ideal) (headRect 128 h).toLoadRect X3) (arg7.view.readAt (Elt Ideal) (headRect 1 h).toLoadRect f7) (arg8.view.readAt (Elt Ideal) (headRect 1 h).toLoadRect f8) := by
  unfold trip_k0_t1
  rfl

/-- The pieces a trip stores of the running sum. -/
theorem trip_l :
    (trip_k0_t1 (F := Ideal) 𝒱 c bd i arg2 harg2 arg3 harg3 arg4 harg4 arg5 harg5 arg6 harg6 arg7 harg7 arg8 harg8 arg9 harg9 v16 X2 X3 X4 X5 k).2.1 f7 f8 f9
      = pieces fun h => outL (keyRows i k (arg4.view.read (Elt Ideal) X4)) (rotRows i k (arg5.view.read (Elt Ideal) X5)) (maskAt i v16 k)
          (slab (arg2.view.read (Elt Ideal) X2) h) (slab (arg3.view.read (Elt Ideal) X3) h) (slab (arg7.view.read (Elt Ideal) f7) h) (slab (arg8.view.read (Elt Ideal) f8) h) := by
  rw [trip_l_raw]
  simp only [headRect, readAt_head]

set_option maxRecDepth 8192 in
theorem trip_a_raw :
    (trip_k0_t1 (F := Ideal) 𝒱 c bd i arg2 harg2 arg3 harg3 arg4 harg4 arg5 harg5 arg6 harg6 arg7 harg7 arg8 harg8 arg9 harg9 v16 X2 X3 X4 X5 k).2.2.1 f7 f8 f9
      = pieces fun h => outA (keyRows i k (arg4.view.read (Elt Ideal) X4)) (rotRows i k (arg5.view.read (Elt Ideal) X5)) (maskAt i v16 k)
          (arg2.view.readAt (Elt Ideal) (headRect 256 h).toLoadRect X2) (arg3.view.readAt (Elt Ideal) (headRect 128 h).toLoadRect X3) (arg7.view.readAt (Elt Ideal) (headRect 1 h).toLoadRect f7) (arg9.view.readAt (Elt Ideal) (headRect 256 h).toLoadRect f9) := by
  unfold trip_k0_t1
  rfl

/-- The pieces a trip stores of the accumulator. -/
theorem trip_a :
    (trip_k0_t1 (F := Ideal) 𝒱 c bd i arg2 harg2 arg3 harg3 arg4 harg4 arg5 harg5 arg6 harg6 arg7 harg7 arg8 harg8 arg9 harg9 v16 X2 X3 X4 X5 k).2.2.1 f7 f8 f9
      = pieces fun h => outA (keyRows i k (arg4.view.read (Elt Ideal) X4)) (rotRows i k (arg5.view.read (Elt Ideal) X5)) (maskAt i v16 k)
          (slab (arg2.view.read (Elt Ideal) X2) h) (slab (arg3.view.read (Elt Ideal) X3) h) (slab (arg7.view.read (Elt Ideal) f7) h) (slab (arg9.view.read (Elt Ideal) f9) h) := by
  rw [trip_a_raw]
  simp only [headRect, readAt_head]

end
end Cert.Attn1
end
-- ==== Proof.Spec.lean ====
/-
  THE ATTENTION AS MATHEMATICS: for a head, a token and a value column, the softmax over the batch's own keys up
  to the token, weighting the latents. Tokens `2048 b … 2048 b + 2047` are batch `b`'s.
-/
module
public import proofs.«01_k».proof.Proof.Online
@[expose] public section
noncomputable section
namespace Cert.Attn1
open Idealize.ShloMosaic

/-- The scaled score of key `n`. -/
def score (Q : Fin 256 → ℝ) (QR : Fin 128 → ℝ) (KV : ℕ → Fin 256 → ℝ) (KR : ℕ → Fin 128 → ℝ) (n : ℕ) : ℝ :=
  ((∑ d, Q d * KV n d) + ∑ d, QR d * KR n d) * sc

/-- The softmax over 2048 keys, masked after position `q`, weighting `v`. -/
def softsum {D : Type} (x : ℕ → ℝ) (v : ℕ → D → ℝ) (q : ℕ) (d : D) : EReal :=
  ∑ n : Fin 2048, Ideal.div
      (Ideal.exp (masked x q n.val - max ⊥ (Finset.univ.fold max (⊥ : EReal) fun k : Fin 2048 => masked x q k.val)))
      (∑ j : Fin 2048, Ideal.exp (masked x q j.val - max ⊥ (Finset.univ.fold max (⊥ : EReal) fun k : Fin 2048 => masked x q k.val)))
    * (v n.val d : EReal)

/-- Row `n` of a two-dimensional array of numbers (zeros past its end). -/
def row2 {D : ℕ} (A : (⟨2, ![8320, D]⟩ : Shape).Idx → EReal) (n : ℕ) (d : Fin D) : ℝ :=
  if h : n < 8320 then (A (ix2 ⟨n, h⟩ d)).toReal else 0

/-- Row `n` of head `h` of a three-dimensional array of numbers (zeros past its end). -/
def row3 {D : ℕ} (A : (⟨3, ![8, 8320, D]⟩ : Shape).Idx → EReal) (h : Fin 8) (n : ℕ) (d : Fin D) : ℝ :=
  if hn : n < 8320 then (A (ix3 h ⟨n, hn⟩ d)).toReal else 0

/-- The attention of head `h`, token `n`, column `d`. -/
def attn (A0 : (⟨3, ![8, 8320, 256]⟩ : Shape).Idx → EReal) (A1 : (⟨3, ![8, 8320, 128]⟩ : Shape).Idx → EReal)
    (A2 : (⟨2, ![8320, 256]⟩ : Shape).Idx → EReal) (A3 : (⟨2, ![8320, 128]⟩ : Shape).Idx → EReal)
    (h : Fin 8) (n : ℕ) (d : Fin 256) : EReal :=
  softsum (score (row3 A0 h n) (row3 A1 h n) (fun k => row2 A2 (2048 * (n / 2048) + k)) (fun k => row2 A3 (2048 * (n / 2048) + k)))
    (fun k => row2 A2 (2048 * (n / 2048) + k)) (n % 2048) d

/-- Every entry is a number. -/
def IsReal {s : Shape} (A : s.Idx → EReal) : Prop := ∀ j, A j ≠ ⊤ ∧ A j ≠ ⊥

theorem coe_row2 {D : ℕ} {A : (⟨2, ![8320, D]⟩ : Shape).Idx → EReal} (hA : IsReal A) (n : ℕ) (h : n < 8320) (d : Fin D) :
    A (ix2 ⟨n, h⟩ d) = (row2 A n d : EReal) := by
  rw [row2, dif_pos h, EReal.coe_toReal (hA _).1 (hA _).2]

theorem coe_row3 {D : ℕ} {A : (⟨3, ![8, 8320, D]⟩ : Shape).Idx → EReal} (hA : IsReal A) (h : Fin 8) (n : ℕ) (hn : n < 8320) (d : Fin D) :
    A (ix3 h ⟨n, hn⟩ d) = (row3 A h n d : EReal) := by
  rw [row3, dif_pos hn, EReal.coe_toReal (hA _).1 (hA _).2]

end Cert.Attn1
end
-- ==== Proof.Loop.lean ====
/-
  THE LOOP over key blocks of the prompt attention: one head and one query row, read as the running softmax
  of the keys seen so far.
-/
module
public import proofs.«01_k».proof.Proof.Trip
public import proofs.«01_k».proof.Proof.Spec
@[expose] public section
noncomputable section
namespace Cert.Attn1
open Cert.AttnIdeal Cert.AttnIdeal.Gen Idealize.ShloMosaic Idealize.ShloMosaic.TcCoe Idealize.SL.Sem

/-- The column index of a score block. -/
abbrev colIota : IVec S512x512 32 := iota Kind.tc S512x512 32 [1] iota_S512x512_d1_w32

/-- Small numbers compare as words as they do as numbers. -/
theorem sle_small (a b : ℕ) (ha : a < 2 ^ 31) (hb : b < 2 ^ 31) :
    (BitVec.ofNat 32 a).sle (BitVec.ofNat 32 b) = decide (a ≤ b) := by
  rw [BitVec.sle_eq_decide, BitVec.toInt_eq_toNat_of_lt, BitVec.toInt_eq_toNat_of_lt]
  · simp only [BitVec.toNat_ofNat, Nat.mod_eq_of_lt (show a < 2 ^ 32 by omega), Nat.mod_eq_of_lt (show b < 2 ^ 32 by omega)]
    simp
  · rw [BitVec.toNat_ofNat, Nat.mod_eq_of_lt (by omega)]; omega
  · rw [BitVec.toNat_ofNat, Nat.mod_eq_of_lt (by omega)]; omega

theorem trips_eq (i : grid0.Coords) : (k0_t1_loop i).trips = (i 1).val + 1 := by
  revert i; decide +kernel

/-- A key is visible when it does not come after the query. -/
theorem maskAt_apply (i : grid0.Coords) (k : Fin (k0_t1_loop i).trips) (r c : Fin 512) :
    maskAt i colIota k (ix2 r c) = 1#1 ↔ 512 * k.val + c.val ≤ 512 * (i 1).val + r.val := by
  have hk : k.val < 4 := by
    have h1 := trips_eq i
    have h2 := k.isLt
    have h3 : (i 1).val < 4 := (i 1).isLt
    omega
  have h3 : (i 1).val < 4 := (i 1).isLt
  have hr := r.isLt
  have hc := c.isLt
  pointwise [maskAt, k0_pay3, k0_pay144]
  have e1 : IntOp.addi (Scalar.muli (Scf.iv 0#32 1#32 k.val) 512#32) (BitVec.ofNat 32 c.val) = BitVec.ofNat 32 (512 * k.val + c.val) := by
    refine BitVec.eq_of_toNat_eq ?_
    simp [IntOp.addi, Scalar.muli, IntOp.muli, Scf.iv, BitVec.toNat_add, BitVec.toNat_mul]
    omega
  have e2 : IntOp.addi (Scalar.muli (BitVec.ofNat 32 (i 1).val) 512#32) (BitVec.ofNat 32 r.val) = BitVec.ofNat 32 (512 * (i 1).val + r.val) := by
    refine BitVec.eq_of_toNat_eq ?_
    simp [IntOp.addi, Scalar.muli, IntOp.muli, BitVec.toNat_add, BitVec.toNat_mul]
    omega
  rw [e1, e2]
  simp [IntOp.cmpi, sle_small _ _ (show 512 * k.val + c.val < 2 ^ 31 by omega) (show 512 * (i 1).val + r.val < 2 ^ 31 by omega)]
  by_cases hle : 512 * k.val + c.val ≤ 512 * (i 1).val + r.val <;> simp [hle]

/-- Key block `k` starts at row `512 k`. -/
theorem keyRows_apply (i : grid0.Coords) (k : Fin (k0_t1_loop i).trips) (X : Vec Ideal S2048x256 .bf16) (c : Fin 512) (d : Fin 256)
    (h : 512 * k.val + c.val < 2048) : keyRows i k X (ix2 c d) = X (ix2 ⟨512 * k.val + c.val, h⟩ d) := by
  refine congrArg X (funext fun a => Fin.ext ?_)
  have h1 := k0_off1_eq i k
  match a with
  | ⟨0, _⟩ =>
    show k0_off1 i k 0 + 1 * c.val = 512 * k.val + c.val
    rw [h1]
    show 512 * k.val + 1 * c.val = _
    omega
  | ⟨1, _⟩ =>
    show k0_off1 i k 1 + 1 * d.val = d.val
    rw [h1]
    show 0 + 1 * d.val = _
    omega

theorem rotRows_apply (i : grid0.Coords) (k : Fin (k0_t1_loop i).trips) (X : Vec Ideal S2048x128 .bf16) (c : Fin 512) (d : Fin 128)
    (h : 512 * k.val + c.val < 2048) : rotRows i k X (ix2 c d) = X (ix2 ⟨512 * k.val + c.val, h⟩ d) := by
  refine congrArg X (funext fun a => Fin.ext ?_)
  have h1 := k0_off2_eq i k
  match a with
  | ⟨0, _⟩ =>
    show k0_off2 i k 0 + 1 * c.val = 512 * k.val + c.val
    rw [h1]
    show 512 * k.val + 1 * c.val = _
    omega
  | ⟨1, _⟩ =>
    show k0_off2 i k 1 + 1 * d.val = d.val
    rw [h1]
    show 0 + 1 * d.val = _
    omega

section
variable (𝒱 : Variants) (c : Dev nD) (bd : Option 𝒱.V) (i : grid0.Coords)
  (arg2 : Memref sig .tc .vmem S8x512x256 .bf16) (harg2 : arg2.IsWhole)
  (arg3 : Memref sig .tc .vmem S8x512x128 .bf16) (harg3 : arg3.IsWhole)
  (arg4 : Memref sig .tc .vmem S2048x256 .bf16) (harg4 : arg4.IsWhole)
  (arg5 : Memref sig .tc .vmem S2048x128 .bf16) (harg5 : arg5.IsWhole)
  (arg6 : Memref sig .tc .vmem S8x512x256 .bf16) (harg6 : arg6.IsWhole)
  (arg7 : Memref sig .tc .vmem S8x512x1 .f32) (harg7 : arg7.IsWhole)
  (arg8 : Memref sig .tc .vmem S8x512x1 .f32) (harg8 : arg8.IsWhole)
  (arg9 : Memref sig .tc .vmem S8x512x256 .f32) (harg9 : arg9.IsWhole)
  (v16 : IVec S512x512 32) (X2 : BufTy.Contents (Elt Ideal) arg2.view.ty) (X3 : BufTy.Contents (Elt Ideal) arg3.view.ty)
  (X4 : BufTy.Contents (Elt Ideal) arg4.view.ty) (X5 : BufTy.Contents (Elt Ideal) arg5.view.ty) (k : Fin (k0_t1_loop i).trips)
  (f7 : BufTy.Contents (Elt Ideal) arg7.view.ty) (f8 : BufTy.Contents (Elt Ideal) arg8.view.ty) (f9 : BufTy.Contents (Elt Ideal) arg9.view.ty)

variable (h : Fin 8) (r : Fin 512)
  (Q : Fin 256 → ℝ) (QR : Fin 128 → ℝ) (KV : ℕ → Fin 256 → ℝ) (KR : ℕ → Fin 128 → ℝ)
  (hQ : ∀ d, arg2.view.read (Elt Ideal) X2 (ix3 h r d) = (Q d : EReal))
  (hQR : ∀ d, arg3.view.read (Elt Ideal) X3 (ix3 h r d) = (QR d : EReal))
  (hKV : ∀ (n : Fin 2048) d, arg4.view.read (Elt Ideal) X4 (ix2 n d) = (KV n d : EReal))
  (hKR : ∀ (n : Fin 2048) d, arg5.view.read (Elt Ideal) X5 (ix2 n d) = (KR n d : EReal))

include hQ hQR hKV hKR in
theorem trip_scores (c : Fin 512) :
    scores (keyRows i k (arg4.view.read (Elt Ideal) X4)) (rotRows i k (arg5.view.read (Elt Ideal) X5)) (maskAt i colIota k)
        (slab (arg2.view.read (Elt Ideal) X2) h) (slab (arg3.view.read (Elt Ideal) X3) h) (ix2 r c)
      = masked (score Q QR KV KR) (512 * (i 1).val + r.val) (512 * k.val + c.val) := by
  have hk : 512 * k.val + c.val < 2048 := by
    have h1 := trips_eq i
    have h2 := k.isLt
    have h3 : (i 1).val < 4 := (i 1).isLt
    omega
  have q1 : ∀ d, slab (arg2.view.read (Elt Ideal) X2) h (ix3 0 r d) = (Q d : EReal) := hQ
  have q2 : ∀ d, slab (arg3.view.read (Elt Ideal) X3) h (ix3 0 r d) = (QR d : EReal) := hQR
  have e1 : ∀ d, keyRows i k (arg4.view.read (Elt Ideal) X4) (ix2 c d) = (KV (512 * k.val + c.val) d : EReal) := fun d =>
    (keyRows_apply i k _ c d hk).trans (hKV _ d)
  have e2 : ∀ d, rotRows i k (arg5.view.read (Elt Ideal) X5) (ix2 c d) = (KR (512 * k.val + c.val) d : EReal) := fun d =>
    (rotRows_apply i k _ c d hk).trans (hKR _ d)
  rw [scores_apply]
  simp only [q1, q2, e1, e2, maskAt_apply, masked]
  refine if_congr Iff.rfl ?_ rfl
  simp only [score, EReal.coe_mul, EReal.coe_add, coe_sum]

include hQ hQR hKV hKR in
theorem loop_seen (c : Dev nD) (G7 : BufTy.Contents (Elt Ideal) arg7.view.ty) (G8 : BufTy.Contents (Elt Ideal) arg8.view.ty) (G9 : BufTy.Contents (Elt Ideal) arg9.view.ty)
    (h7 : arg7.view.read (Elt Ideal) G7 (ix3 h r 0) = (⊥ : EReal)) (h8 : arg8.view.read (Elt Ideal) G8 (ix3 h r 0) = (0 : EReal))
    (h9 : ∀ d, arg9.view.read (Elt Ideal) G9 (ix3 h r d) = (0 : EReal)) :
    ∀ n : ℕ, n < (k0_t1_loop i).trips →
      Seen (score Q QR KV KR) KV (512 * (i 1).val + r.val) (512 * (n + 1))
        (arg7.view.read (Elt Ideal) (arg7.view.writes (Elt Ideal) G7 (pb_k0_t1 (F := Ideal) 𝒱 c bd i arg2 harg2 arg3 harg3 arg4 harg4 arg5 harg5 arg6 harg6 arg7 harg7 arg8 harg8 arg9 harg9 colIota X2 X3 X4 X5 G7 G8 G9 (n + 1)).1) (ix3 h r 0))
        (arg8.view.read (Elt Ideal) (arg8.view.writes (Elt Ideal) G8 (pb_k0_t1 (F := Ideal) 𝒱 c bd i arg2 harg2 arg3 harg3 arg4 harg4 arg5 harg5 arg6 harg6 arg7 harg7 arg8 harg8 arg9 harg9 colIota X2 X3 X4 X5 G7 G8 G9 (n + 1)).2.1) (ix3 h r 0))
        (fun d => arg9.view.read (Elt Ideal) (arg9.view.writes (Elt Ideal) G9 (pb_k0_t1 (F := Ideal) 𝒱 c bd i arg2 harg2 arg3 harg3 arg4 harg4 arg5 harg5 arg6 harg6 arg7 harg7 arg8 harg8 arg9 harg9 colIota X2 X3 X4 X5 G7 G8 G9 (n + 1)).2.2) (ix3 h r d))
  | n, hn => by
    have hs := pb_k0_t1_succ (F := Ideal) 𝒱 c bd i arg2 harg2 arg3 harg3 arg4 harg4 arg5 harg5 arg6 harg6 arg7 harg7 arg8 harg8 arg9 harg9 colIota X2 X3 X4 X5 G7 G8 G9 ⟨n, hn⟩
    rw [hs]
    simp only [trip_m, trip_l, trip_a, read_pieces_append]
    have e := trip_scores (i := i) (k := ⟨n, hn⟩) (hQ := hQ) (hQR := hQR) (hKV := hKV) (hKR := hKR)
    have hk : ∀ cc : Fin 512, 512 * n + cc.val < 2048 := fun cc => by
      have h1 := trips_eq i
      have h3 : (i 1).val < 4 := (i 1).isLt
      omega
    have ek : ∀ (cc : Fin 512) d, keyRows i ⟨n, hn⟩ (arg4.view.read (Elt Ideal) X4) (ix2 cc d) = (KV (512 * n + cc.val) d : EReal) := fun cc d =>
      (keyRows_apply i ⟨n, hn⟩ _ cc d (hk cc)).trans (hKV _ d)
    cases n with
    | zero =>
      have z7 : slab (arg7.view.read (Elt Ideal) (arg7.view.writes (Elt Ideal) G7 (pb_k0_t1 (F := Ideal) 𝒱 c bd i arg2 harg2 arg3 harg3 arg4 harg4 arg5 harg5 arg6 harg6 arg7 harg7 arg8 harg8 arg9 harg9 colIota X2 X3 X4 X5 G7 G8 G9 0).1)) h (ix3 0 r 0) = (⊥ : EReal) := h7
      have z8 : slab (arg8.view.read (Elt Ideal) (arg8.view.writes (Elt Ideal) G8 (pb_k0_t1 (F := Ideal) 𝒱 c bd i arg2 harg2 arg3 harg3 arg4 harg4 arg5 harg5 arg6 harg6 arg7 harg7 arg8 harg8 arg9 harg9 colIota X2 X3 X4 X5 G7 G8 G9 0).2.1)) h (ix3 0 r 0) = (0 : EReal) := h8
      have z9 : ∀ d, slab (arg9.view.read (Elt Ideal) (arg9.view.writes (Elt Ideal) G9 (pb_k0_t1 (F := Ideal) 𝒱 c bd i arg2 harg2 arg3 harg3 arg4 harg4 arg5 harg5 arg6 harg6 arg7 harg7 arg8 harg8 arg9 harg9 colIota X2 X3 X4 X5 G7 G8 G9 0).2.2)) h (ix3 0 r d) = (0 : EReal) := h9
      refine Seen.first (B := 512) (by omega) ?_ ?_ fun d => ?_
      · rw [outM_apply]; simp only [e]; exact congrArg (fun z : EReal => max z _) z7
      · rw [outL_apply]; simp only [weights_apply, e, z7, z8]
      · rw [outA_apply]; simp only [weights_apply, e, ek, z7, z9]
    | succ n =>
      have ih := loop_seen c G7 G8 G9 h7 h8 h9 n (by omega)
      refine Seen.step (B := 512) ih ?_ ?_ fun d => ?_
      · rw [outM_apply]; simp only [e]; rfl
      · rw [outL_apply]; simp only [weights_apply, e]; rfl
      · rw [outA_apply]; simp only [weights_apply, e, ek]; rfl
end
end Cert.Attn1
end
-- ==== Proof.Block.lean ====
/-
  ONE OUTPUT BLOCK of the prompt attention: what a grid point stores, read at a head, a query row and a
  value column, is the quotient of the accumulator and the sum its loop leaves.
-/
module
public import proofs.«01_k».proof.Proof.Loop
public import proofs.«01_k».proof.Proof.Gen.AttnIdeal.Value
@[expose] public section
noncomputable section
namespace Cert.Attn1
open Cert.AttnIdeal Cert.AttnIdeal.Gen Idealize.ShloMosaic Idealize.ShloMosaic.TcCoe Idealize.SL.Sem

/-- What is stored for one head at the end: accumulator over sum. -/
def finalHead (a : FVec Ideal S1x512x256 .f32) (l : FVec Ideal S1x512x1 .f32) : FVec Ideal S1x512x256 .bf16 :=
  shapeCast S1x512x256
    (truncf .bf16 (divf (shapeCast S512x256 a shapeCasts_S1x512x256_S512x256)
      (broadcastTo S512x256 (shapeCast S512x1 l shapeCasts_S1x512x1_S512x1) broadcasts_S512x1_S512x256)) bitsLt_bf16_f32)
    shapeCasts_S512x256_S1x512x256

theorem finalHead_apply (a : FVec Ideal S1x512x256 .f32) (l : FVec Ideal S1x512x1 .f32) (r : Fin 512) (d : Fin 256) :
    finalHead a l (ix3 0 r d) = Ideal.div (a (ix3 0 r d)) (l (ix3 0 r 0)) := by
  pointwise [finalHead]

section
variable (c : Dev nD) (i : grid0.Coords)
  (arg2 : Memref sig .tc .vmem S8x512x256 .bf16) (harg2 : arg2.IsWhole)
  (arg3 : Memref sig .tc .vmem S8x512x128 .bf16) (harg3 : arg3.IsWhole)
  (arg4 : Memref sig .tc .vmem S2048x256 .bf16) (harg4 : arg4.IsWhole)
  (arg5 : Memref sig .tc .vmem S2048x128 .bf16) (harg5 : arg5.IsWhole)
  (arg6 : Memref sig .tc .vmem S8x512x256 .bf16) (harg6 : arg6.IsWhole)
  (arg7 : Memref sig .tc .vmem S8x512x1 .f32) (harg7 : arg7.IsWhole)
  (arg8 : Memref sig .tc .vmem S8x512x1 .f32) (harg8 : arg8.IsWhole)
  (arg9 : Memref sig .tc .vmem S8x512x256 .f32) (harg9 : arg9.IsWhole)
  (x0 : Vec Ideal S8x512x256 .bf16) (x1 : Vec Ideal S8x512x128 .bf16) (x2 : Vec Ideal S2048x256 .bf16) (x3 : Vec Ideal S2048x128 .bf16)

/-- The pieces the three scratch blocks start from. -/
def init7 : List (View.Piece (Elt Ideal) S8x512x1 .f32) := [⟨Rect.unit ![0, 0, 0] S8x512x1.size inb_S8x512x1_S8x512x1_0_0_0, k0_pay141 (F := Ideal)⟩]
def init8 : List (View.Piece (Elt Ideal) S8x512x1 .f32) := [⟨Rect.unit ![0, 0, 0] S8x512x1.size inb_S8x512x1_S8x512x1_0_0_0, k0_pay142 (F := Ideal)⟩]
def init9 : List (View.Piece (Elt Ideal) S8x512x256 .f32) := [⟨Rect.unit ![0, 0, 0] S8x512x256.size inb_S8x512x256_S8x512x256_0_0_0, k0_pay143 (F := Ideal)⟩]

/-- The pieces the loop leaves. -/
def loopPieces (n : ℕ) :=
  pb_k0_t1 (F := Ideal) Variants.none c none i arg2 harg2 arg3 harg3 arg4 harg4 arg5 harg5 arg6 harg6 arg7 harg7 arg8 harg8 arg9 harg9 colIota
    (harg2.unread x0) (harg3.unread x1) (harg4.unread x2) (harg5.unread x3)
    (arg7.view.writes (Elt Ideal) arg7.view.junk init7) (arg8.view.writes (Elt Ideal) arg8.view.junk init8)
    (arg9.view.writes (Elt Ideal) arg9.view.junk init9) n

/-- The pieces of the second loop, which never runs. -/
def tailPieces (n : ℕ) :=
  pb_k0_t2 (F := Ideal) Variants.none c none i arg2 harg2 arg3 harg3 arg4 harg4 arg5 harg5 arg6 harg6 arg7 harg7 arg8 harg8 arg9 harg9 colIota
    (Scalar.addi (0#32) (Scalar.muli (Scalar.divsi (Scalar.subi (Scalar.addi (BitVec.ofNat 32 (i 1).val) 1#32) 0#32) 1#32) 1#32))
    (harg2.unread x0) (harg3.unread x1) (harg4.unread x2) (harg5.unread x3)
    (arg7.view.writes (Elt Ideal) arg7.view.junk ((loopPieces c i arg2 harg2 arg3 harg3 arg4 harg4 arg5 harg5 arg6 harg6 arg7 harg7 arg8 harg8 arg9 harg9 x0 x1 x2 x3 (k0_t1_loop i).trips).1 ++ init7))
    (arg8.view.writes (Elt Ideal) arg8.view.junk ((loopPieces c i arg2 harg2 arg3 harg3 arg4 harg4 arg5 harg5 arg6 harg6 arg7 harg7 arg8 harg8 arg9 harg9 x0 x1 x2 x3 (k0_t1_loop i).trips).2.1 ++ init8))
    (arg9.view.writes (Elt Ideal) arg9.view.junk ((loopPieces c i arg2 harg2 arg3 harg3 arg4 harg4 arg5 harg5 arg6 harg6 arg7 harg7 arg8 harg8 arg9 harg9 x0 x1 x2 x3 (k0_t1_loop i).trips).2.2 ++ init9)) n

set_option maxRecDepth 8192 in
/-- A grid point stores each head's quotient. -/
theorem run_out :
    (kernelRun0_A (F := Ideal) c i arg2 harg2 arg3 harg3 arg4 harg4 arg5 harg5 arg6 harg6 arg7 harg7 arg8 harg8 arg9 harg9 x0 x1 x2 x3).1
      = pieces fun h => finalHead
          (arg9.view.readCov ((tailPieces c i arg2 harg2 arg3 harg3 arg4 harg4 arg5 harg5 arg6 harg6 arg7 harg7 arg8 harg8 arg9 harg9 x0 x1 x2 x3 (k0_t2_loop i).trips).2.2
            ++ ((loopPieces c i arg2 harg2 arg3 harg3 arg4 harg4 arg5 harg5 arg6 harg6 arg7 harg7 arg8 harg8 arg9 harg9 x0 x1 x2 x3 (k0_t1_loop i).trips).2.2 ++ init9)) (headRect 256 h).toLoadRect)
          (arg8.view.readCov ((tailPieces c i arg2 harg2 arg3 harg3 arg4 harg4 arg5 harg5 arg6 harg6 arg7 harg7 arg8 harg8 arg9 harg9 x0 x1 x2 x3 (k0_t2_loop i).trips).2.1
            ++ ((loopPieces c i arg2 harg2 arg3 harg3 arg4 harg4 arg5 harg5 arg6 harg6 arg7 harg7 arg8 harg8 arg9 harg9 x0 x1 x2 x3 (k0_t1_loop i).trips).2.1 ++ init8)) (headRect 1 h).toLoadRect) := by
  unfold kernelRun0_A
  rfl

theorem tail_trips (i : grid0.Coords) : (k0_t2_loop i).trips = 0 := by
  revert i; decide +kernel

/-- A whole block's piece reads back as itself. -/
theorem read_whole3 {n d : ℕ} {e : EltTy} {κ : Kind} {sp : Space} (v : View sig κ sp (⟨3, ![8, n, d]⟩ : Shape) e)
    (f : v.ty.Contents (Elt Ideal)) (inb : ∀ a, (![0, 0, 0] : Fin 3 → ℕ) a + (⟨3, ![8, n, d]⟩ : Shape).size a ≤ (⟨3, ![8, n, d]⟩ : Shape).size a)
    (w : (⟨3, ![8, n, d]⟩ : Shape).Idx → Elt Ideal e) (y : (⟨3, ![8, n, d]⟩ : Shape).Idx) :
    v.read (Elt Ideal) (v.writes (Elt Ideal) f [⟨Rect.unit ![0, 0, 0] (⟨3, ![8, n, d]⟩ : Shape).size inb, w⟩]) y = w y := by
  refine View.read_writes_cons_unit_of_mem v f _ _ _ _ y rfl fun a => ?_
  match a with
  | ⟨0, _⟩ => exact (Nat.zero_add _).symm
  | ⟨1, _⟩ => exact (Nat.zero_add _).symm
  | ⟨2, _⟩ => exact (Nat.zero_add _).symm

variable (h : Fin 8) (r : Fin 512)
  (Q : Fin 256 → ℝ) (QR : Fin 128 → ℝ) (KV : ℕ → Fin 256 → ℝ) (KR : ℕ → Fin 128 → ℝ)
  (hQ : ∀ d, x0 (ix3 h r d) = (Q d : EReal)) (hQR : ∀ d, x1 (ix3 h r d) = (QR d : EReal))
  (hKV : ∀ (n : Fin 2048) d, x2 (ix2 n d) = (KV n d : EReal)) (hKR : ∀ (n : Fin 2048) d, x3 (ix2 n d) = (KR n d : EReal))

include hQ hQR hKV hKR in
/-- An entry of the output block is the softmax-weighted sum of the values. -/
theorem out_apply (d : Fin 256) :
    out0_A_4 (F := Ideal) c i arg2 harg2 arg3 harg3 arg4 harg4 arg5 harg5 arg6 harg6 arg7 harg7 arg8 harg8 arg9 harg9 x0 x1 x2 x3 (ix3 h r d)
      = softsum (score Q QR KV KR) KV (512 * (i 1).val + r.val) d := by
  have h3 : (i 1).val < 4 := (i 1).isLt
  have hs := loop_seen Variants.none none i arg2 harg2 arg3 harg3 arg4 harg4 arg5 harg5 arg6 harg6 arg7 harg7 arg8 harg8 arg9 harg9 (harg2.unread x0) (harg3.unread x1) (harg4.unread x2) (harg5.unread x3) h r Q QR KV KR
    (fun d => by rw [Memref.IsWhole.read_unread]; exact hQ d) (fun d => by rw [Memref.IsWhole.read_unread]; exact hQR d)
    (fun n d => by rw [Memref.IsWhole.read_unread]; exact hKV n d) (fun n d => by rw [Memref.IsWhole.read_unread]; exact hKR n d) c
    (arg7.view.writes (Elt Ideal) arg7.view.junk init7) (arg8.view.writes (Elt Ideal) arg8.view.junk init8)
    (arg9.view.writes (Elt Ideal) arg9.view.junk init9)
    (by rw [init7, read_whole3]; pointwise [k0_pay141, named_mask]) (by rw [init8, read_whole3]; pointwise [k0_pay142])
    (fun d => by rw [init9, read_whole3]; pointwise [k0_pay143])
    (i 1).val (by rw [trips_eq]; omega)
  rw [softsum, ← hs.quotient (T := 2048) (by omega) (by omega) d]
  have ht : tailPieces c i arg2 harg2 arg3 harg3 arg4 harg4 arg5 harg5 arg6 harg6 arg7 harg7 arg8 harg8 arg9 harg9 x0 x1 x2 x3 (k0_t2_loop i).trips = ([], [], []) := by
    rw [tail_trips]; rfl
  unfold out0_A_4
  rw [run_out, read_pieces, finalHead_apply, ht, trips_eq]
  unfold View.readCov
  rw [readAt_head, readAt_head, List.nil_append, List.nil_append, View.writes_append, View.writes_append]
  rfl
end
end Cert.Attn1
end
-- ==== Proof.AttnValue.lean ====
/-
  THE RESULT ARRAY of the prompt attention, read at an index: block `t` of 512 tokens is written by grid point
  `t`, which reads those tokens' queries and the keys of batch `t / 4`.
-/
module
public import proofs.«01_k».proof.Proof.Block
@[expose] public section
noncomputable section
namespace Cert.Attn1
open Cert.AttnIdeal Cert.AttnIdeal.Gen Idealize.ShloMosaic Idealize.ShloMosaic.TcCoe Idealize.SL.Sem

theorem coord_eq : ∀ t : Fin cfg0.N, (grid0.coords t 1).val = t.val % 4 :=
  (by decide +kernel : ∀ t : Fin grid0.N, (grid0.coords t 1).val = t.val % 4)
theorem idx0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)
theorem idx1 : ∀ t : Fin cfg0.N, win0_1.index t 0 = 0 ∧ win0_1.index t 1 = t.val ∧ win0_1.index t 2 = 0 :=
  (by decide +kernel : ∀ t : Fin grid0.N, win0_1.index t 0 = 0 ∧ win0_1.index t 1 = t.val ∧ win0_1.index t 2 = 0)
theorem idx2 : ∀ t : Fin cfg0.N, win0_2.index t 0 = t.val / 4 ∧ win0_2.index t 1 = 0 :=
  (by decide +kernel : ∀ t : Fin grid0.N, win0_2.index t 0 = t.val / 4 ∧ win0_2.index t 1 = 0)
theorem idx3 : ∀ t : Fin cfg0.N, win0_3.index t 0 = t.val / 4 ∧ win0_3.index t 1 = 0 :=
  (by decide +kernel : ∀ t : Fin grid0.N, win0_3.index t 0 = t.val / 4 ∧ win0_3.index t 1 = 0)
theorem idx4 : ∀ t : Fin cfg0.N, win0_4.index t 0 = 0 ∧ win0_4.index t 1 = t.val ∧ win0_4.index t 2 = 0 :=
  (by decide +kernel : ∀ t : Fin grid0.N, win0_4.index t 0 = 0 ∧ win0_4.index t 1 = t.val ∧ win0_4.index t 2 = 0)
theorem flush4 : ∀ t : Fin cfg0.N, (cfg0.win 4).flush t = true :=
  (by decide +kernel : ∀ t : Fin grid0.N, win0_4.flush t = true)

variable (m : (ℓ : Loc nD τ sig) → Buf (Elt Ideal) ℓ) (c : Dev nD)

/-- A staged query block is the token block's rows. -/
theorem X0_apply (t : Fin cfg0.N) (h : Fin 8) (r : Fin 512) (d : Fin 256) (hn : 512 * t.val + r.val < 8320) :
    X0_0 m c t (ix3 h r d) = m ((c : Thread nD τ).loc main_arg0) (ix3 h ⟨512 * t.val + r.val, hn⟩ d) := by
  unfold X0_0 Pipeline.Window.fill
  rw [dif_pos (moved0_0 t _)]
  unfold iblk
  rw [View.read_apply]
  show V m c main_arg0 _ = m (c.tc.loc main_arg0) _
  unfold V
  have hi := idx0 t
  congr 1
  funext a
  apply Fin.ext
  match a with
  | ⟨0, _⟩ => show win0_0.index t 0 * 8 + 1 * h.val = h.val; rw [hi.1]; omega
  | ⟨1, _⟩ => show win0_0.index t 1 * 512 + 1 * r.val = 512 * t.val + r.val; rw [hi.2.1]; omega
  | ⟨2, _⟩ => show win0_0.index t 2 * 256 + 1 * d.val = d.val; rw [hi.2.2]; omega

theorem X1_apply (t : Fin cfg0.N) (h : Fin 8) (r : Fin 512) (d : Fin 128) (hn : 512 * t.val + r.val < 8320) :
    X0_1 m c t (ix3 h r d) = m ((c : Thread nD τ).loc main_arg1) (ix3 h ⟨512 * t.val + r.val, hn⟩ d) := by
  unfold X0_1 Pipeline.Window.fill
  rw [dif_pos (moved0_1 t _)]
  unfold iblk
  rw [View.read_apply]
  show V m c main_arg1 _ = m (c.tc.loc main_arg1) _
  unfold V
  have hi := idx1 t
  congr 1
  funext a
  apply Fin.ext
  match a with
  | ⟨0, _⟩ => show win0_1.index t 0 * 8 + 1 * h.val = h.val; rw [hi.1]; omega
  | ⟨1, _⟩ => show win0_1.index t 1 * 512 + 1 * r.val = 512 * t.val + r.val; rw [hi.2.1]; omega
  | ⟨2, _⟩ => show win0_1.index t 2 * 128 + 1 * d.val = d.val; rw [hi.2.2]; omega

/-- A staged key block is its batch's rows. -/
theorem X2_apply (t : Fin cfg0.N) (r : Fin 2048) (d : Fin 256) (hn : 2048 * (t.val / 4) + r.val < 8320) :
    X0_2 m c t (ix2 r d) = m ((c : Thread nD τ).loc main_arg2) (ix2 ⟨2048 * (t.val / 4) + r.val, hn⟩ d) := by
  unfold X0_2 Pipeline.Window.fill
  rw [dif_pos (moved0_2 t _)]
  unfold iblk
  rw [View.read_apply]
  show V m c main_arg2 _ = m (c.tc.loc main_arg2) _
  unfold V
  have hi := idx2 t
  congr 1
  funext a
  apply Fin.ext
  match a with
  | ⟨0, _⟩ => show win0_2.index t 0 * 2048 + 1 * r.val = 2048 * (t.val / 4) + r.val; rw [hi.1]; omega
  | ⟨1, _⟩ => show win0_2.index t 1 * 256 + 1 * d.val = d.val; rw [hi.2]; omega

theorem X3_apply (t : Fin cfg0.N) (r : Fin 2048) (d : Fin 128) (hn : 2048 * (t.val / 4) + r.val < 8320) :
    X0_3 m c t (ix2 r d) = m ((c : Thread nD τ).loc main_arg3) (ix2 ⟨2048 * (t.val / 4) + r.val, hn⟩ d) := by
  unfold X0_3 Pipeline.Window.fill
  rw [dif_pos (moved0_3 t _)]
  unfold iblk
  rw [View.read_apply]
  show V m c main_arg3 _ = m (c.tc.loc main_arg3) _
  unfold V
  have hi := idx3 t
  congr 1
  funext a
  apply Fin.ext
  match a with
  | ⟨0, _⟩ => show win0_3.index t 0 * 2048 + 1 * r.val = 2048 * (t.val / 4) + r.val; rw [hi.1]; omega
  | ⟨1, _⟩ => show win0_3.index t 1 * 128 + 1 * d.val = d.val; rw [hi.2]; omega

/-- An entry of the result array. -/
theorem result_apply (h0 : IsReal (m ((c : Thread nD τ).loc main_arg0))) (h1 : IsReal (m ((c : Thread nD τ).loc main_arg1)))
    (h2 : IsReal (m ((c : Thread nD τ).loc main_arg2))) (h3 : IsReal (m ((c : Thread nD τ).loc main_arg3)))
    (h : Fin 8) (n : Fin 8192) (d : Fin 256) :
    (dats m 0 c).arrAt 4 cfg0.N (ix3 h n d)
      = attn (m ((c : Thread nD τ).loc main_arg0)) (m ((c : Thread nD τ).loc main_arg1))
          (m ((c : Thread nD τ).loc main_arg2)) (m ((c : Thread nD τ).loc main_arg3)) h n.val d := by
  have hN : cfg0.N = 16 := by decide +kernel
  have hn := n.isLt
  let t : Fin cfg0.N := ⟨n.val / 512, by rw [hN]; omega⟩
  have htv : t.val = n.val / 512 := rfl
  let r : Fin 512 := ⟨n.val % 512, Nat.mod_lt _ (by omega)⟩
  have hr : r.val = n.val % 512 := rfl
  have hb := congrFun (Cert.AttnIdeal.Value.blocks4 m c t (flush4 t)) (ix3 h r d)
  rw [Cert.AttnIdeal.Value.flushed4_A, View.read_apply] at hb
  have hi := idx4 t
  have he : ((cfg0.win 4).blk t).view.emb (ix3 h r d) = ix3 h n d := by
    funext a
    apply Fin.ext
    match a with
    | ⟨0, _⟩ => show win0_4.index t 0 * 8 + 1 * h.val = h.val; rw [hi.1]; omega
    | ⟨1, _⟩ => show win0_4.index t 1 * 512 + 1 * r.val = n.val; rw [hi.2.1]; omega
    | ⟨2, _⟩ => show win0_4.index t 2 * 256 + 1 * d.val = d.val; rw [hi.2.2]; omega
  rw [he] at hb
  refine hb.trans ?_
  have ho := out_apply c (grid0.coords t) (ms0_0 t) (hs0_0 t) (ms0_1 t) (hs0_1 t) (ms0_2 t) (hs0_2 t) (ms0_3 t) (hs0_3 t) (ms0_4 t) (hs0_4 t)
    scM0_0 (Memref.isWhole_whole _) scM0_1 (Memref.isWhole_whole _) scM0_2 (Memref.isWhole_whole _)
    (X0_0 m c t) (X0_1 m c t) (X0_2 m c t) (X0_3 m c t) h r
    (row3 (m ((c : Thread nD τ).loc main_arg0)) h n.val) (row3 (m ((c : Thread nD τ).loc main_arg1)) h n.val)
    (fun k => row2 (m ((c : Thread nD τ).loc main_arg2)) (2048 * (n.val / 2048) + k))
    (fun k => row2 (m ((c : Thread nD τ).loc main_arg3)) (2048 * (n.val / 2048) + k))
    (fun d => by
      rw [X0_apply m c t h r d (by omega), coe_row3 h0 h _ (by omega)]
      rw [show 512 * t.val + r.val = n.val by omega])
    (fun d => by
      rw [X1_apply m c t h r d (by omega), coe_row3 h1 h _ (by omega)]
      rw [show 512 * t.val + r.val = n.val by omega])
    (fun k d => by
      rw [X2_apply m c t k d (by omega), coe_row2 h2 _ (by omega)]
      rw [show t.val / 4 = n.val / 2048 by omega])
    (fun k d => by
      rw [X3_apply m c t k d (by omega), coe_row2 h3 _ (by omega)]
      rw [show t.val / 4 = n.val / 2048 by omega]) d
  rw [coord_eq, show 512 * (t.val % 4) + r.val = n.val % 2048 by omega] at ho
  exact ho

end Cert.Attn1
end
-- ==== Proof.RefValue.lean ====
/-
  THE REFERENCE of the prompt attention, read at an index: the same softmax-weighted sum.
-/
module
public import proofs.«01_k».proof.Proof.Spec
public import proofs.«01_k».proof.Proof.Gen.AttnRefIdeal.Read
@[expose] public section
noncomputable section
namespace Cert.Attn1
open Cert.AttnRefIdeal Cert.AttnRefIdeal.Gen Cert.AttnRefIdeal.Read Idealize.ShloMosaic

/-- Small numbers compare as words as they do as numbers. -/
theorem sle_ofNat (a b : ℕ) (ha : a < 2 ^ 31) (hb : b < 2 ^ 31) :
    IntOp.cmpi CmpIPredicate.sle (BitVec.ofNat 32 a) (BitVec.ofNat 32 b) = 1#1 ↔ a ≤ b := by
  have h : (BitVec.ofNat 32 a).sle (BitVec.ofNat 32 b) = decide (a ≤ b) := by
    rw [BitVec.sle_eq_decide, BitVec.toInt_eq_toNat_of_lt, BitVec.toInt_eq_toNat_of_lt]
    · simp only [BitVec.toNat_ofNat, Nat.mod_eq_of_lt (show a < 2 ^ 32 by omega), Nat.mod_eq_of_lt (show b < 2 ^ 32 by omega)]
      simp
    · rw [BitVec.toNat_ofNat, Nat.mod_eq_of_lt (by omega)]; omega
    · rw [BitVec.toNat_ofNat, Nat.mod_eq_of_lt (by omega)]; omega
  simp only [IntOp.cmpi, h]
  by_cases hle : a ≤ b <;> simp [hle]

/-- A selection between two numbers. -/
theorem select_eq (c : BitVec 1) (a b : EReal) : Scalar.select c a b = if c = 1#1 then a else b := rfl

variable (x0 : (⟨S8x8320x256, .bf16⟩ : BufTy).Contents (Elt Ideal)) (x1 : (⟨S8x8320x128, .bf16⟩ : BufTy).Contents (Elt Ideal))
  (x2 : (⟨S8320x256, .bf16⟩ : BufTy).Contents (Elt Ideal)) (x3 : (⟨S8320x128, .bf16⟩ : BufTy).Contents (Elt Ideal))

theorem v2_apply (h : Fin 8) (b : Fin 4) (q : Fin 2048) (d : Fin 256) (hn : 2048 * b.val + q.val < 8320) :
    val_main_v2 (F := Ideal) x0 (ix4 h b q d) = x0 (ix3 h ⟨2048 * b.val + q.val, hn⟩ d) := by
  rw [val_main_v2_apply, val_main_v1_apply, val_main_v0_apply]
  refine congrArg x0 (funext fun a => Fin.ext ?_)
  have := h.isLt; have := b.isLt; have := q.isLt; have := d.isLt
  match a with
  | ⟨0, _⟩ => show (((h.val * 4 + b.val) * 2048 + q.val) * 256 + d.val) / 2097152 = h.val; omega
  | ⟨1, _⟩ => show (((h.val * 4 + b.val) * 2048 + q.val) * 256 + d.val) / 256 % 8192 = 2048 * b.val + q.val; omega
  | ⟨2, _⟩ => show (((h.val * 4 + b.val) * 2048 + q.val) * 256 + d.val) % 256 = d.val; omega

theorem v5_apply (h : Fin 8) (b : Fin 4) (q : Fin 2048) (d : Fin 128) (hn : 2048 * b.val + q.val < 8320) :
    val_main_v5 (F := Ideal) x1 (ix4 h b q d) = x1 (ix3 h ⟨2048 * b.val + q.val, hn⟩ d) := by
  rw [val_main_v5_apply, val_main_v4_apply, val_main_v3_apply]
  refine congrArg x1 (funext fun a => Fin.ext ?_)
  have := h.isLt; have := b.isLt; have := q.isLt; have := d.isLt
  match a with
  | ⟨0, _⟩ => show (((h.val * 4 + b.val) * 2048 + q.val) * 128 + d.val) / 1048576 = h.val; omega
  | ⟨1, _⟩ => show (((h.val * 4 + b.val) * 2048 + q.val) * 128 + d.val) / 128 % 8192 = 2048 * b.val + q.val; omega
  | ⟨2, _⟩ => show (((h.val * 4 + b.val) * 2048 + q.val) * 128 + d.val) % 128 = d.val; omega

theorem v8_apply (b : Fin 4) (k : Fin 2048) (d : Fin 256) (hn : 2048 * b.val + k.val < 8320) :
    val_main_v8 (F := Ideal) x2 (ix3 b k d) = x2 (ix2 ⟨2048 * b.val + k.val, hn⟩ d) := by
  rw [val_main_v8_apply, val_main_v7_apply, val_main_v6_apply]
  refine congrArg x2 (funext fun a => Fin.ext ?_)
  have := b.isLt; have := k.isLt; have := d.isLt
  match a with
  | ⟨0, _⟩ => show ((b.val * 2048 + k.val) * 256 + d.val) / 256 = 2048 * b.val + k.val; omega
  | ⟨1, _⟩ => show ((b.val * 2048 + k.val) * 256 + d.val) % 256 = d.val; omega

theorem v11_apply (b : Fin 4) (k : Fin 2048) (d : Fin 128) (hn : 2048 * b.val + k.val < 8320) :
    val_main_v11 (F := Ideal) x3 (ix3 b k d) = x3 (ix2 ⟨2048 * b.val + k.val, hn⟩ d) := by
  rw [val_main_v11_apply, val_main_v10_apply, val_main_v9_apply]
  refine congrArg x3 (funext fun a => Fin.ext ?_)
  have := b.isLt; have := k.isLt; have := d.isLt
  match a with
  | ⟨0, _⟩ => show ((b.val * 2048 + k.val) * 128 + d.val) / 128 = 2048 * b.val + k.val; omega
  | ⟨1, _⟩ => show ((b.val * 2048 + k.val) * 128 + d.val) % 128 = d.val; omega

section
variable (h0 : IsReal x0) (h1 : IsReal x1) (h2 : IsReal x2) (h3 : IsReal x3) (h : Fin 8) (b : Fin 4) (q : Fin 2048)

/-- The scores of head `h`, batch `b`, position `q`. -/
abbrev refScore : ℕ → ℝ :=
  score (row3 x0 h (2048 * b.val + q.val)) (row3 x1 h (2048 * b.val + q.val))
    (fun k => row2 x2 (2048 * b.val + k)) (fun k => row2 x3 (2048 * b.val + k))

theorem v13_apply (k : Fin 2048) : val_main_v13 (F := Ideal) x0 x2 (ix4 b h q k)
    = ∑ d : Fin 256, (val_main_v2 (F := Ideal) x0 (ix4 h b q d) * val_main_v8 (F := Ideal) x2 (ix3 b k d) : EReal) := by
  pointwise [val_main_v13]

theorem v15_apply (k : Fin 2048) : val_main_v15 (F := Ideal) x1 x3 (ix4 b h q k)
    = ∑ d : Fin 128, (val_main_v5 (F := Ideal) x1 (ix4 h b q d) * val_main_v11 (F := Ideal) x3 (ix3 b k d) : EReal) := by
  pointwise [val_main_v15]

theorem mask_apply (k : Fin 2048) : val_main_call0_v1 (F := Ideal) (ix4 b h q k)
    = IntOp.cmpi CmpIPredicate.sle (BitVec.ofNat 32 k.val) (BitVec.ofNat 32 q.val) := by
  rw [val_main_call0_v1_apply, val_main_v22_apply, val_main_v21_apply, val_main_v20_apply, val_main_v19_apply, val_main_v18_apply,
    val_main_v12_apply, val_main_v12_apply]
  rfl

theorem hidden_apply (k : Fin 2048) : val_main_call0_v2 (F := Ideal) (ix4 b h q k) = (⊥ : EReal) := by
  rw [val_main_call0_v2_apply, val_main_call0_v0_apply, val_main_cst_0_apply]
  exact negInf

theorem v25_apply (k : Fin 2048) : val_main_v25 (F := Ideal) x0 x1 x2 x3 (ix4 b h q k)
    = ((val_main_v13 (F := Ideal) x0 x2 (ix4 b h q k) + val_main_v15 (F := Ideal) x1 x3 (ix4 b h q k)) * (sc : EReal) : EReal) := by
  pointwise [val_main_v25, val_main_v24, val_main_v23, val_main_v17, val_main_v16, val_main_v14, val_main_cst, sc_bits]

include h0 h1 h2 h3 in
theorem v26_apply (k : Fin 2048) : val_main_v26 (F := Ideal) x0 x1 x2 x3 (ix4 b h q k) = masked (refScore x0 x1 x2 x3 h b q) q.val k.val := by
  have hs : val_main_v26 (F := Ideal) x0 x1 x2 x3 (ix4 b h q k)
      = if IntOp.cmpi CmpIPredicate.sle (BitVec.ofNat 32 k.val) (BitVec.ofNat 32 q.val) = 1#1
        then ((val_main_v13 (F := Ideal) x0 x2 (ix4 b h q k) + val_main_v15 (F := Ideal) x1 x3 (ix4 b h q k)) * (sc : EReal) : EReal) else (⊥ : EReal) := by
    rw [val_main_v26_apply, mask_apply, hidden_apply, v25_apply]
    exact select_eq _ _ _
  have hk := k.isLt
  have hq := q.isLt
  have hb := b.isLt
  rw [hs, v13_apply, v15_apply, masked]
  refine if_congr (sle_ofNat _ _ (by omega) (by omega)) ?_ rfl
  simp only [v2_apply x0 h b q _ (by omega), v5_apply x1 h b q _ (by omega), v8_apply x2 b k _ (by omega), v11_apply x3 b k _ (by omega),
    coe_row3 h0, coe_row3 h1, coe_row2 h2, coe_row2 h3]
  simp only [score, EReal.coe_mul, EReal.coe_add, coe_sum]

/-- The maximum over the last axis of any array of scores. -/
theorem reduce_max (y : FVec Ideal S4x8x2048x2048 .f32) :
    Host.reduce FloatOps.maximumf y (val_main_cst_1 (F := Ideal)) reducesTo_S4x8x2048x2048_S4x8x2048_d3 h_S_ (ix3 b h q)
      = Finset.univ.fold max (⊥ : EReal) fun k : Fin 2048 => y (ix4 b h q k) := by
  pointwise [val_main_cst_1, negInf]

include h0 h1 h2 h3 in
theorem v29_apply : val_main_v29 (F := Ideal) x0 x1 x2 x3 (ix3 b h q)
    = max ⊥ (Finset.univ.fold max (⊥ : EReal) fun k : Fin 2048 => masked (refScore x0 x1 x2 x3 h b q) q.val k.val) := by
  have hl : val_main_v28 (F := Ideal) (ix3 b h q) = (⊥ : EReal) := by
    rw [val_main_v28_apply, val_main_cst_2_apply]
    exact negInf
  have hr : val_main_v27 (F := Ideal) x0 x1 x2 x3 (ix3 b h q)
      = Finset.univ.fold max (⊥ : EReal) fun k : Fin 2048 => masked (refScore x0 x1 x2 x3 h b q) q.val k.val := by
    unfold val_main_v27
    rw [reduce_max]
    simp only [v26_apply x0 x1 x2 x3 h0 h1 h2 h3]
  rw [val_main_v29_apply, hl, hr]
  rfl

theorem v33_apply (k : Fin 2048) : val_main_v33 (F := Ideal) x0 x1 x2 x3 (ix4 b h q k)
    = Ideal.exp (val_main_v26 (F := Ideal) x0 x1 x2 x3 (ix4 b h q k) - val_main_v29 (F := Ideal) x0 x1 x2 x3 (ix3 b h q)) := by
  pointwise [val_main_v33, val_main_v32, val_main_v31, val_main_v30]

theorem v39_apply (k : Fin 2048) : val_main_v39 (F := Ideal) x0 x1 x2 x3 (ix4 b h q k)
    = Ideal.div (val_main_v33 (F := Ideal) x0 x1 x2 x3 (ix4 b h q k)) (∑ j : Fin 2048, val_main_v33 (F := Ideal) x0 x1 x2 x3 (ix4 b h q j)) := by
  pointwise [val_main_v39, val_main_v38, val_main_v37, val_main_v36, val_main_v35, val_main_v34, val_main_cst_3]

theorem v40_apply (d : Fin 256) : val_main_v40 (F := Ideal) x0 x1 x2 x3 (ix4 b d h q)
    = ∑ k : Fin 2048, (val_main_v8 (F := Ideal) x2 (ix3 b k d) * val_main_v39 (F := Ideal) x0 x1 x2 x3 (ix4 b h q k) : EReal) := by
  pointwise [val_main_v40]
end

/-- An entry of the reference's result. -/
theorem ref_apply (h0 : IsReal x0) (h1 : IsReal x1) (h2 : IsReal x2) (h3 : IsReal x3) (h : Fin 8) (n : Fin 8192) (d : Fin 256) :
    val_main_v43 (F := Ideal) x0 x1 x2 x3 (ix3 h n d) = attn x0 x1 x2 x3 h n.val d := by
  have hn := n.isLt
  have hh := h.isLt
  have hd := d.isLt
  let b : Fin 4 := ⟨n.val / 2048, by omega⟩
  let q : Fin 2048 := ⟨n.val % 2048, by omega⟩
  have hb : b.val = n.val / 2048 := rfl
  have hq : q.val = n.val % 2048 := rfl
  have hs : val_main_v43 (F := Ideal) x0 x1 x2 x3 (ix3 h n d) = val_main_v40 (F := Ideal) x0 x1 x2 x3 (ix4 b d h q) := by
    rw [val_main_v43_apply, val_main_v42_apply, val_main_v41_apply]
    refine congrArg (val_main_v40 (F := Ideal) x0 x1 x2 x3) (funext fun a => Fin.ext ?_)
    match a with
    | ⟨0, _⟩ => show ((h.val * 8192 + n.val) * 256 + d.val) / 524288 % 4 = n.val / 2048; omega
    | ⟨1, _⟩ => show ((h.val * 8192 + n.val) * 256 + d.val) % 256 = d.val; omega
    | ⟨2, _⟩ => show ((h.val * 8192 + n.val) * 256 + d.val) / 2097152 = h.val; omega
    | ⟨3, _⟩ => show ((h.val * 8192 + n.val) * 256 + d.val) / 256 % 2048 = n.val % 2048; omega
  rw [hs, v40_apply, attn, softsum]
  refine Finset.sum_congr rfl fun k _ => ?_
  have hk := k.isLt
  rw [v39_apply, v8_apply x2 b k d (by omega), coe_row2 h2]
  simp only [v33_apply, v26_apply x0 x1 x2 x3 h0 h1 h2 h3, v29_apply x0 x1 x2 x3 h0 h1 h2 h3]
  have hqn : 2048 * b.val + q.val = n.val := by omega
  rw [mul_comm]
  simp only [refScore, hqn]
  rfl

end Cert.Attn1
end
-- ==== Proof.Finite.lean ====
/-
  THE PRECONDITION of the prompt attention: every entry of its four arrays is a number.
-/
module
public import proofs.«01_k».proof.Proof.Spec
public import proofs.«01_k».proof.Proof.Gen.Pre_attn_finite
public import Idealize.ShloMosaic.Lib.ReduceAll
public import Idealize.ShloMosaic.Lib.Pointwise
@[expose] public section
noncomputable section
namespace Cert.Attn1
open Cert.Pre_attn_finite Cert.Pre_attn_finite.Gen Idealize.ShloMosaic

/-- The constant the predicate compares with is infinity. -/
theorem posInf : (FloatOps.ofBits .f32 0x7F800000#32 : Ideal .f32) = (⊤ : EReal) := by
  show Ideal.ofBits .f32 0x7F800000#32 = (⊤ : EReal)
  simp [Ideal.ofBits, Ideal.ieee]

/-- A value whose size is below infinity is a number. -/
theorem number_of_lt (x : EReal) (h : max x (-x) < ⊤) : x ≠ ⊤ ∧ x ≠ ⊥ := by
  constructor <;> rintro rfl <;> simp at h

/-- An array all of whose sizes are below infinity holds numbers. -/
theorem isReal_of_all {s : Shape} (A : s.Idx → EReal) (hb : S_.BroadcastsInDim s ![])
    (e : ∀ i, cmpf (F := Ideal) (φ := .f32) .olt (Host.absf A) (broadcastInDim s ![] hb (constant S_ .f32 0x7F800000#32)) i = 1#1) :
    IsReal A := fun i => by
  refine number_of_lt _ ?_
  have h := e i
  change Ideal.cmp .olt (max (A i) (-(A i))) (FloatOps.ofBits .f32 0x7F800000#32 : Ideal .f32) = 1 at h
  rw [posInf] at h
  exact (Ideal.cmp_olt_eq_one _ _).1 h

variable (x0 : (⟨S8x8320x256, .bf16⟩ : BufTy).Contents (Elt Ideal)) (x1 : (⟨S8x8320x128, .bf16⟩ : BufTy).Contents (Elt Ideal))
  (x2 : (⟨S8320x256, .bf16⟩ : BufTy).Contents (Elt Ideal)) (x3 : (⟨S8320x128, .bf16⟩ : BufTy).Contents (Elt Ideal))

/-- What the precondition says. -/
theorem finite (e : fn (F := Ideal) x0 x1 x2 x3 = fun _ => 1#1) : IsReal x0 ∧ IsReal x1 ∧ IsReal x2 ∧ IsReal x3 := by
  have h := congrFun e ix0
  dsimp only [fn, fn_part1] at h
  obtain ⟨h, h3⟩ := IntOp.andi_eq_one.1 h
  obtain ⟨h, h2⟩ := IntOp.andi_eq_one.1 h
  obtain ⟨h0, h1⟩ := IntOp.andi_eq_one.1 h
  haveI : Subsingleton S_.Idx := ⟨fun a b => funext fun k => k.elim0⟩
  exact ⟨isReal_of_all x0 _ (Host.reduce_andi_all _ _ _ _ _ h0), isReal_of_all x1 _ (Host.reduce_andi_all _ _ _ _ _ h1),
    isReal_of_all x2 _ (Host.reduce_andi_all _ _ _ _ _ h2), isReal_of_all x3 _ (Host.reduce_andi_all _ _ _ _ _ h3)⟩

end Cert.Attn1
-- ==== Proof.Product.lean ====
/-
  PRODUCTS WITH A STACK OF WEIGHTS: rows of activations times the first matrix of a stack of two.
-/
module
public import Idealize.ShloMosaic.Lib.Pipeline.ValueKit
@[expose] public section
noncomputable section
namespace Cert.Product1
open Idealize.ShloMosaic

/-- Entry `(n, d)` of the activations times the first weight matrix. -/
def product {M K N : ℕ} (A : (⟨2, ![M, K]⟩ : Shape).Idx → EReal) (W : (⟨3, ![2, K, N]⟩ : Shape).Idx → EReal)
    (n : Fin M) (d : Fin N) : EReal := ∑ k : Fin K, A (ix2 n k) * W (ix3 0 k d)

end Cert.Product1
end
-- ==== Proof.GateUp.lean ====
/-
  THE GATED UP-PROJECTION of the feed-forward half: block `(i, j)` takes two products over the whole inner axis,
  with the gate's and the value's columns, and joins them by the gated activation.
-/
module
public import proofs.«01_k».proof.Proof.Gen.GateUpIdeal.Value
public import proofs.«01_k».proof.Proof.Gen.GateUpRefIdeal.Run
public import proofs.«01_k».proof.Proof.Gen.GateUpRefIdeal.Read
public import proofs.«01_k».proof.Proof.Product
@[expose] public section
noncomputable section
namespace Cert.GateUp1
open Cert.Product1 Cert.GateUpIdeal Cert.GateUpIdeal.Gen Idealize.ShloMosaic Idealize.ShloMosaic.TcCoe Idealize.SL.Sem

/-- The gated activation of two numbers. -/
def gated (a b : EReal) : EReal := a * Ideal.div 1 (1 + Ideal.exp (-a)) * b

theorem idxA : ∀ t : Fin cfg0.N, win0_0.index t 0 = t.val / 43 ∧ win0_0.index t 1 = 0
    ∧ win0_1.index t 0 = 0 ∧ win0_1.index t 1 = 0 ∧ win0_1.index t 2 = t.val % 43 :=
  (by decide +kernel : ∀ t : Fin grid0.N, win0_0.index t 0 = t.val / 43 ∧ win0_0.index t 1 = 0
    ∧ win0_1.index t 0 = 0 ∧ win0_1.index t 1 = 0 ∧ win0_1.index t 2 = t.val % 43)
theorem idxB : ∀ t : Fin cfg0.N, win0_2.index t 0 = 0 ∧ win0_2.index t 1 = 0 ∧ win0_2.index t 2 = t.val % 43 + 43
    ∧ win0_3.index t 0 = t.val / 43 ∧ win0_3.index t 1 = t.val % 43 :=
  (by decide +kernel : ∀ t : Fin grid0.N, win0_2.index t 0 = 0 ∧ win0_2.index t 1 = 0 ∧ win0_2.index t 2 = t.val % 43 + 43
    ∧ win0_3.index t 0 = t.val / 43 ∧ win0_3.index t 1 = t.val % 43)
theorem flush3 : ∀ t : Fin cfg0.N, (cfg0.win 3).flush t = true :=
  (by decide +kernel : ∀ t : Fin grid0.N, win0_3.flush t = true)

/-- What a block's store leaves: the payload of the three staged blocks. -/
theorem out_eq (x0 : Vec Ideal S2080x4096 .bf16) (x1 x2 : Vec Ideal S1x4096x256 .f32) : out0_3 x0 x1 x2 = k0_pay1 x0 x1 x2 := by
  have hz2 : (![0, 0] : Fin 2 → Nat) = fun _ => 0 := funext fun a => by fin_cases a <;> rfl
  have hz3 : (![0, 0, 0] : Fin 3 → Nat) = fun _ => 0 := funext fun a => by fin_cases a <;> rfl
  unfold out0_3
  rw [View.canon_unit_zero hz2, View.ld_unit_zero hz2, View.ld_unit_zero hz3, View.ld_unit_zero hz3]

/-- The payload at an index. -/
theorem pay_apply (x0 : Vec Ideal S2080x4096 .bf16) (x1 x2 : Vec Ideal S1x4096x256 .f32) (r : Fin 2080) (j : Fin 256) :
    k0_pay1 x0 x1 x2 (ix2 r j) = gated (∑ k : Fin 4096, (x0 (ix2 r k) * x1 (ix3 0 k j) : EReal))
      (∑ k : Fin 4096, (x0 (ix2 r k) * x2 (ix3 0 k j) : EReal)) := by
  unfold gated
  pointwise [k0_pay1]
  rfl

variable (m : (ℓ : Loc nD τ sig) → Buf (Elt Ideal) ℓ) (c : Dev nD)

/-- The result at an index. -/
theorem result_apply (n : Fin 8320) (d : Fin 11008) : (dats m 0 c).arrAt 3 cfg0.N (ix2 n d)
    = gated (product (m ((c : Thread nD τ).loc main_arg0)) (m ((c : Thread nD τ).loc main_arg1)) n (⟨d.val, by omega⟩ : Fin 22016))
        (product (m ((c : Thread nD τ).loc main_arg0)) (m ((c : Thread nD τ).loc main_arg1)) n (⟨11008 + d.val, by omega⟩ : Fin 22016)) := by
  have hN : cfg0.N = 172 := by decide +kernel
  have hn := n.isLt
  have hd := d.isLt
  let t : Fin cfg0.N := ⟨43 * (n.val / 2080) + d.val / 256, by rw [hN]; omega⟩
  have htv : t.val = 43 * (n.val / 2080) + d.val / 256 := rfl
  let r : Fin 2080 := ⟨n.val % 2080, Nat.mod_lt _ (by omega)⟩
  have hr : r.val = n.val % 2080 := rfl
  let j : Fin 256 := ⟨d.val % 256, Nat.mod_lt _ (by omega)⟩
  have hj : j.val = d.val % 256 := rfl
  have hi := idxA t
  have hi' := idxB t
  have hb := congrFun (Cert.GateUpIdeal.Value.blocks3 m c t (flush3 t)) (ix2 r j)
  rw [Cert.GateUpIdeal.Value.flushed3, View.read_apply] at hb
  have he : ((cfg0.win 3).blk t).view.emb (ix2 r j) = ix2 n d := by
    funext a
    apply Fin.ext
    match a with
    | ⟨0, _⟩ => show win0_3.index t 0 * 2080 + 1 * r.val = n.val; rw [hi'.2.2.2.1]; omega
    | ⟨1, _⟩ => show win0_3.index t 1 * 256 + 1 * j.val = d.val; rw [hi'.2.2.2.2]; omega
  rw [he] at hb
  refine hb.trans ?_
  show out0_3 (iblk m c 0 t) (iblk m c 1 t) (iblk m c 2 t) (ix2 r j) = _
  rw [out_eq, pay_apply]
  unfold product
  congr 1
  · refine Finset.sum_congr rfl fun k _ => ?_
    congr 1
    · blk_ext! [iblk, V, hi]
    · blk_ext! [iblk, V, hi]
  · refine Finset.sum_congr rfl fun k _ => ?_
    congr 1
    · blk_ext! [iblk, V, hi]
    · blk_ext! [iblk, V, hi']

open Cert.GateUpRefIdeal.Read in
/-- The reference's product at an index. -/
theorem ref_product (x0 : (⟨Cert.GateUpRefIdeal.S8320x4096, .bf16⟩ : BufTy).Contents (Elt Ideal))
    (x1 : (⟨Cert.GateUpRefIdeal.S2x4096x22016, .f32⟩ : BufTy).Contents (Elt Ideal)) (n : Fin 8320) (d : Fin 22016) :
    val_main_v3 (F := Ideal) x0 x1 (ix2 n d) = product x0 x1 n d := by
  refine (val_main_v3_apply x0 x1 (ix2 n d)).trans (Finset.sum_congr rfl fun k _ => ?_)
  rw [val_main_v2_apply, val_main_v1_apply, val_main_v0_apply]
  congr 1
  · refine congrArg x0 (funext fun a => Fin.ext ?_)
    match a with
    | ⟨0, _⟩ => rfl
    | ⟨1, _⟩ => rfl
  · refine congrArg x1 (funext fun a => Fin.ext ?_)
    match a with
    | ⟨0, _⟩ => rfl
    | ⟨1, _⟩ => show (k.val * 22016 + d.val) / 22016 % 4096 = k.val; omega
    | ⟨2, _⟩ => show (k.val * 22016 + d.val) % 22016 = d.val; omega

open Cert.GateUpRefIdeal.Read in
/-- The reference at an index. -/
theorem ref_apply (x0 : (⟨Cert.GateUpRefIdeal.S8320x4096, .bf16⟩ : BufTy).Contents (Elt Ideal))
    (x1 : (⟨Cert.GateUpRefIdeal.S2x4096x22016, .f32⟩ : BufTy).Contents (Elt Ideal)) (n : Fin 8320) (d : Fin 11008) :
    val_main_v8 (F := Ideal) x0 x1 (ix2 n d)
      = gated (product x0 x1 n (⟨d.val, by omega⟩ : Fin 22016)) (product x0 x1 n (⟨11008 + d.val, by omega⟩ : Fin 22016)) := by
  have ha : val_main_v4 (F := Ideal) x0 x1 (ix2 n d) = product x0 x1 n (⟨d.val, by omega⟩ : Fin 22016) := by
    rw [val_main_v4_apply, ← ref_product]
    refine congrArg _ (funext fun a => Fin.ext ?_)
    match a with
    | ⟨0, _⟩ => rfl
    | ⟨1, _⟩ => rfl
  have hb : val_main_v5 (F := Ideal) x0 x1 (ix2 n d) = product x0 x1 n (⟨11008 + d.val, by omega⟩ : Fin 22016) := by
    rw [val_main_v5_apply, ← ref_product]
    refine congrArg _ (funext fun a => Fin.ext ?_)
    match a with
    | ⟨0, _⟩ => rfl
    | ⟨1, _⟩ => rfl
  rw [val_main_v8_apply, val_main_v7_apply, val_main_v6_apply, val_main_call0_v5_apply, val_main_call0_v3_apply,
    val_main_call0_v1_apply, val_main_call0_v0_apply, ha, hb]
  rw [val_main_call0_v4_apply, val_main_call0_v2_apply, val_main_call0_cst_apply, val_main_call0_cst_0_apply]
  unfold gated
  pointwise []

end Cert.GateUp1
end
-- ==== Proof.Down.lean ====
/-
  THE DOWN PROJECTION of the feed-forward half: block `(i, j)` of the result is a product over the whole inner
  axis, so the array is the product of the two arrays.
-/
module
public import proofs.«01_k».proof.Proof.Gen.DownIdeal.Value
public import proofs.«01_k».proof.Proof.Gen.DownRefIdeal.Run
public import proofs.«01_k».proof.Proof.Gen.DownRefIdeal.Read
public import proofs.«01_k».proof.Proof.Product
@[expose] public section
noncomputable section
namespace Cert.Down1
open Cert.Product1 Cert.DownIdeal Cert.DownIdeal.Gen Idealize.ShloMosaic Idealize.ShloMosaic.TcCoe Idealize.SL.Sem

theorem idx : ∀ t : Fin cfg0.N, win0_0.index t 0 = t.val / 16 ∧ win0_0.index t 1 = 0
    ∧ win0_1.index t 0 = 0 ∧ win0_1.index t 1 = 0 ∧ win0_1.index t 2 = t.val % 16
    ∧ win0_2.index t 0 = t.val / 16 ∧ win0_2.index t 1 = t.val % 16 :=
  (by decide +kernel : ∀ t : Fin grid0.N, win0_0.index t 0 = t.val / 16 ∧ win0_0.index t 1 = 0
    ∧ win0_1.index t 0 = 0 ∧ win0_1.index t 1 = 0 ∧ win0_1.index t 2 = t.val % 16
    ∧ win0_2.index t 0 = t.val / 16 ∧ win0_2.index t 1 = t.val % 16)
theorem flush2 : ∀ t : Fin cfg0.N, (cfg0.win 2).flush t = true :=
  (by decide +kernel : ∀ t : Fin grid0.N, win0_2.flush t = true)

/-- What a block's store leaves: the payload of the two staged blocks. -/
theorem out_eq (x0 : Vec Ideal S832x11008 .bf16) (x1 : Vec Ideal S1x11008x256 .f32) : out0_2 x0 x1 = k0_pay1 x0 x1 := by
  have hz2 : (![0, 0] : Fin 2 → Nat) = fun _ => 0 := funext fun a => by fin_cases a <;> rfl
  have hz3 : (![0, 0, 0] : Fin 3 → Nat) = fun _ => 0 := funext fun a => by fin_cases a <;> rfl
  unfold out0_2
  rw [View.canon_unit_zero hz2, View.ld_unit_zero hz2, View.ld_unit_zero hz3]

/-- The payload at an index. -/
theorem pay_apply (x0 : Vec Ideal S832x11008 .bf16) (x1 : Vec Ideal S1x11008x256 .f32) (r : Fin 832) (j : Fin 256) :
    k0_pay1 x0 x1 (ix2 r j) = ∑ k : Fin 11008, (x0 (ix2 r k) * x1 (ix3 0 k j) : EReal) := by
  pointwise [k0_pay1]

variable (m : (ℓ : Loc nD τ sig) → Buf (Elt Ideal) ℓ) (c : Dev nD)

/-- The result at an index. -/
theorem result_apply (n : Fin 8320) (d : Fin 4096) : (dats m 0 c).arrAt 2 cfg0.N (ix2 n d)
    = product (m ((c : Thread nD τ).loc main_arg0)) (m ((c : Thread nD τ).loc main_arg1)) n d := by
  have hN : cfg0.N = 160 := by decide +kernel
  have hn := n.isLt
  have hd := d.isLt
  let t : Fin cfg0.N := ⟨16 * (n.val / 832) + d.val / 256, by rw [hN]; omega⟩
  have htv : t.val = 16 * (n.val / 832) + d.val / 256 := rfl
  let r : Fin 832 := ⟨n.val % 832, Nat.mod_lt _ (by omega)⟩
  have hr : r.val = n.val % 832 := rfl
  let j : Fin 256 := ⟨d.val % 256, Nat.mod_lt _ (by omega)⟩
  have hj : j.val = d.val % 256 := rfl
  have hi := idx t
  have hb := congrFun (Cert.DownIdeal.Value.blocks2 m c t (flush2 t)) (ix2 r j)
  rw [Cert.DownIdeal.Value.flushed2, View.read_apply] at hb
  have he : ((cfg0.win 2).blk t).view.emb (ix2 r j) = ix2 n d := by
    funext a
    apply Fin.ext
    match a with
    | ⟨0, _⟩ => show win0_2.index t 0 * 832 + 1 * r.val = n.val; rw [hi.2.2.2.2.2.1]; omega
    | ⟨1, _⟩ => show win0_2.index t 1 * 256 + 1 * j.val = d.val; rw [hi.2.2.2.2.2.2]; omega
  rw [he] at hb
  refine hb.trans ?_
  show out0_2 (iblk m c 0 t) (iblk m c 1 t) (ix2 r j) = _
  rw [out_eq, pay_apply]
  unfold product
  refine Finset.sum_congr rfl fun k _ => ?_
  congr 1
  · blk_ext! [iblk, V, hi]
  · blk_ext! [iblk, V, hi]

/-- The reference at an index. -/
theorem ref_apply (x0 : (⟨Cert.DownRefIdeal.S8320x11008, .bf16⟩ : BufTy).Contents (Elt Ideal))
    (x1 : (⟨Cert.DownRefIdeal.S2x11008x4096, .f32⟩ : BufTy).Contents (Elt Ideal)) (n : Fin 8320) (d : Fin 4096) :
    Cert.DownRefIdeal.Read.val_main_v4 (F := Ideal) x0 x1 (ix2 n d) = product x0 x1 n d := by
  rw [Cert.DownRefIdeal.Read.val_main_v4_apply]
  refine (Cert.DownRefIdeal.Read.val_main_v3_apply x0 x1 (ix2 n d)).trans (Finset.sum_congr rfl fun k _ => ?_)
  rw [Cert.DownRefIdeal.Read.val_main_v2_apply, Cert.DownRefIdeal.Read.val_main_v1_apply, Cert.DownRefIdeal.Read.val_main_v0_apply]
  congr 1
  · refine congrArg x0 (funext fun a => Fin.ext ?_)
    match a with
    | ⟨0, _⟩ => rfl
    | ⟨1, _⟩ => rfl
  · refine congrArg x1 (funext fun a => Fin.ext ?_)
    match a with
    | ⟨0, _⟩ => rfl
    | ⟨1, _⟩ => show (k.val * 4096 + d.val) / 4096 % 11008 = k.val; omega
    | ⟨2, _⟩ => show (k.val * 4096 + d.val) % 4096 = d.val; omega

end Cert.Down1
end
-- ==== Proof.InProj.lean ====
/-
  THE INPUT PROJECTION: block `(i, j)` is the product over the whole inner axis of an activation block with a block of
  the transposed weights, whose first row skips the columns that belong to the two small results not stored here.
-/
module
public import proofs.«01_k».proof.Proof.Gen.InProjIdeal.Value
public import proofs.«01_k».proof.Proof.Gen.InProjRefIdeal.Run
public import proofs.«01_k».proof.Proof.Gen.InProjRefIdeal.Read
public import proofs.«01_k».proof.Proof.Product
@[expose] public section
noncomputable section
namespace Cert.InProj1
open Cert.Product1 Cert.InProjIdeal Cert.InProjIdeal.Gen Idealize.ShloMosaic Idealize.ShloMosaic.TcCoe Idealize.SL.Sem

/-- The weights' column behind a result column: sixteen columns are left out after 4096, sixty-four after 8208. -/
def src (d : Fin 24576) : Fin 24656 :=
  ⟨d.val + (if d.val < 4096 then 0 else if d.val < 8192 then 16 else 80), by have := d.isLt; split_ifs <;> omega⟩

theorem idx : ∀ t : Fin cfg0.N, win0_0.index t 0 = t.val / 48 ∧ win0_0.index t 1 = 0
    ∧ win0_1.index t 0 = 0
    ∧ win0_1.index t 1 = 512 * (t.val % 48) + (if t.val % 48 < 8 then 0 else if t.val % 48 < 16 then 16 else 80)
    ∧ win0_1.index t 2 = 0
    ∧ win0_2.index t 0 = t.val / 48 ∧ win0_2.index t 1 = t.val % 48 :=
  (by decide +kernel : ∀ t : Fin grid0.N, win0_0.index t 0 = t.val / 48 ∧ win0_0.index t 1 = 0
    ∧ win0_1.index t 0 = 0
    ∧ win0_1.index t 1 = 512 * (t.val % 48) + (if t.val % 48 < 8 then 0 else if t.val % 48 < 16 then 16 else 80)
    ∧ win0_1.index t 2 = 0
    ∧ win0_2.index t 0 = t.val / 48 ∧ win0_2.index t 1 = t.val % 48)
theorem flush2 : ∀ t : Fin cfg0.N, (cfg0.win 2).flush t = true :=
  (by decide +kernel : ∀ t : Fin grid0.N, win0_2.flush t = true)

/-- What a block's store leaves: the payload of the two staged blocks. -/
theorem out_eq (x0 : Vec Ideal S2080x4096 .bf16) (x1 : Vec Ideal S1x512x4096 .f32) : out0_2 x0 x1 = k0_pay1 x0 x1 := by
  have hz2 : (![0, 0] : Fin 2 → Nat) = fun _ => 0 := funext fun a => by fin_cases a <;> rfl
  have hz3 : (![0, 0, 0] : Fin 3 → Nat) = fun _ => 0 := funext fun a => by fin_cases a <;> rfl
  unfold out0_2
  rw [View.canon_unit_zero hz2, View.ld_unit_zero hz2, View.ld_unit_zero hz3]

/-- The payload at an index. -/
theorem pay_apply (x0 : Vec Ideal S2080x4096 .bf16) (x1 : Vec Ideal S1x512x4096 .f32) (r : Fin 2080) (j : Fin 512) :
    k0_pay1 x0 x1 (ix2 r j) = ∑ k : Fin 4096, (x0 (ix2 r k) * x1 (ix3 0 j k) : EReal) := by
  pointwise [k0_pay1]

variable (m : (ℓ : Loc nD τ sig) → Buf (Elt Ideal) ℓ) (c : Dev nD)

/-- The result at an index. -/
theorem result_apply (n : Fin 8320) (d : Fin 24576) : (dats m 0 c).arrAt 2 cfg0.N (ix2 n d)
    = product (m ((c : Thread nD τ).loc main_arg0)) (m ((c : Thread nD τ).loc main_arg1)) n (src d) := by
  have hN : cfg0.N = 192 := by decide +kernel
  have hn := n.isLt
  have hd := d.isLt
  let t : Fin cfg0.N := ⟨48 * (n.val / 2080) + d.val / 512, by rw [hN]; omega⟩
  have htv : t.val = 48 * (n.val / 2080) + d.val / 512 := rfl
  let r : Fin 2080 := ⟨n.val % 2080, Nat.mod_lt _ (by omega)⟩
  have hr : r.val = n.val % 2080 := rfl
  let j : Fin 512 := ⟨d.val % 512, Nat.mod_lt _ (by omega)⟩
  have hj : j.val = d.val % 512 := rfl
  have hi := idx t
  have hb := congrFun (Cert.InProjIdeal.Value.blocks2 m c t (flush2 t)) (ix2 r j)
  rw [Cert.InProjIdeal.Value.flushed2, View.read_apply] at hb
  have he : ((cfg0.win 2).blk t).view.emb (ix2 r j) = ix2 n d := by
    funext a
    apply Fin.ext
    match a with
    | ⟨0, _⟩ => show win0_2.index t 0 * 2080 + 1 * r.val = n.val; rw [hi.2.2.2.2.2.1]; omega
    | ⟨1, _⟩ => show win0_2.index t 1 * 512 + 1 * j.val = d.val; rw [hi.2.2.2.2.2.2]; omega
  rw [he] at hb
  refine hb.trans ?_
  show out0_2 (iblk m c 0 t) (iblk m c 1 t) (ix2 r j) = _
  rw [out_eq, pay_apply]
  unfold product
  refine Finset.sum_congr rfl fun k _ => ?_
  have hw : iblk m c 1 t (ix3 0 j k) = m ((c : Thread nD τ).loc main_arg1) (ix3 0 k (src d)) := by
    have hv : V m c main_v0 = transpose S2x24656x4096 [0, 2, 1] (m ((c : Thread nD τ).loc main_arg1)) transposes_S2x4096x24656_S2x24656x4096_0_2_1 := by
      entry_read
      rfl
    have hs : 512 * (t.val % 48) + (if t.val % 48 < 8 then 0 else if t.val % 48 < 16 then 16 else 80) + 1 * j.val = (src d).val := by
      show _ = d.val + _
      split_ifs <;> omega
    have he' : ((cfg0.win 1).blk t).view.emb (ix3 0 j k) = ix3 0 (src d) k := by
      funext a
      apply Fin.ext
      match a with
      | ⟨0, _⟩ => show win0_1.index t 0 + 1 * 0 = 0; rw [hi.2.2.1]
      | ⟨1, _⟩ => show win0_1.index t 1 + 1 * j.val = (src d).val; rw [hi.2.2.2.1]; exact hs
      | ⟨2, _⟩ => show win0_1.index t 2 + 1 * k.val = k.val; rw [hi.2.2.2.2.1]; omega
    show V m c main_v0 (((cfg0.win 1).blk t).view.emb (ix3 0 j k)) = _
    rw [he', hv]
    pointwise []
  rw [hw]
  congr 1
  blk_ext! [iblk, V, hi]

open Cert.InProjRefIdeal.Read in
/-- The reference's product at an index. -/
theorem ref_product (x0 : (⟨Cert.InProjRefIdeal.S8320x4096, .bf16⟩ : BufTy).Contents (Elt Ideal))
    (x1 : (⟨Cert.InProjRefIdeal.S2x4096x24656, .f32⟩ : BufTy).Contents (Elt Ideal)) (n : Fin 8320) (d : Fin 24656) :
    val_main_v3 (F := Ideal) x0 x1 (ix2 n d) = product x0 x1 n d := by
  refine (val_main_v3_apply x0 x1 (ix2 n d)).trans (Finset.sum_congr rfl fun k _ => ?_)
  rw [val_main_v2_apply, val_main_v1_apply, val_main_v0_apply]
  congr 1
  · refine congrArg x0 (funext fun a => Fin.ext ?_)
    match a with
    | ⟨0, _⟩ => rfl
    | ⟨1, _⟩ => rfl
  · refine congrArg x1 (funext fun a => Fin.ext ?_)
    match a with
    | ⟨0, _⟩ => rfl
    | ⟨1, _⟩ => show (k.val * 24656 + d.val) / 24656 % 4096 = k.val; omega
    | ⟨2, _⟩ => show (k.val * 24656 + d.val) % 24656 = d.val; omega

/-- Eleven arrays joined along their columns, each of them columns of `g` from a place on: the join's columns are `g`'s
    at `src`. -/
theorem join_apply (g : Fin 8320 → Fin 24656 → EReal) (f4 : Cert.InProjRefIdeal.S8320x1024.Idx → EReal) (f5 : Cert.InProjRefIdeal.S8320x1024.Idx → EReal) (f6 : Cert.InProjRefIdeal.S8320x512.Idx → EReal) (f7 : Cert.InProjRefIdeal.S8320x512.Idx → EReal) (f8 : Cert.InProjRefIdeal.S8320x1024.Idx → EReal) (f10 : Cert.InProjRefIdeal.S8320x1024.Idx → EReal) (f11 : Cert.InProjRefIdeal.S8320x1024.Idx → EReal) (f12 : Cert.InProjRefIdeal.S8320x1024.Idx → EReal) (f13 : Cert.InProjRefIdeal.S8320x768.Idx → EReal) (f14 : Cert.InProjRefIdeal.S8320x256.Idx → EReal) (f16 : Cert.InProjRefIdeal.S8320x16384.Idx → EReal)
    (hc : Shape.Concatenates [Cert.InProjRefIdeal.S8320x1024, Cert.InProjRefIdeal.S8320x1024, Cert.InProjRefIdeal.S8320x512, Cert.InProjRefIdeal.S8320x512, Cert.InProjRefIdeal.S8320x1024, Cert.InProjRefIdeal.S8320x1024, Cert.InProjRefIdeal.S8320x1024, Cert.InProjRefIdeal.S8320x1024, Cert.InProjRefIdeal.S8320x768, Cert.InProjRefIdeal.S8320x256, Cert.InProjRefIdeal.S8320x16384] Cert.InProjRefIdeal.S8320x24576 1)
    (h4 : ∀ n (j : Fin 1024), f4 (ix2 n j) = g n ⟨0 + j.val, by omega⟩)
    (h5 : ∀ n (j : Fin 1024), f5 (ix2 n j) = g n ⟨1024 + j.val, by omega⟩)
    (h6 : ∀ n (j : Fin 512), f6 (ix2 n j) = g n ⟨2048 + j.val, by omega⟩)
    (h7 : ∀ n (j : Fin 512), f7 (ix2 n j) = g n ⟨2560 + j.val, by omega⟩)
    (h8 : ∀ n (j : Fin 1024), f8 (ix2 n j) = g n ⟨3072 + j.val, by omega⟩)
    (h10 : ∀ n (j : Fin 1024), f10 (ix2 n j) = g n ⟨4112 + j.val, by omega⟩)
    (h11 : ∀ n (j : Fin 1024), f11 (ix2 n j) = g n ⟨5136 + j.val, by omega⟩)
    (h12 : ∀ n (j : Fin 1024), f12 (ix2 n j) = g n ⟨6160 + j.val, by omega⟩)
    (h13 : ∀ n (j : Fin 768), f13 (ix2 n j) = g n ⟨7184 + j.val, by omega⟩)
    (h14 : ∀ n (j : Fin 256), f14 (ix2 n j) = g n ⟨7952 + j.val, by omega⟩)
    (h16 : ∀ n (j : Fin 16384), f16 (ix2 n j) = g n ⟨8272 + j.val, by omega⟩)
    (n : Fin 8320) (d : Fin 24576) : concatenate Cert.InProjRefIdeal.S8320x24576 1 [⟨Cert.InProjRefIdeal.S8320x1024, f4⟩, ⟨Cert.InProjRefIdeal.S8320x1024, f5⟩, ⟨Cert.InProjRefIdeal.S8320x512, f6⟩, ⟨Cert.InProjRefIdeal.S8320x512, f7⟩, ⟨Cert.InProjRefIdeal.S8320x1024, f8⟩, ⟨Cert.InProjRefIdeal.S8320x1024, f10⟩, ⟨Cert.InProjRefIdeal.S8320x1024, f11⟩, ⟨Cert.InProjRefIdeal.S8320x1024, f12⟩, ⟨Cert.InProjRefIdeal.S8320x768, f13⟩, ⟨Cert.InProjRefIdeal.S8320x256, f14⟩, ⟨Cert.InProjRefIdeal.S8320x16384, f16⟩] hc (ix2 n d) = g n (src d) := by
  have hd := d.isLt
  by_cases c0 : d.val < 1024
  · refine (concatenate_apply_piece (1 : Fin Cert.InProjRefIdeal.S8320x24576.rank) _ _ (ix2 n d) 0 (by simp) Cert.InProjRefIdeal.S8320x1024 f4 rfl rfl 0 (by simp [Cert.InProjRefIdeal.S8320x1024, Cert.InProjRefIdeal.S8320x512, Cert.InProjRefIdeal.S8320x768, Cert.InProjRefIdeal.S8320x256])
      (ix2 n (⟨d.val - 0, by omega⟩ : Fin 1024)) (fun b hb => by
        match b with
        | ⟨0, _⟩ => rfl
        | ⟨1, _⟩ => exact absurd rfl hb)
      (show 0 + (d.val - 0) = d.val by omega)).trans ((h4 _ _).trans (congrArg (g n) (Fin.ext ?_)))
    show 0 + (d.val - 0) = d.val + (if d.val < 4096 then 0 else if d.val < 8192 then 16 else 80)
    split_ifs <;> omega
  by_cases c1 : d.val < 2048
  · refine (concatenate_apply_piece (1 : Fin Cert.InProjRefIdeal.S8320x24576.rank) _ _ (ix2 n d) 1 (by simp) Cert.InProjRefIdeal.S8320x1024 f5 rfl rfl 1024 (by simp [Cert.InProjRefIdeal.S8320x1024, Cert.InProjRefIdeal.S8320x512, Cert.InProjRefIdeal.S8320x768, Cert.InProjRefIdeal.S8320x256])
      (ix2 n (⟨d.val - 1024, by omega⟩ : Fin 1024)) (fun b hb => by
        match b with
        | ⟨0, _⟩ => rfl
        | ⟨1, _⟩ => exact absurd rfl hb)
      (show 1024 + (d.val - 1024) = d.val by omega)).trans ((h5 _ _).trans (congrArg (g n) (Fin.ext ?_)))
    show 1024 + (d.val - 1024) = d.val + (if d.val < 4096 then 0 else if d.val < 8192 then 16 else 80)
    split_ifs <;> omega
  by_cases c2 : d.val < 2560
  · refine (concatenate_apply_piece (1 : Fin Cert.InProjRefIdeal.S8320x24576.rank) _ _ (ix2 n d) 2 (by simp) Cert.InProjRefIdeal.S8320x512 f6 rfl rfl 2048 (by simp [Cert.InProjRefIdeal.S8320x1024, Cert.InProjRefIdeal.S8320x512, Cert.InProjRefIdeal.S8320x768, Cert.InProjRefIdeal.S8320x256])
      (ix2 n (⟨d.val - 2048, by omega⟩ : Fin 512)) (fun b hb => by
        match b with
        | ⟨0, _⟩ => rfl
        | ⟨1, _⟩ => exact absurd rfl hb)
      (show 2048 + (d.val - 2048) = d.val by omega)).trans ((h6 _ _).trans (congrArg (g n) (Fin.ext ?_)))
    show 2048 + (d.val - 2048) = d.val + (if d.val < 4096 then 0 else if d.val < 8192 then 16 else 80)
    split_ifs <;> omega
  by_cases c3 : d.val < 3072
  · refine (concatenate_apply_piece (1 : Fin Cert.InProjRefIdeal.S8320x24576.rank) _ _ (ix2 n d) 3 (by simp) Cert.InProjRefIdeal.S8320x512 f7 rfl rfl 2560 (by simp [Cert.InProjRefIdeal.S8320x1024, Cert.InProjRefIdeal.S8320x512, Cert.InProjRefIdeal.S8320x768, Cert.InProjRefIdeal.S8320x256])
      (ix2 n (⟨d.val - 2560, by omega⟩ : Fin 512)) (fun b hb => by
        match b with
        | ⟨0, _⟩ => rfl
        | ⟨1, _⟩ => exact absurd rfl hb)
      (show 2560 + (d.val - 2560) = d.val by omega)).trans ((h7 _ _).trans (congrArg (g n) (Fin.ext ?_)))
    show 2560 + (d.val - 2560) = d.val + (if d.val < 4096 then 0 else if d.val < 8192 then 16 else 80)
    split_ifs <;> omega
  by_cases c4 : d.val < 4096
  · refine (concatenate_apply_piece (1 : Fin Cert.InProjRefIdeal.S8320x24576.rank) _ _ (ix2 n d) 4 (by simp) Cert.InProjRefIdeal.S8320x1024 f8 rfl rfl 3072 (by simp [Cert.InProjRefIdeal.S8320x1024, Cert.InProjRefIdeal.S8320x512, Cert.InProjRefIdeal.S8320x768, Cert.InProjRefIdeal.S8320x256])
      (ix2 n (⟨d.val - 3072, by omega⟩ : Fin 1024)) (fun b hb => by
        match b with
        | ⟨0, _⟩ => rfl
        | ⟨1, _⟩ => exact absurd rfl hb)
      (show 3072 + (d.val - 3072) = d.val by omega)).trans ((h8 _ _).trans (congrArg (g n) (Fin.ext ?_)))
    show 3072 + (d.val - 3072) = d.val + (if d.val < 4096 then 0 else if d.val < 8192 then 16 else 80)
    split_ifs <;> omega
  by_cases c5 : d.val < 5120
  · refine (concatenate_apply_piece (1 : Fin Cert.InProjRefIdeal.S8320x24576.rank) _ _ (ix2 n d) 5 (by simp) Cert.InProjRefIdeal.S8320x1024 f10 rfl rfl 4096 (by simp [Cert.InProjRefIdeal.S8320x1024, Cert.InProjRefIdeal.S8320x512, Cert.InProjRefIdeal.S8320x768, Cert.InProjRefIdeal.S8320x256])
      (ix2 n (⟨d.val - 4096, by omega⟩ : Fin 1024)) (fun b hb => by
        match b with
        | ⟨0, _⟩ => rfl
        | ⟨1, _⟩ => exact absurd rfl hb)
      (show 4096 + (d.val - 4096) = d.val by omega)).trans ((h10 _ _).trans (congrArg (g n) (Fin.ext ?_)))
    show 4112 + (d.val - 4096) = d.val + (if d.val < 4096 then 0 else if d.val < 8192 then 16 else 80)
    split_ifs <;> omega
  by_cases c6 : d.val < 6144
  · refine (concatenate_apply_piece (1 : Fin Cert.InProjRefIdeal.S8320x24576.rank) _ _ (ix2 n d) 6 (by simp) Cert.InProjRefIdeal.S8320x1024 f11 rfl rfl 5120 (by simp [Cert.InProjRefIdeal.S8320x1024, Cert.InProjRefIdeal.S8320x512, Cert.InProjRefIdeal.S8320x768, Cert.InProjRefIdeal.S8320x256])
      (ix2 n (⟨d.val - 5120, by omega⟩ : Fin 1024)) (fun b hb => by
        match b with
        | ⟨0, _⟩ => rfl
        | ⟨1, _⟩ => exact absurd rfl hb)
      (show 5120 + (d.val - 5120) = d.val by omega)).trans ((h11 _ _).trans (congrArg (g n) (Fin.ext ?_)))
    show 5136 + (d.val - 5120) = d.val + (if d.val < 4096 then 0 else if d.val < 8192 then 16 else 80)
    split_ifs <;> omega
  by_cases c7 : d.val < 7168
  · refine (concatenate_apply_piece (1 : Fin Cert.InProjRefIdeal.S8320x24576.rank) _ _ (ix2 n d) 7 (by simp) Cert.InProjRefIdeal.S8320x1024 f12 rfl rfl 6144 (by simp [Cert.InProjRefIdeal.S8320x1024, Cert.InProjRefIdeal.S8320x512, Cert.InProjRefIdeal.S8320x768, Cert.InProjRefIdeal.S8320x256])
      (ix2 n (⟨d.val - 6144, by omega⟩ : Fin 1024)) (fun b hb => by
        match b with
        | ⟨0, _⟩ => rfl
        | ⟨1, _⟩ => exact absurd rfl hb)
      (show 6144 + (d.val - 6144) = d.val by omega)).trans ((h12 _ _).trans (congrArg (g n) (Fin.ext ?_)))
    show 6160 + (d.val - 6144) = d.val + (if d.val < 4096 then 0 else if d.val < 8192 then 16 else 80)
    split_ifs <;> omega
  by_cases c8 : d.val < 7936
  · refine (concatenate_apply_piece (1 : Fin Cert.InProjRefIdeal.S8320x24576.rank) _ _ (ix2 n d) 8 (by simp) Cert.InProjRefIdeal.S8320x768 f13 rfl rfl 7168 (by simp [Cert.InProjRefIdeal.S8320x1024, Cert.InProjRefIdeal.S8320x512, Cert.InProjRefIdeal.S8320x768, Cert.InProjRefIdeal.S8320x256])
      (ix2 n (⟨d.val - 7168, by omega⟩ : Fin 768)) (fun b hb => by
        match b with
        | ⟨0, _⟩ => rfl
        | ⟨1, _⟩ => exact absurd rfl hb)
      (show 7168 + (d.val - 7168) = d.val by omega)).trans ((h13 _ _).trans (congrArg (g n) (Fin.ext ?_)))
    show 7184 + (d.val - 7168) = d.val + (if d.val < 4096 then 0 else if d.val < 8192 then 16 else 80)
    split_ifs <;> omega
  by_cases c9 : d.val < 8192
  · refine (concatenate_apply_piece (1 : Fin Cert.InProjRefIdeal.S8320x24576.rank) _ _ (ix2 n d) 9 (by simp) Cert.InProjRefIdeal.S8320x256 f14 rfl rfl 7936 (by simp [Cert.InProjRefIdeal.S8320x1024, Cert.InProjRefIdeal.S8320x512, Cert.InProjRefIdeal.S8320x768, Cert.InProjRefIdeal.S8320x256])
      (ix2 n (⟨d.val - 7936, by omega⟩ : Fin 256)) (fun b hb => by
        match b with
        | ⟨0, _⟩ => rfl
        | ⟨1, _⟩ => exact absurd rfl hb)
      (show 7936 + (d.val - 7936) = d.val by omega)).trans ((h14 _ _).trans (congrArg (g n) (Fin.ext ?_)))
    show 7952 + (d.val - 7936) = d.val + (if d.val < 4096 then 0 else if d.val < 8192 then 16 else 80)
    split_ifs <;> omega
  refine (concatenate_apply_piece (1 : Fin Cert.InProjRefIdeal.S8320x24576.rank) _ _ (ix2 n d) 10 (by simp) Cert.InProjRefIdeal.S8320x16384 f16 rfl rfl 8192 (by simp [Cert.InProjRefIdeal.S8320x1024, Cert.InProjRefIdeal.S8320x512, Cert.InProjRefIdeal.S8320x768, Cert.InProjRefIdeal.S8320x256])
    (ix2 n (⟨d.val - 8192, by omega⟩ : Fin 16384)) (fun b hb => by
      match b with
      | ⟨0, _⟩ => rfl
      | ⟨1, _⟩ => exact absurd rfl hb)
    (show 8192 + (d.val - 8192) = d.val by omega)).trans ((h16 _ _).trans (congrArg (g n) (Fin.ext ?_)))
  show 8272 + (d.val - 8192) = d.val + (if d.val < 4096 then 0 else if d.val < 8192 then 16 else 80)
  split_ifs <;> omega

open Cert.InProjRefIdeal.Read in
/-- The reference at an index. -/
theorem ref_apply (x0 : (⟨Cert.InProjRefIdeal.S8320x4096, .bf16⟩ : BufTy).Contents (Elt Ideal))
    (x1 : (⟨Cert.InProjRefIdeal.S2x4096x24656, .f32⟩ : BufTy).Contents (Elt Ideal)) (n : Fin 8320) (d : Fin 24576) :
    val_main_v17 (F := Ideal) x0 x1 (ix2 n d) = product x0 x1 n (src d) := by
  rw [← ref_product]
  unfold val_main_v17
  refine join_apply (fun n d => val_main_v3 (F := Ideal) x0 x1 (ix2 n d)) _ _ _ _ _ _ _ _ _ _ _ _
    ?_ ?_ ?_ ?_ ?_ ?_ ?_ ?_ ?_ ?_ ?_ n d
  · intro n j
    rw [val_main_v4_apply]
    refine congrArg _ (funext fun a => Fin.ext ?_)
    match a with
    | ⟨0, _⟩ => rfl
    | ⟨1, _⟩ => show j.val = 0 + j.val; omega
  · intro n j
    rw [val_main_v5_apply]
    refine congrArg _ (funext fun a => Fin.ext ?_)
    match a with
    | ⟨0, _⟩ => rfl
    | ⟨1, _⟩ => rfl
  · intro n j
    rw [val_main_v6_apply]
    refine congrArg _ (funext fun a => Fin.ext ?_)
    match a with
    | ⟨0, _⟩ => rfl
    | ⟨1, _⟩ => rfl
  · intro n j
    rw [val_main_v7_apply]
    refine congrArg _ (funext fun a => Fin.ext ?_)
    match a with
    | ⟨0, _⟩ => rfl
    | ⟨1, _⟩ => rfl
  · intro n j
    rw [val_main_v8_apply]
    refine congrArg _ (funext fun a => Fin.ext ?_)
    match a with
    | ⟨0, _⟩ => rfl
    | ⟨1, _⟩ => rfl
  · intro n j
    rw [val_main_v10_apply]
    refine congrArg _ (funext fun a => Fin.ext ?_)
    match a with
    | ⟨0, _⟩ => rfl
    | ⟨1, _⟩ => rfl
  · intro n j
    rw [val_main_v11_apply]
    refine congrArg _ (funext fun a => Fin.ext ?_)
    match a with
    | ⟨0, _⟩ => rfl
    | ⟨1, _⟩ => rfl
  · intro n j
    rw [val_main_v12_apply]
    refine congrArg _ (funext fun a => Fin.ext ?_)
    match a with
    | ⟨0, _⟩ => rfl
    | ⟨1, _⟩ => rfl
  · intro n j
    rw [val_main_v13_apply]
    refine congrArg _ (funext fun a => Fin.ext ?_)
    match a with
    | ⟨0, _⟩ => rfl
    | ⟨1, _⟩ => rfl
  · intro n j
    rw [val_main_v14_apply]
    refine congrArg _ (funext fun a => Fin.ext ?_)
    match a with
    | ⟨0, _⟩ => rfl
    | ⟨1, _⟩ => rfl
  · intro n j
    rw [val_main_v16_apply]
    refine congrArg _ (funext fun a => Fin.ext ?_)
    match a with
    | ⟨0, _⟩ => rfl
    | ⟨1, _⟩ => rfl

end Cert.InProj1
end
-- ==== Proof.OutProj.lean ====
/-
  THE OUTPUT PROJECTION of the merged branches: block `(i, j)` of the result is a product over the whole inner
  axis, so the array is the product of the two arrays.
-/
module
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.Product
@[expose] public section
noncomputable section
namespace Cert.OutProj1
open Cert.Product1 Cert.OutProjIdeal Cert.OutProjIdeal.Gen Idealize.ShloMosaic Idealize.ShloMosaic.TcCoe Idealize.SL.Sem

theorem idx : ∀ t : Fin cfg0.N, win0_0.index t 0 = t.val / 8 ∧ win0_0.index t 1 = 0
    ∧ win0_1.index t 0 = 0 ∧ win0_1.index t 1 = 0 ∧ win0_1.index t 2 = t.val % 8
    ∧ win0_2.index t 0 = t.val / 8 ∧ win0_2.index t 1 = t.val % 8 :=
  (by decide +kernel : ∀ t : Fin grid0.N, win0_0.index t 0 = t.val / 8 ∧ win0_0.index t 1 = 0
    ∧ win0_1.index t 0 = 0 ∧ win0_1.index t 1 = 0 ∧ win0_1.index t 2 = t.val % 8
    ∧ win0_2.index t 0 = t.val / 8 ∧ win0_2.index t 1 = t.val % 8)
theorem flush2 : ∀ t : Fin cfg0.N, (cfg0.win 2).flush t = true :=
  (by decide +kernel : ∀ t : Fin grid0.N, win0_2.flush t = true)

/-- What a block's store leaves: the payload of the two staged blocks. -/
theorem out_eq (x0 : Vec Ideal S2080x4096 .bf16) (x1 : Vec Ideal S1x4096x512 .f32) : out0_2 x0 x1 = k0_pay1 x0 x1 := by
  have hz2 : (![0, 0] : Fin 2 → Nat) = fun _ => 0 := funext fun a => by fin_cases a <;> rfl
  have hz3 : (![0, 0, 0] : Fin 3 → Nat) = fun _ => 0 := funext fun a => by fin_cases a <;> rfl
  unfold out0_2
  rw [View.canon_unit_zero hz2, View.ld_unit_zero hz2, View.ld_unit_zero hz3]

/-- The payload at an index. -/
theorem pay_apply (x0 : Vec Ideal S2080x4096 .bf16) (x1 : Vec Ideal S1x4096x512 .f32) (r : Fin 2080) (j : Fin 512) :
    k0_pay1 x0 x1 (ix2 r j) = ∑ k : Fin 4096, (x0 (ix2 r k) * x1 (ix3 0 k j) : EReal) := by
  pointwise [k0_pay1]

variable (m : (ℓ : Loc nD τ sig) → Buf (Elt Ideal) ℓ) (c : Dev nD)

/-- The result at an index. -/
theorem result_apply (n : Fin 8320) (d : Fin 4096) : (dats m 0 c).arrAt 2 cfg0.N (ix2 n d)
    = product (m ((c : Thread nD τ).loc main_arg0)) (m ((c : Thread nD τ).loc main_arg1)) n d := by
  have hN : cfg0.N = 32 := by decide +kernel
  have hn := n.isLt
  have hd := d.isLt
  let t : Fin cfg0.N := ⟨8 * (n.val / 2080) + d.val / 512, by rw [hN]; omega⟩
  have htv : t.val = 8 * (n.val / 2080) + d.val / 512 := rfl
  let r : Fin 2080 := ⟨n.val % 2080, Nat.mod_lt _ (by omega)⟩
  have hr : r.val = n.val % 2080 := rfl
  let j : Fin 512 := ⟨d.val % 512, Nat.mod_lt _ (by omega)⟩
  have hj : j.val = d.val % 512 := rfl
  have hi := idx t
  have hb := congrFun (Cert.OutProjIdeal.Value.blocks2 m c t (flush2 t)) (ix2 r j)
  rw [Cert.OutProjIdeal.Value.flushed2, View.read_apply] at hb
  have he : ((cfg0.win 2).blk t).view.emb (ix2 r j) = ix2 n d := by
    funext a
    apply Fin.ext
    match a with
    | ⟨0, _⟩ => show win0_2.index t 0 * 2080 + 1 * r.val = n.val; rw [hi.2.2.2.2.2.1]; omega
    | ⟨1, _⟩ => show win0_2.index t 1 * 512 + 1 * j.val = d.val; rw [hi.2.2.2.2.2.2]; omega
  rw [he] at hb
  refine hb.trans ?_
  show out0_2 (iblk m c 0 t) (iblk m c 1 t) (ix2 r j) = _
  rw [out_eq, pay_apply]
  unfold product
  refine Finset.sum_congr rfl fun k _ => ?_
  congr 1
  · blk_ext! [iblk, V, hi]
  · blk_ext! [iblk, V, hi]

/-- The reference at an index. -/
theorem ref_apply (x0 : (⟨Cert.OutProjRefIdeal.S8320x4096, .bf16⟩ : BufTy).Contents (Elt Ideal))
    (x1 : (⟨Cert.OutProjRefIdeal.S2x4096x4096, .f32⟩ : BufTy).Contents (Elt Ideal)) (n : Fin 8320) (d : Fin 4096) :
    Cert.OutProjRefIdeal.Read.val_main_v4 (F := Ideal) x0 x1 (ix2 n d) = product x0 x1 n d := by
  rw [Cert.OutProjRefIdeal.Read.val_main_v4_apply]
  refine (Cert.OutProjRefIdeal.Read.val_main_v3_apply x0 x1 (ix2 n d)).trans (Finset.sum_congr rfl fun k _ => ?_)
  rw [Cert.OutProjRefIdeal.Read.val_main_v2_apply, Cert.OutProjRefIdeal.Read.val_main_v1_apply, Cert.OutProjRefIdeal.Read.val_main_v0_apply]
  congr 1
  · refine congrArg x0 (funext fun a => Fin.ext ?_)
    match a with
    | ⟨0, _⟩ => rfl
    | ⟨1, _⟩ => rfl
  · refine congrArg x1 (funext fun a => Fin.ext ?_)
    match a with
    | ⟨0, _⟩ => rfl
    | ⟨1, _⟩ => show (k.val * 4096 + d.val) / 4096 % 4096 = k.val; omega
    | ⟨2, _⟩ => show (k.val * 4096 + d.val) % 4096 = d.val; omega

end Cert.OutProj1
end
-- ==== Proof.Gate.lean ====
/-
  THE SPATIAL GATING'S STATE: the samples' chunk of the normalised gate rows, `layer_norm(gelu(x))`, row by row.
-/
module
public import proofs.«01_k».proof.Proof.Gen.MixerAIdeal.Value
public import proofs.«01_k».proof.Proof.Gen.MixerARefIdeal.Run
public import proofs.«01_k».proof.Proof.Gen.MixerARefIdeal.Read
public import proofs.«01_k».proof.Proof.Product
@[expose] public section
noncomputable section
namespace Cert.Gate1
open Cert.MixerAIdeal Cert.MixerAIdeal.Gen Idealize.ShloMosaic Idealize.ShloMosaic.TcCoe Idealize.SL.Sem

/-- The gelu, by its hyperbolic tangent. -/
def gelu (x : EReal) : EReal := x * (Ideal.ofBits .f32 0x3F000000#32 * (1 + Ideal.tanh (Ideal.ofBits .f32 0x3F4C422A#32
  * (x + Ideal.ofBits .f32 0x3D372713#32 * (x * (x * x))))))
/-- The mean of a row. -/
def mean (f : Fin 1024 → EReal) : EReal := Ideal.div (∑ k, f k) (Ideal.ofBits .f32 0x44800000#32)
/-- The row normalised, at column `d`. -/
def norm (f : Fin 1024 → EReal) (g b : EReal) (d : Fin 1024) : EReal :=
  (f d - mean f) * Ideal.rsqrt (mean (fun k => (f k - mean f) * (f k - mean f)) + Ideal.ofBits .f32 0x358637BD#32) * g + b

theorem pay_apply (x0 : Vec Ideal S128x1024 .f32) (x1 x2 : Vec Ideal S1x1024 .f32) (r : Fin 128) (j : Fin 1024) :
    k0_pay9 (k0_pay5 x1) (k0_pay6 x2) (k0_pay7 x0) (k0_pay8 x0) (ix2 r j)
      = norm (fun k => gelu (x0 (ix2 r k))) (x1 (ix2 0 j)) (x2 (ix2 0 j)) j := by
  pointwise [k0_pay9, k0_pay5, k0_pay6, k0_pay7, k0_pay8]
  rfl

theorem out_eq (x0 : Vec Ideal S128x2048 .f32) (x1 x2 : Vec Ideal S1x1024 .f32) (x3 : Vec Ideal S1x4x128x128 .bf16)
    (x4 : Vec Ideal S1x4x128x1 .f32) : out0_6 x0 x1 x2 x3 x4
      = k0_pay9 (k0_pay5 x1) (k0_pay6 x2) (k0_pay7 (View.ld x0 r0_1)) (k0_pay8 (View.ld x0 r0_1)) := by
  have hz2 : (![0, 0] : Fin 2 → Nat) = fun _ => 0 := funext fun a => by fin_cases a <;> rfl
  unfold out0_6 k0_pay17 k0_pay16 k0_pay15 k0_pay14
  rw [View.canon_unit_zero hz2, View.ld_unit_zero hz2, View.ld_unit_zero hz2]

theorem idx : ∀ t : Fin cfg0.N, win0_0.index t 0 = t.val ∧ win0_0.index t 1 = 0
    ∧ win0_1.index t 0 = 0 ∧ win0_1.index t 1 = 0 ∧ win0_2.index t 0 = 0 ∧ win0_2.index t 1 = 0
    ∧ win0_6.index t 0 = 0 ∧ win0_6.index t 1 = 0 :=
  (by decide +kernel : ∀ t : Fin grid0.N, win0_0.index t 0 = t.val ∧ win0_0.index t 1 = 0
    ∧ win0_1.index t 0 = 0 ∧ win0_1.index t 1 = 0 ∧ win0_2.index t 0 = 0 ∧ win0_2.index t 1 = 0
    ∧ win0_6.index t 0 = 0 ∧ win0_6.index t 1 = 0)
theorem flush6 : ∀ t : Fin cfg0.N, (cfg0.win 6).flush t = true ↔ t.val = 64 :=
  (by decide +kernel : ∀ t : Fin grid0.N, win0_6.flush t = true ↔ t.val = 64)

variable (m : (ℓ : Loc nD τ sig) → Buf (Elt Ideal) ℓ) (c : Dev nD)

set_option maxHeartbeats 2000000 in
/-- The result at an index. -/
theorem result_apply (n : Fin 128) (d : Fin 1024) : (dats m 0 c).arrAt 6 cfg0.N (ix2 n d)
    = norm (fun k => gelu (m ((c : Thread nD τ).loc main_arg0) (ix2 ⟨8192 + n.val, by omega⟩ ⟨1024 + k.val, by omega⟩)))
      (m ((c : Thread nD τ).loc main_arg1) (ix1 d)) (m ((c : Thread nD τ).loc main_arg2) (ix1 d)) d := by
  have hN : cfg0.N = 65 := by decide +kernel
  let t : Fin cfg0.N := ⟨64, by rw [hN]; omega⟩
  have htv : t.val = 64 := rfl
  have hi := idx t
  have hb := congrFun ((dats m 0 c).read_blk_arrAt_eq_flushed 6 (fun t t' h h' hne =>
    absurd (Fin.ext (((flush6 t).1 h).trans ((flush6 t').1 h').symm)) hne) cfg0.N t t.isLt ((flush6 t).2 rfl)) (ix2 n d)
  rw [Cert.MixerAIdeal.Value.flushed6, View.read_apply] at hb
  have he : ((cfg0.win 6).blk t).view.emb (ix2 n d) = ix2 n d := by
    funext a
    apply Fin.ext
    match a with
    | ⟨0, _⟩ => show win0_6.index t 0 * 128 + 1 * n.val = n.val; rw [hi.2.2.2.2.2.2.1]; omega
    | ⟨1, _⟩ => show win0_6.index t 1 * 1024 + 1 * d.val = d.val; rw [hi.2.2.2.2.2.2.2]; omega
  rw [he] at hb
  refine hb.trans ?_
  show out0_6 (iblk m c 0 t) (iblk m c 1 t) (iblk m c 2 t) (iblk m c 3 t) (iblk m c 4 t) (ix2 n d) = _
  rw [out_eq, pay_apply]
  have e0 : ∀ k : Fin 1024, View.ld (iblk m c 0 t) r0_1 (ix2 n k)
      = m ((c : Thread nD τ).loc main_arg0) (ix2 ⟨8192 + n.val, by omega⟩ ⟨1024 + k.val, by omega⟩) := fun k => by
    show iblk m c 0 t (r0_1.idx (ix2 n k)) = _
    have : r0_1.idx (ix2 n k) = ix2 n ⟨1024 + k.val, by omega⟩ := by
      funext a; apply Fin.ext
      match a with
      | ⟨0, _⟩ => show 0 + 1 * n.val = n.val; omega
      | ⟨1, _⟩ => show 1024 + 1 * k.val = 1024 + k.val; omega
    rw [this]
    blk_ext! [iblk, V, hi]
  have e1 : iblk m c 1 t (ix2 0 d) = m ((c : Thread nD τ).loc main_arg1) (ix1 d) := by
    have hv : V m c main_v24 = shapeCast S1x1024 (m ((c : Thread nD τ).loc main_arg1)) shapeCasts_S1024_S1x1024 := by
      entry_read
      rfl
    have he' : ((cfg0.win 1).blk t).view.emb (ix2 0 d) = ix2 0 d := by
      funext a
      apply Fin.ext
      match a with
      | ⟨0, _⟩ => show win0_1.index t 0 * 1 + 1 * 0 = 0; rw [hi.2.2.1]
      | ⟨1, _⟩ => show win0_1.index t 1 * 1024 + 1 * d.val = d.val; rw [hi.2.2.2.1]; omega
    show V m c main_v24 (((cfg0.win 1).blk t).view.emb (ix2 0 d)) = _
    rw [he', hv]
    pointwise []
  have e2 : iblk m c 2 t (ix2 0 d) = m ((c : Thread nD τ).loc main_arg2) (ix1 d) := by
    have hv : V m c main_v25 = shapeCast S1x1024 (m ((c : Thread nD τ).loc main_arg2)) shapeCasts_S1024_S1x1024 := by
      entry_read
      rfl
    have he' : ((cfg0.win 2).blk t).view.emb (ix2 0 d) = ix2 0 d := by
      funext a
      apply Fin.ext
      match a with
      | ⟨0, _⟩ => show win0_2.index t 0 * 1 + 1 * 0 = 0; rw [hi.2.2.2.2.1]
      | ⟨1, _⟩ => show win0_2.index t 1 * 1024 + 1 * d.val = d.val; rw [hi.2.2.2.2.2.1]; omega
    show V m c main_v25 (((cfg0.win 2).blk t).view.emb (ix2 0 d)) = _
    rw [he', hv]
    pointwise []
  rw [e1, e2]
  exact congrArg (fun f => norm f _ _ d) (funext fun k => congrArg gelu (e0 k))

/-- The reference at an index. -/
theorem ref_apply (x0 : (⟨Cert.MixerARefIdeal.S8320x24576, .f32⟩ : BufTy).Contents (Elt Ideal))
    (x1 x2 : (⟨Cert.MixerARefIdeal.S1024, .f32⟩ : BufTy).Contents (Elt Ideal)) (n : Fin 128) (d : Fin 1024) :
    Cert.MixerARefIdeal.Read.val_main_v35 (F := Ideal) x0 x1 x2 (ix2 n d)
      = norm (fun k => gelu (x0 (ix2 ⟨8192 + n.val, by omega⟩ ⟨1024 + k.val, by omega⟩))) (x1 (ix1 d)) (x2 (ix1 d)) d := by
  open Cert.MixerARefIdeal.Read in
  pointwise [val_main_v35, val_main_v34, val_main_v33, val_main_v32, val_main_v31, val_main_v30, val_main_v29, val_main_v28,
    val_main_v27, val_main_v26, val_main_v25, val_main_v24, val_main_v23, val_main_v22, val_main_v21, val_main_v20, val_main_v19,
    val_main_v18, val_main_v17, val_main_v16, val_main_v15, val_main_v14, val_main_v13, val_main_v12, val_main_v11, val_main_v10,
    val_main_v9, val_main_v8, val_main_v7, val_main_v6, val_main_v5, val_main_v4, val_main_v3, val_main_v2, val_main_v1, val_main_v0,
    val_main_cst, val_main_cst_0, val_main_cst_1, val_main_cst_2, val_main_cst_3, val_main_cst_4, val_main_cst_5, val_main_cst_6, val_main_cst_7]
  have hc : ∀ a : EReal, a * a * a = a * (a * a) := fun a => mul_assoc a a a
  simp only [hc]

  rfl
end Cert.Gate1
end
-- ==== Proof.Tap.lean ====
/-
  THE CONVOLUTION STATE OF THE SAMPLES: the thirty rows move up by one, and the gated row of the step comes last.
-/
module
public import proofs.«01_k».proof.Proof.Gen.ConvSampleIdeal.Frame
public import proofs.«01_k».proof.Proof.Gen.ConvSampleRefIdeal.Run
public import proofs.«01_k».proof.Proof.Gen.ConvSampleRefIdeal.Read
public import proofs.«01_k».proof.Proof.Product
@[expose] public section
noncomputable section
namespace Cert.Tap1
open Cert.ConvSampleIdeal Cert.ConvSampleIdeal.Gen Idealize.ShloMosaic Idealize.ShloMosaic.TcCoe Idealize.SL.Sem

/-- What the body leaves of the state at an index: the state moved up by one row, and the new row last. -/
def after (x0 x1 : Vec Ideal S32x1024 .f32) (x2 : Vec Ideal S1x30x32x1024 .f32) (y : S30x32x1024.Idx) : EReal :=
  if h : (y 0).val < 29 then x2 (ix4 0 ⟨(y 0).val + 1, by omega⟩ (y 1) (y 2))
  else x0 (ix2 (y 1) (y 2)) * Ideal.logistic (x1 (ix2 (y 1) (y 2)))

theorem old_row (x0 x1 : Vec Ideal S32x1024 .f32) (x2 : Vec Ideal S1x30x32x1024 .f32) (o : Nat) (ho : o < 29) (a : Fin 1)
    (r : Fin 32) (d : Fin 1024) (z : S30x32x1024.Idx) (h0 : (z 0).val = o + 1 * a.val) (h1 : (z 1).val = 0 + 1 * r.val)
    (h2 : (z 2).val = 0 + 1 * d.val) : after x0 x1 x2 z = x2 (ix4 0 ⟨o + 1, by omega⟩ r d) := by
  have hz : z = ix3 ⟨o, by omega⟩ r d := by
    funext b
    apply Fin.ext
    match b with
    | ⟨0, _⟩ => show (z 0).val = o; omega
    | ⟨1, _⟩ => show (z 1).val = r.val; omega
    | ⟨2, _⟩ => show (z 2).val = d.val; omega
  exact (congrArg (after x0 x1 x2) hz).trans (dif_pos ho)

theorem new_row (x0 x1 : Vec Ideal S32x1024 .f32) (x2 : Vec Ideal S1x30x32x1024 .f32) (a : Fin 1)
    (r : Fin 32) (d : Fin 1024) (z : S30x32x1024.Idx) (h0 : (z 0).val = 29 + 1 * a.val) (h1 : (z 1).val = 0 + 1 * r.val)
    (h2 : (z 2).val = 0 + 1 * d.val) : after x0 x1 x2 z = x0 (ix2 r d) * Ideal.logistic (x1 (ix2 r d)) := by
  have hz : z = ix3 29 r d := by
    funext b
    apply Fin.ext
    match b with
    | ⟨0, _⟩ => show (z 0).val = 29; omega
    | ⟨1, _⟩ => show (z 1).val = r.val; omega
    | ⟨2, _⟩ => show (z 2).val = d.val; omega
  exact (congrArg (after x0 x1 x2) hz).trans (dif_neg (show ¬ (29 : Nat) < 29 by decide))

set_option maxHeartbeats 2000000 in
/-- What the stores of the state leave. -/
theorem out_eq (x0 x1 : Vec Ideal S32x1024 .f32) (x2 : Vec Ideal S1x30x32x1024 .f32) (x3 : Vec Ideal S31x1024 .f32)
    (x4 x5 x6 : Vec Ideal S1x1024 .f32) (y : S30x32x1024.Idx) : out0_8 x0 x1 x2 x3 x4 x5 x6 y = after x0 x1 x2 y := by
  unfold out0_8
  refine View.canon_apply_of_pieces (Val := Elt Ideal) (after x0 x1 x2) _ ?_ y (cover0_8 _ _ _ _ _ _ _ _ _ _ _ _ _ _ _ _ _ _ _ _ _ _ _ _ _ _ _ _ _ _ y)
  intro pc hpc
  simp only [List.mem_cons, List.not_mem_nil, or_false] at hpc
  rcases hpc with rfl | rfl | rfl | rfl | rfl | rfl | rfl | rfl | rfl | rfl | rfl | rfl | rfl | rfl | rfl | rfl | rfl | rfl | rfl | rfl | rfl | rfl | rfl | rfl | rfl | rfl | rfl | rfl | rfl | rfl
  · intro x
    obtain ⟨a, r, d, rfl⟩ : ∃ a r d, x = ix3 a r d := ⟨x 0, x 1, x 2, eq_ix3 x⟩
    show k0_pay41 (k0_pay2 (View.ld x0 r0_0) (View.ld x1 r0_0)) (ix3 a r d) = _
    pointwise [k0_pay41, k0_pay2]
    exact (new_row x0 x1 x2 a r d _ rfl rfl rfl).symm
  · intro x
    obtain ⟨a, r, d, rfl⟩ : ∃ a r d, x = ix3 a r d := ⟨x 0, x 1, x 2, eq_ix3 x⟩
    show k0_pay40 (View.ld x2 r0_62) (ix3 a r d) = _
    pointwise [k0_pay40]
    exact (old_row x0 x1 x2 28 (by decide) a r d _ rfl rfl rfl).symm
  · intro x
    obtain ⟨a, r, d, rfl⟩ : ∃ a r d, x = ix3 a r d := ⟨x 0, x 1, x 2, eq_ix3 x⟩
    show k0_pay39 (View.ld x2 r0_60) (ix3 a r d) = _
    pointwise [k0_pay39]
    exact (old_row x0 x1 x2 27 (by decide) a r d _ rfl rfl rfl).symm
  · intro x
    obtain ⟨a, r, d, rfl⟩ : ∃ a r d, x = ix3 a r d := ⟨x 0, x 1, x 2, eq_ix3 x⟩
    show k0_pay38 (View.ld x2 r0_58) (ix3 a r d) = _
    pointwise [k0_pay38]
    exact (old_row x0 x1 x2 26 (by decide) a r d _ rfl rfl rfl).symm
  · intro x
    obtain ⟨a, r, d, rfl⟩ : ∃ a r d, x = ix3 a r d := ⟨x 0, x 1, x 2, eq_ix3 x⟩
    show k0_pay37 (View.ld x2 r0_56) (ix3 a r d) = _
    pointwise [k0_pay37]
    exact (old_row x0 x1 x2 25 (by decide) a r d _ rfl rfl rfl).symm
  · intro x
    obtain ⟨a, r, d, rfl⟩ : ∃ a r d, x = ix3 a r d := ⟨x 0, x 1, x 2, eq_ix3 x⟩
    show k0_pay36 (View.ld x2 r0_54) (ix3 a r d) = _
    pointwise [k0_pay36]
    exact (old_row x0 x1 x2 24 (by decide) a r d _ rfl rfl rfl).symm
  · intro x
    obtain ⟨a, r, d, rfl⟩ : ∃ a r d, x = ix3 a r d := ⟨x 0, x 1, x 2, eq_ix3 x⟩
    show k0_pay35 (View.ld x2 r0_52) (ix3 a r d) = _
    pointwise [k0_pay35]
    exact (old_row x0 x1 x2 23 (by decide) a r d _ rfl rfl rfl).symm
  · intro x
    obtain ⟨a, r, d, rfl⟩ : ∃ a r d, x = ix3 a r d := ⟨x 0, x 1, x 2, eq_ix3 x⟩
    show k0_pay34 (View.ld x2 r0_50) (ix3 a r d) = _
    pointwise [k0_pay34]
    exact (old_row x0 x1 x2 22 (by decide) a r d _ rfl rfl rfl).symm
  · intro x
    obtain ⟨a, r, d, rfl⟩ : ∃ a r d, x = ix3 a r d := ⟨x 0, x 1, x 2, eq_ix3 x⟩
    show k0_pay33 (k0_pay32 (View.ld x2 r0_48)) (ix3 a r d) = _
    pointwise [k0_pay33, k0_pay32]
    exact (old_row x0 x1 x2 21 (by decide) a r d _ rfl rfl rfl).symm
  · intro x
    obtain ⟨a, r, d, rfl⟩ : ∃ a r d, x = ix3 a r d := ⟨x 0, x 1, x 2, eq_ix3 x⟩
    show k0_pay31 (View.ld x2 r0_46) (ix3 a r d) = _
    pointwise [k0_pay31]
    exact (old_row x0 x1 x2 20 (by decide) a r d _ rfl rfl rfl).symm
  · intro x
    obtain ⟨a, r, d, rfl⟩ : ∃ a r d, x = ix3 a r d := ⟨x 0, x 1, x 2, eq_ix3 x⟩
    show k0_pay30 (View.ld x2 r0_44) (ix3 a r d) = _
    pointwise [k0_pay30]
    exact (old_row x0 x1 x2 19 (by decide) a r d _ rfl rfl rfl).symm
  · intro x
    obtain ⟨a, r, d, rfl⟩ : ∃ a r d, x = ix3 a r d := ⟨x 0, x 1, x 2, eq_ix3 x⟩
    show k0_pay29 (View.ld x2 r0_42) (ix3 a r d) = _
    pointwise [k0_pay29]
    exact (old_row x0 x1 x2 18 (by decide) a r d _ rfl rfl rfl).symm
  · intro x
    obtain ⟨a, r, d, rfl⟩ : ∃ a r d, x = ix3 a r d := ⟨x 0, x 1, x 2, eq_ix3 x⟩
    show k0_pay28 (View.ld x2 r0_40) (ix3 a r d) = _
    pointwise [k0_pay28]
    exact (old_row x0 x1 x2 17 (by decide) a r d _ rfl rfl rfl).symm
  · intro x
    obtain ⟨a, r, d, rfl⟩ : ∃ a r d, x = ix3 a r d := ⟨x 0, x 1, x 2, eq_ix3 x⟩
    show k0_pay27 (View.ld x2 r0_38) (ix3 a r d) = _
    pointwise [k0_pay27]
    exact (old_row x0 x1 x2 16 (by decide) a r d _ rfl rfl rfl).symm
  · intro x
    obtain ⟨a, r, d, rfl⟩ : ∃ a r d, x = ix3 a r d := ⟨x 0, x 1, x 2, eq_ix3 x⟩
    show k0_pay26 (View.ld x2 r0_36) (ix3 a r d) = _
    pointwise [k0_pay26]
    exact (old_row x0 x1 x2 15 (by decide) a r d _ rfl rfl rfl).symm
  · intro x
    obtain ⟨a, r, d, rfl⟩ : ∃ a r d, x = ix3 a r d := ⟨x 0, x 1, x 2, eq_ix3 x⟩
    show k0_pay25 (View.ld x2 r0_34) (ix3 a r d) = _
    pointwise [k0_pay25]
    exact (old_row x0 x1 x2 14 (by decide) a r d _ rfl rfl rfl).symm
  · intro x
    obtain ⟨a, r, d, rfl⟩ : ∃ a r d, x = ix3 a r d := ⟨x 0, x 1, x 2, eq_ix3 x⟩
    show k0_pay24 (View.ld x2 r0_32) (ix3 a r d) = _
    pointwise [k0_pay24]
    exact (old_row x0 x1 x2 13 (by decide) a r d _ rfl rfl rfl).symm
  · intro x
    obtain ⟨a, r, d, rfl⟩ : ∃ a r d, x = ix3 a r d := ⟨x 0, x 1, x 2, eq_ix3 x⟩
    show k0_pay23 (View.ld x2 r0_30) (ix3 a r d) = _
    pointwise [k0_pay23]
    exact (old_row x0 x1 x2 12 (by decide) a r d _ rfl rfl rfl).symm
  · intro x
    obtain ⟨a, r, d, rfl⟩ : ∃ a r d, x = ix3 a r d := ⟨x 0, x 1, x 2, eq_ix3 x⟩
    show k0_pay22 (View.ld x2 r0_28) (ix3 a r d) = _
    pointwise [k0_pay22]
    exact (old_row x0 x1 x2 11 (by decide) a r d _ rfl rfl rfl).symm
  · intro x
    obtain ⟨a, r, d, rfl⟩ : ∃ a r d, x = ix3 a r d := ⟨x 0, x 1, x 2, eq_ix3 x⟩
    show k0_pay21 (View.ld x2 r0_26) (ix3 a r d) = _
    pointwise [k0_pay21]
    exact (old_row x0 x1 x2 10 (by decide) a r d _ rfl rfl rfl).symm
  · intro x
    obtain ⟨a, r, d, rfl⟩ : ∃ a r d, x = ix3 a r d := ⟨x 0, x 1, x 2, eq_ix3 x⟩
    show k0_pay20 (View.ld x2 r0_24) (ix3 a r d) = _
    pointwise [k0_pay20]
    exact (old_row x0 x1 x2 9 (by decide) a r d _ rfl rfl rfl).symm
  · intro x
    obtain ⟨a, r, d, rfl⟩ : ∃ a r d, x = ix3 a r d := ⟨x 0, x 1, x 2, eq_ix3 x⟩
    show k0_pay19 (View.ld x2 r0_22) (ix3 a r d) = _
    pointwise [k0_pay19]
    exact (old_row x0 x1 x2 8 (by decide) a r d _ rfl rfl rfl).symm
  · intro x
    obtain ⟨a, r, d, rfl⟩ : ∃ a r d, x = ix3 a r d := ⟨x 0, x 1, x 2, eq_ix3 x⟩
    show k0_pay18 (k0_pay17 (View.ld x2 r0_20)) (ix3 a r d) = _
    pointwise [k0_pay18, k0_pay17]
    exact (old_row x0 x1 x2 7 (by decide) a r d _ rfl rfl rfl).symm
  · intro x
    obtain ⟨a, r, d, rfl⟩ : ∃ a r d, x = ix3 a r d := ⟨x 0, x 1, x 2, eq_ix3 x⟩
    show k0_pay16 (View.ld x2 r0_18) (ix3 a r d) = _
    pointwise [k0_pay16]
    exact (old_row x0 x1 x2 6 (by decide) a r d _ rfl rfl rfl).symm
  · intro x
    obtain ⟨a, r, d, rfl⟩ : ∃ a r d, x = ix3 a r d := ⟨x 0, x 1, x 2, eq_ix3 x⟩
    show k0_pay15 (View.ld x2 r0_16) (ix3 a r d) = _
    pointwise [k0_pay15]
    exact (old_row x0 x1 x2 5 (by decide) a r d _ rfl rfl rfl).symm
  · intro x
    obtain ⟨a, r, d, rfl⟩ : ∃ a r d, x = ix3 a r d := ⟨x 0, x 1, x 2, eq_ix3 x⟩
    show k0_pay14 (View.ld x2 r0_14) (ix3 a r d) = _
    pointwise [k0_pay14]
    exact (old_row x0 x1 x2 4 (by decide) a r d _ rfl rfl rfl).symm
  · intro x
    obtain ⟨a, r, d, rfl⟩ : ∃ a r d, x = ix3 a r d := ⟨x 0, x 1, x 2, eq_ix3 x⟩
    show k0_pay13 (View.ld x2 r0_12) (ix3 a r d) = _
    pointwise [k0_pay13]
    exact (old_row x0 x1 x2 3 (by decide) a r d _ rfl rfl rfl).symm
  · intro x
    obtain ⟨a, r, d, rfl⟩ : ∃ a r d, x = ix3 a r d := ⟨x 0, x 1, x 2, eq_ix3 x⟩
    show k0_pay12 (View.ld x2 r0_10) (ix3 a r d) = _
    pointwise [k0_pay12]
    exact (old_row x0 x1 x2 2 (by decide) a r d _ rfl rfl rfl).symm
  · intro x
    obtain ⟨a, r, d, rfl⟩ : ∃ a r d, x = ix3 a r d := ⟨x 0, x 1, x 2, eq_ix3 x⟩
    show k0_pay11 (View.ld x2 r0_8) (ix3 a r d) = _
    pointwise [k0_pay11]
    exact (old_row x0 x1 x2 1 (by decide) a r d _ rfl rfl rfl).symm
  · intro x
    obtain ⟨a, r, d, rfl⟩ : ∃ a r d, x = ix3 a r d := ⟨x 0, x 1, x 2, eq_ix3 x⟩
    show k0_pay10 (View.ld x2 r0_6) (ix3 a r d) = _
    pointwise [k0_pay10]
    exact (old_row x0 x1 x2 0 (by decide) a r d _ rfl rfl rfl).symm

theorem idx : ∀ t : Fin cfg0.N, win0_0.index t 0 = 256 + t.val ∧ win0_0.index t 1 = 5
    ∧ win0_1.index t 0 = 256 + t.val ∧ win0_1.index t 1 = 6
    ∧ win0_2.index t 0 = 0 ∧ win0_2.index t 1 = 0 ∧ win0_2.index t 2 = t.val ∧ win0_2.index t 3 = 0
    ∧ win0_8.index t 0 = 0 ∧ win0_8.index t 1 = t.val ∧ win0_8.index t 2 = 0 :=
  (by decide +kernel : ∀ t : Fin grid0.N, win0_0.index t 0 = 256 + t.val ∧ win0_0.index t 1 = 5
    ∧ win0_1.index t 0 = 256 + t.val ∧ win0_1.index t 1 = 6
    ∧ win0_2.index t 0 = 0 ∧ win0_2.index t 1 = 0 ∧ win0_2.index t 2 = t.val ∧ win0_2.index t 3 = 0
    ∧ win0_8.index t 0 = 0 ∧ win0_8.index t 1 = t.val ∧ win0_8.index t 2 = 0)
theorem flush8 : ∀ t : Fin cfg0.N, (cfg0.win 8).flush t = true :=
  (by decide +kernel : ∀ t : Fin grid0.N, win0_8.flush t = true)
theorem idx_inj : ∀ t t' : Fin cfg0.N, win0_8.index t = win0_8.index t' → t = t' :=
  (by decide +kernel : ∀ t t' : Fin grid0.N, win0_8.index t = win0_8.index t' → t = t')

variable (m : (ℓ : Loc nD τ sig) → Buf (Elt Ideal) ℓ) (c : Dev nD)

/-- The state at an index, from the call's arguments. -/
def state (x0 : (⟨2, ![8320, 24576]⟩ : Shape).Idx → EReal) (x1 : (⟨4, ![2, 128, 30, 1024]⟩ : Shape).Idx → EReal)
    (j : Fin 30) (n : Fin 128) (d : Fin 1024) : EReal :=
  if h : j.val < 29 then x1 (ix4 0 n ⟨j.val + 1, by omega⟩ d)
  else x0 (ix2 ⟨8192 + n.val, by omega⟩ ⟨5120 + d.val, by omega⟩)
    * Ideal.logistic (x0 (ix2 ⟨8192 + n.val, by omega⟩ ⟨6144 + d.val, by omega⟩))

set_option maxHeartbeats 2000000 in
/-- The result at an index. -/
theorem result_apply (j : Fin 30) (n : Fin 128) (d : Fin 1024) : (dats m 0 c).arrAt 8 cfg0.N (ix3 j n d)
    = state (m ((c : Thread nD τ).loc main_arg0)) (m ((c : Thread nD τ).loc main_arg1)) j n d := by
  have hN : cfg0.N = 4 := by decide +kernel
  have hn := n.isLt
  let t : Fin cfg0.N := ⟨n.val / 32, by rw [hN]; omega⟩
  have htv : t.val = n.val / 32 := rfl
  let r : Fin 32 := ⟨n.val % 32, Nat.mod_lt _ (by omega)⟩
  have hr : r.val = n.val % 32 := rfl
  have hi := idx t
  have hb := congrFun ((dats m 0 c).read_blk_arrAt_eq_flushed 8 (fun t t' _ _ hne =>
    (cfg0.win 8).disjoint_blk fun h => hne (idx_inj t t' h)) cfg0.N t t.isLt (flush8 t)) (ix3 j r d)
  have hf : (dats m 0 c).flushed 8 t = (cfg0.win 8).cut (grid0.coords t) (out0_8 (iblk m c 0 t) (iblk m c 1 t) (iblk m c 2 t)
      (iblk m c 3 t) (iblk m c 4 t) (iblk m c 5 t) (iblk m c 6 t)) := by
    show (cfg0.win 8).cut (grid0.coords t) ((dats m 0 c).after 8 t) = _
    rw [after0_8]
  rw [hf, View.read_apply] at hb
  have he : ((cfg0.win 8).blk t).view.emb (ix3 j r d) = ix3 j n d := by
    funext a
    apply Fin.ext
    match a with
    | ⟨0, _⟩ => show win0_8.index t 0 * 30 + 1 * j.val = j.val; rw [hi.2.2.2.2.2.2.2.2.1]; omega
    | ⟨1, _⟩ => show win0_8.index t 1 * 32 + 1 * r.val = n.val; rw [hi.2.2.2.2.2.2.2.2.2.1]; omega
    | ⟨2, _⟩ => show win0_8.index t 2 * 1024 + 1 * d.val = d.val; rw [hi.2.2.2.2.2.2.2.2.2.2]; omega
  rw [he] at hb
  refine hb.trans ?_
  show out0_8 (iblk m c 0 t) (iblk m c 1 t) (iblk m c 2 t) (iblk m c 3 t) (iblk m c 4 t) (iblk m c 5 t) (iblk m c 6 t) (ix3 j r d) = _
  rw [out_eq]
  have e0 : iblk m c 0 t (ix2 r d) = m ((c : Thread nD τ).loc main_arg0) (ix2 ⟨8192 + n.val, by omega⟩ ⟨5120 + d.val, by omega⟩) := by
    blk_ext! [iblk, V, hi]
  have e1 : iblk m c 1 t (ix2 r d) = m ((c : Thread nD τ).loc main_arg0) (ix2 ⟨8192 + n.val, by omega⟩ ⟨6144 + d.val, by omega⟩) := by
    blk_ext! [iblk, V, hi]
  have e2 : ∀ k : Fin 30, iblk m c 2 t (ix4 0 k r d) = m ((c : Thread nD τ).loc main_arg1) (ix4 0 n k d) := fun k => by
    have hv : V m c main_v0 = transpose S2x30x128x1024 [0, 2, 1, 3] (m ((c : Thread nD τ).loc main_arg1)) transposes_S2x128x30x1024_S2x30x128x1024_0_2_1_3 := by
      entry_read
      rfl
    have he' : ((cfg0.win 2).blk t).view.emb (ix4 0 k r d) = ix4 0 k n d := by
      funext a
      apply Fin.ext
      match a with
      | ⟨0, _⟩ => show win0_2.index t 0 * 1 + 1 * 0 = 0; rw [hi.2.2.2.2.1]
      | ⟨1, _⟩ => show win0_2.index t 1 * 30 + 1 * k.val = k.val; rw [hi.2.2.2.2.2.1]; omega
      | ⟨2, _⟩ => show win0_2.index t 2 * 32 + 1 * r.val = n.val; rw [hi.2.2.2.2.2.2.1]; omega
      | ⟨3, _⟩ => show win0_2.index t 3 * 1024 + 1 * d.val = d.val; rw [hi.2.2.2.2.2.2.2.1]; omega
    show V m c main_v0 (((cfg0.win 2).blk t).view.emb (ix4 0 k r d)) = _
    rw [he', hv]
    pointwise []
  unfold state
  by_cases h : j.val < 29
  · rw [dif_pos h]
    exact (dif_pos h).trans (e2 _)
  · rw [dif_neg h]
    exact (dif_neg h).trans (congrArg₂ (fun a b : EReal => a * Ideal.logistic b) e0 e1)

/-- Thirty rows and one more, joined. -/
theorem join_apply (f : Cert.ConvSampleRefIdeal.S128x30x1024.Idx → EReal) (g : Cert.ConvSampleRefIdeal.S128x1x1024.Idx → EReal)
    (hc : Shape.Concatenates [Cert.ConvSampleRefIdeal.S128x30x1024, Cert.ConvSampleRefIdeal.S128x1x1024] Cert.ConvSampleRefIdeal.S128x31x1024 1)
    (n : Fin 128) (j : Fin 31) (d : Fin 1024) :
    concatenate Cert.ConvSampleRefIdeal.S128x31x1024 1 [⟨Cert.ConvSampleRefIdeal.S128x30x1024, f⟩, ⟨Cert.ConvSampleRefIdeal.S128x1x1024, g⟩] hc (ix3 n j d)
      = if h : j.val < 30 then f (ix3 n ⟨j.val, h⟩ d) else g (ix3 n 0 d) := by
  have hj := j.isLt
  by_cases h : j.val < 30
  · rw [dif_pos h]
    exact concatenate_apply_piece (1 : Fin Cert.ConvSampleRefIdeal.S128x31x1024.rank) _ _ (ix3 n j d) 0 (by simp)
      Cert.ConvSampleRefIdeal.S128x30x1024 f rfl rfl 0 (by simp) (ix3 n ⟨j.val, h⟩ d) (fun b hb => by
        match b with
        | ⟨0, _⟩ => rfl
        | ⟨1, _⟩ => exact absurd rfl hb
        | ⟨2, _⟩ => rfl)
      (show 0 + j.val = j.val by omega)
  · rw [dif_neg h]
    exact concatenate_apply_piece (1 : Fin Cert.ConvSampleRefIdeal.S128x31x1024.rank) _ _ (ix3 n j d) 1 (by simp)
      Cert.ConvSampleRefIdeal.S128x1x1024 g rfl rfl 30 (by simp [Cert.ConvSampleRefIdeal.S128x30x1024]) (ix3 n 0 d) (fun b hb => by
        match b with
        | ⟨0, _⟩ => rfl
        | ⟨1, _⟩ => exact absurd rfl hb
        | ⟨2, _⟩ => rfl)
      (show 30 + 0 = j.val by omega)

open Cert.ConvSampleRefIdeal Cert.ConvSampleRefIdeal.Read Cert.ConvSampleRefIdeal.Gen in
/-- The reference at an index. -/
theorem ref_apply (x0 : (⟨Cert.ConvSampleRefIdeal.S8320x24576, .f32⟩ : BufTy).Contents (Elt Ideal))
    (x1 : (⟨Cert.ConvSampleRefIdeal.S2x128x30x1024, .f32⟩ : BufTy).Contents (Elt Ideal)) (j : Fin 30) (n : Fin 128) (d : Fin 1024) :
    val_main_v14 (F := Ideal) x0 x1 (ix3 j n d) = state x0 x1 j n d := by
  pointwise [val_main_v14, val_main_v13]
  unfold val_main_v12
  rw [join_apply]
  unfold state
  by_cases h : j.val < 29
  · rw [dif_pos h, dif_pos (show 1 + j.val < 30 by omega)]
    pointwise [val_main_v10, val_main_v9]
    exact congrArg (fun k => x1 (ix4 0 n k d)) (Fin.ext (Nat.add_comm 1 j.val))
  · rw [dif_neg h, dif_neg (show ¬ 1 + j.val < 30 by omega)]
    pointwise [val_main_v11, val_main_v8, val_main_v7, val_main_v6, val_main_v5, val_main_v4, val_main_v3, val_main_v2, val_main_v1,
      val_main_v0, val_main_cst, val_main_cst_0]
    rfl

open Cert.ConvSampleIdeal Cert.ConvSampleIdeal.Gen Idealize.ShloMosaic.TcCoe in
/-- After the run of the continuation's filter its state is the one the frame names, and the arguments are as launched. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c : Thread nD τ).loc main_v4_1) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run Cert.ConvSampleIdeal.defs _ _).mono (fun r h c => ⟨(h c).1 8,
      ((h c).1 1).trans (((dats m 0 c).arrAt_in 1 rfl _).trans ((A_eq m c 1).trans (V_main_arg0 m c))),
      ((h c).2 main_arg1 (Pipeline.mem_restRefs_of main_arg1 (by decide) (by decide))).trans (V_main_arg1 m c),
      ((h c).1 3).trans (((dats m 0 c).arrAt_in 3 rfl _).trans ((A_eq m c 3).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m g)

end Cert.Tap1
end
-- ==== Proof.Tail.lean ====
/-
  THE CONVOLUTION STATE OF THE PROMPT: the last gated rows of every sequence.
-/
module
public import proofs.«01_k».proof.Proof.Gen.ConvPromptIdeal.Value
public import proofs.«01_k».proof.Proof.Gen.ConvPromptRefIdeal.Run
public import proofs.«01_k».proof.Proof.Gen.ConvPromptRefIdeal.Read
public import proofs.«01_k».proof.Proof.Product
public import Idealize.ShloMosaic.Lib.WritesUnit
@[expose] public section
noncomputable section
namespace Cert.Tail1
open Cert.ConvPromptIdeal Cert.ConvPromptIdeal.Gen Idealize.ShloMosaic Idealize.ShloMosaic.TcCoe Idealize.SL.Sem

/-- The gated row `2016 + j` of sequence `b`. -/
def last (x : (⟨S8320x24576, .f32⟩ : BufTy).Contents (Elt Ideal)) (b : Fin 4) (j : Fin 32) (d : Fin 1024) : EReal :=
  x (ix2 ⟨2048 * b.val + 2016 + j.val, by omega⟩ ⟨5120 + d.val, by omega⟩)
    * Ideal.logistic (x (ix2 ⟨2048 * b.val + 2016 + j.val, by omega⟩ ⟨6144 + d.val, by omega⟩))

section
variable (c : Dev nD) (i : grid0.Coords)
  (arg2 : Memref sig .tc .vmem S256x1024 .f32) (harg2 : arg2.IsWhole)
  (arg3 : Memref sig .tc .vmem S256x1024 .f32) (harg3 : arg3.IsWhole)
  (arg4 : Memref sig .tc .vmem S32x1024 .f32) (harg4 : arg4.IsWhole)
  (arg5 : Memref sig .tc .vmem S32x1024 .f32) (harg5 : arg5.IsWhole)
  (arg6 : Memref sig .tc .vmem S31x1024 .f32) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S1x1024 .f32) (harg9 : arg9.IsWhole)
  (arg10 : Memref sig .tc .vmem S256x1024 .bf16) (harg10 : arg10.IsWhole)
  (arg11 : Memref sig .tc .vmem S1x32x1024 .f32) (harg11 : arg11.IsWhole)
  (arg12 : Memref sig .tc .vmem S288x1024 .f32) (harg12 : arg12.IsWhole)
  (arg13 : Memref sig .tc .vmem S256x1024 .f32) (harg13 : arg13.IsWhole)
  (x0 : Vec Ideal S256x1024 .f32) (x1 : Vec Ideal S256x1024 .f32) (x2 : Vec Ideal S32x1024 .f32) (x3 : Vec Ideal S32x1024 .f32)
  (x4 : Vec Ideal S31x1024 .f32) (x5 : Vec Ideal S1x1024 .f32) (x6 : Vec Ideal S1x1024 .f32) (x7 : Vec Ideal S1x1024 .f32)

set_option maxRecDepth 8192 in
/-- The one store of the state. -/
theorem run_state :
    (kernelRun0_A (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 x7).2.1
      = [⟨Rect.unit ![0, 0, 0] S1x32x1024.size inb_S1x32x1024_S1x32x1024_0_0_0,
          k0_pay2 (F := Ideal) (k0_pay3 (arg2.view.readAt (Elt Ideal) (Rect.unit ![0, 0] S256x1024.size inb_S256x1024_S256x1024_0_0).toLoadRect (harg2.unread x0))
            (arg3.view.readAt (Elt Ideal) (Rect.unit ![0, 0] S256x1024.size inb_S256x1024_S256x1024_0_0).toLoadRect (harg3.unread x1)))⟩] := by
  unfold kernelRun0_A
  rfl

/-- The state block at an index. -/
theorem out_apply (j : Fin 32) (d : Fin 1024) :
    out0_A_9 (F := Ideal) c i arg2 harg2 arg3 harg3 arg4 harg4 arg5 harg5 arg6 harg6 arg7 harg7 arg8 harg8 arg9 harg9 arg10 harg10 arg11 harg11 arg12 harg12 arg13 harg13 x0 x1 x2 x3 x4 x5 x6 x7 (ix3 0 j d)
      = x0 (ix2 ⟨224 + j.val, by omega⟩ d) * Ideal.logistic (x1 (ix2 ⟨224 + j.val, by omega⟩ d)) := by
  have hz2 : (![0, 0] : Fin 2 → Nat) = fun _ => 0 := funext fun a => by fin_cases a <;> rfl
  have hz3 : (![0, 0, 0] : Fin 3 → Nat) = fun _ => 0 := funext fun a => by fin_cases a <;> rfl
  have e2 : arg2.view.readAt (Elt Ideal) (Rect.unit ![0, 0] S256x1024.size inb_S256x1024_S256x1024_0_0).toLoadRect (harg2.unread x0) = x0 := by
    funext y
    show arg2.view.read (Elt Ideal) (harg2.unread x0) ((Rect.unit ![0, 0] S256x1024.size inb_S256x1024_S256x1024_0_0).idx y) = _
    rw [Memref.IsWhole.read_unread]
    congr 1
    funext a
    apply Fin.ext
    match a with
    | ⟨0, _⟩ => show 0 + 1 * (y 0).val = (y 0).val; omega
    | ⟨1, _⟩ => show 0 + 1 * (y 1).val = (y 1).val; omega
  have e3 : arg3.view.readAt (Elt Ideal) (Rect.unit ![0, 0] S256x1024.size inb_S256x1024_S256x1024_0_0).toLoadRect (harg3.unread x1) = x1 := by
    funext y
    show arg3.view.read (Elt Ideal) (harg3.unread x1) ((Rect.unit ![0, 0] S256x1024.size inb_S256x1024_S256x1024_0_0).idx y) = _
    rw [Memref.IsWhole.read_unread]
    congr 1
    funext a
    apply Fin.ext
    match a with
    | ⟨0, _⟩ => show 0 + 1 * (y 0).val = (y 0).val; omega
    | ⟨1, _⟩ => show 0 + 1 * (y 1).val = (y 1).val; omega
  unfold out0_A_9
  rw [run_state, e2, e3]
  refine (View.read_writes_cons_unit_of_mem VO0_9 _ _ _ _ _ (ix3 0 j d) rfl fun a => ?_).trans ?_
  · match a with
    | ⟨0, _⟩ => exact (Nat.zero_add _).symm
    | ⟨1, _⟩ => exact (Nat.zero_add _).symm
    | ⟨2, _⟩ => exact (Nat.zero_add _).symm
  · pointwise [k0_pay2, k0_pay3]
end

theorem idx : ∀ t : Fin cfg0.N, win0_0.index t 0 = t.val ∧ win0_0.index t 1 = 5 ∧ win0_1.index t 0 = t.val ∧ win0_1.index t 1 = 6
    ∧ win0_9.index t 0 = t.val / 8 ∧ win0_9.index t 1 = 0 ∧ win0_9.index t 2 = 0 :=
  (by decide +kernel : ∀ t : Fin grid0.N, win0_0.index t 0 = t.val ∧ win0_0.index t 1 = 5 ∧ win0_1.index t 0 = t.val ∧ win0_1.index t 1 = 6
    ∧ win0_9.index t 0 = t.val / 8 ∧ win0_9.index t 1 = 0 ∧ win0_9.index t 2 = 0)

variable (m : (ℓ : Loc nD τ sig) → Buf (Elt Ideal) ℓ) (c : Dev nD)

/-- The blocks written back share no index. -/
theorem disj : ∀ t t' : Fin cfg0.N, (cfg0.win 9).flush t = true → (cfg0.win 9).flush t' = true → t ≠ t' →
    Disjoint ((cfg0.win 9).blk t).view.set ((cfg0.win 9).blk t').view.set := fun t t' h h' hne =>
  (cfg0.win 9).disjoint_blk fun e => hne (Fin.ext (by
    have h0 : win0_9.index t 0 = win0_9.index t' 0 := congrFun e 0
    rw [(idx t).2.2.2.2.1, (idx t').2.2.2.2.1] at h0
    have := (flush0_9 t).1 h
    have := (flush0_9 t').1 h'
    omega))

theorem X0_apply (t : Fin cfg0.N) (r : Fin 256) (d : Fin 1024) (hn : 256 * t.val + r.val < 8320) :
    X0_0 m c t (ix2 r d) = m ((c : Thread nD τ).loc main_arg0) (ix2 ⟨256 * t.val + r.val, hn⟩ ⟨5120 + d.val, by omega⟩) := by
  unfold X0_0 Pipeline.Window.fill
  rw [dif_pos (moved0_0 t _)]
  unfold iblk
  rw [View.read_apply]
  show V m c main_arg0 _ = m (c.tc.loc main_arg0) _
  rw [V_main_arg0]
  have hi := idx t
  congr 1
  funext a
  apply Fin.ext
  match a with
  | ⟨0, _⟩ => show win0_0.index t 0 * 256 + 1 * r.val = 256 * t.val + r.val; rw [hi.1]; omega
  | ⟨1, _⟩ => show win0_0.index t 1 * 1024 + 1 * d.val = 5120 + d.val; rw [hi.2.1]; omega

theorem X1_apply (t : Fin cfg0.N) (r : Fin 256) (d : Fin 1024) (hn : 256 * t.val + r.val < 8320) :
    X0_1 m c t (ix2 r d) = m ((c : Thread nD τ).loc main_arg0) (ix2 ⟨256 * t.val + r.val, hn⟩ ⟨6144 + d.val, by omega⟩) := by
  unfold X0_1 Pipeline.Window.fill
  rw [dif_pos (moved0_1 t _)]
  unfold iblk
  rw [View.read_apply]
  show V m c main_arg0 _ = m (c.tc.loc main_arg0) _
  rw [V_main_arg0]
  have hi := idx t
  congr 1
  funext a
  apply Fin.ext
  match a with
  | ⟨0, _⟩ => show win0_1.index t 0 * 256 + 1 * r.val = 256 * t.val + r.val; rw [hi.2.2.1]; omega
  | ⟨1, _⟩ => show win0_1.index t 1 * 1024 + 1 * d.val = 6144 + d.val; rw [hi.2.2.2.1]; omega

set_option maxHeartbeats 2000000 in
/-- The result at an index. -/
theorem result_apply (b : Fin 4) (j : Fin 32) (d : Fin 1024) :
    (dats m 0 c).arrAt 9 cfg0.N (ix3 b j d) = last (m ((c : Thread nD τ).loc main_arg0)) b j d := by
  have hN : cfg0.N = 32 := by decide +kernel
  have hbl := b.isLt
  let t : Fin cfg0.N := ⟨8 * b.val + 7, by rw [hN]; omega⟩
  have htv : t.val = 8 * b.val + 7 := rfl
  have hi := idx t
  have hb := congrFun ((dats m 0 c).read_blk_arrAt_eq_flushed 9 disj cfg0.N t t.isLt ((flush0_9 t).2 (by omega))) (ix3 0 j d)
  rw [Cert.ConvPromptIdeal.Value.flushed9_A, View.read_apply] at hb
  have he : ((cfg0.win 9).blk t).view.emb (ix3 0 j d) = ix3 b j d := by
    funext a
    apply Fin.ext
    match a with
    | ⟨0, _⟩ => show win0_9.index t 0 * 1 + 1 * 0 = b.val; rw [hi.2.2.2.2.1]; omega
    | ⟨1, _⟩ => show win0_9.index t 1 * 32 + 1 * j.val = j.val; rw [hi.2.2.2.2.2.1]; omega
    | ⟨2, _⟩ => show win0_9.index t 2 * 1024 + 1 * d.val = d.val; rw [hi.2.2.2.2.2.2]; omega
  rw [he] at hb
  refine hb.trans ?_
  refine (out_apply c (grid0.coords t) _ _ _ _ _ _ _ _ _ _ _ _ _ _ _ _ _ _ _ _ _ _ _ _ _ _ _ _ _ _ _ _ j d).trans ?_
  rw [X0_apply m c t _ d (by show 256 * t.val + (224 + j.val) < 8320; omega), X1_apply m c t _ d (by show 256 * t.val + (224 + j.val) < 8320; omega)]
  have hr : (⟨256 * t.val + (224 + j.val), by omega⟩ : Fin 8320) = ⟨2048 * b.val + 2016 + j.val, by omega⟩ := Fin.ext (by show 256 * t.val + (224 + j.val) = 2048 * b.val + 2016 + j.val; omega)
  unfold last
  rw [← hr]

/-- Thirty rows and the sequence's, joined. -/
theorem join_apply (f : Cert.ConvPromptRefIdeal.S4x30x1024.Idx → EReal) (g : Cert.ConvPromptRefIdeal.S4x2048x1024.Idx → EReal)
    (hc : Shape.Concatenates [Cert.ConvPromptRefIdeal.S4x30x1024, Cert.ConvPromptRefIdeal.S4x2048x1024] Cert.ConvPromptRefIdeal.S4x2078x1024 1)
    (b : Fin 4) (j : Fin 2078) (d : Fin 1024) (h : 30 ≤ j.val) :
    concatenate Cert.ConvPromptRefIdeal.S4x2078x1024 1 [⟨Cert.ConvPromptRefIdeal.S4x30x1024, f⟩, ⟨Cert.ConvPromptRefIdeal.S4x2048x1024, g⟩] hc (ix3 b j d)
      = g (ix3 b ⟨j.val - 30, by omega⟩ d) := by
  have hj := j.isLt
  exact concatenate_apply_piece (1 : Fin Cert.ConvPromptRefIdeal.S4x2078x1024.rank) _ _ (ix3 b j d) 1 (by simp)
      Cert.ConvPromptRefIdeal.S4x2048x1024 g rfl rfl 30 (by simp [Cert.ConvPromptRefIdeal.S4x30x1024]) (ix3 b ⟨j.val - 30, by omega⟩ d) (fun b hb => by
        match b with
        | ⟨0, _⟩ => rfl
        | ⟨1, _⟩ => exact absurd rfl hb
        | ⟨2, _⟩ => rfl)
      (show 30 + (j.val - 30) = j.val by omega)

open Cert.ConvPromptRefIdeal Cert.ConvPromptRefIdeal.Read Cert.ConvPromptRefIdeal.Gen in
/-- The reference at an index. -/
theorem ref_apply (x0 : (⟨Cert.ConvPromptRefIdeal.S8320x24576, .f32⟩ : BufTy).Contents (Elt Ideal)) (b : Fin 4) (j : Fin 32) (d : Fin 1024) :
    val_main_v12 (F := Ideal) x0 (ix3 b j d) = last x0 b j d := by
  pointwise [val_main_v12]
  unfold val_main_v11
  rw [join_apply _ _ _ _ _ _ (by show 30 ≤ 2046 + j.val; omega)]
  have hb := b.isLt
  have e : ∀ r : Fin 8192, r.val = 2048 * b.val + 2016 + j.val →
      val_main_v8 (F := Ideal) x0 (ix2 r d) = last x0 b j d := fun r hr => by
    obtain ⟨r, hlt⟩ := r
    have hr' : r = 2048 * b.val + 2016 + j.val := hr
    subst hr'
    pointwise [val_main_v8, val_main_v7, val_main_v6, val_main_v5, val_main_v4, val_main_v3, val_main_v2, val_main_v1,
      val_main_v0, val_main_cst, val_main_cst_0]
    rfl
  rw [val_main_v9_apply]
  have hx : idx_main_v9 (ix3 b ⟨2046 + j.val - 30, by omega⟩ d) = ix2 ⟨2048 * b.val + 2016 + j.val, by omega⟩ d := by
    funext a
    apply Fin.ext
    match a with
    | ⟨0, _⟩ => show ((b.val * 2048 + (2046 + j.val - 30)) * 1024 + d.val) / 1024 = 2048 * b.val + 2016 + j.val; omega
    | ⟨1, _⟩ => show ((b.val * 2048 + (2046 + j.val - 30)) * 1024 + d.val) % 1024 = d.val; omega
  exact (congrArg (val_main_v8 (F := Ideal) x0) hx).trans (e _ rfl)
end Cert.Tail1
end
-- ==== Proof.Halves.lean ====
/-
  THE PRECONDITION of the rotary keys: the second pair of 32 columns repeats the first, halves swapped.
-/
module
public import proofs.«01_k».proof.Proof.Gen.Pre_rope_halves
public import Idealize.ShloMosaic.Lib.ReduceAll
public import Idealize.ShloMosaic.Lib.Pointwise
@[expose] public section
noncomputable section
namespace Cert.Rope1
open Cert.Pre_rope_halves Cert.Pre_rope_halves.Gen Idealize.ShloMosaic

variable (x0 : (⟨S8320x24576, .f32⟩ : BufTy).Contents (Elt Ideal)) (x1 : (⟨S8320x256, .f32⟩ : BufTy).Contents (Elt Ideal))
  (x2 : (⟨S8320, .i32⟩ : BufTy).Contents (Elt Ideal)) (x3 : (⟨S768, .f32⟩ : BufTy).Contents (Elt Ideal))
  (x4 : (⟨S256, .f32⟩ : BufTy).Contents (Elt Ideal)) (x5 : (⟨S768x1536, .f32⟩ : BufTy).Contents (Elt Ideal))
  (x6 : (⟨S256x8x128, .f32⟩ : BufTy).Contents (Elt Ideal))

/-- What the precondition says. -/
theorem halves (e : fn (F := Ideal) x0 x1 x2 x3 x4 x5 x6 = fun _ => 1#1) :
    (∀ (n : Fin 8320) (k : Fin 32), x1 (ix2 n ⟨64 + k.val, by omega⟩) = x1 (ix2 n ⟨32 + k.val, by omega⟩))
    ∧ (∀ (n : Fin 8320) (k : Fin 32), x1 (ix2 n ⟨96 + k.val, by omega⟩) = x1 (ix2 n ⟨k.val, by omega⟩)) := by
  have h := congrFun e ix0
  dsimp only [fn] at h
  obtain ⟨h0, h1⟩ := IntOp.andi_eq_one.1 h
  haveI : Subsingleton S_.Idx := ⟨fun a b => funext fun k => k.elim0⟩
  constructor
  · intro n k
    have e0 := Host.reduce_andi_all _ _ _ _ _ h0 (ix2 n k)
    change Ideal.cmp .oeq _ _ = 1 at e0
    have e1 := (Ideal.cmp_oeq_eq_one _ _).1 e0
    revert e1
    pointwise []
    intro e1
    convert e1 using 3 <;> omega
  · intro n k
    have e0 := Host.reduce_andi_all _ _ _ _ _ h1 (ix2 n k)
    change Ideal.cmp .oeq _ _ = 1 at e0
    have e1 := (Ideal.cmp_oeq_eq_one _ _).1 e0
    revert e1
    pointwise []
    intro e1
    convert e1 using 3 <;> omega

end Cert.Rope1
-- ==== Proof.Rope.lean ====
/-
  THE LATENT AND THE ROTARY KEY that every token leaves in the cache.
-/
module
public import proofs.«01_k».proof.Proof.Gen.QkvIdeal.Value
public import proofs.«01_k».proof.Proof.Gen.QkvRefIdeal.Run
public import proofs.«01_k».proof.Proof.Gen.QkvRefIdeal.Read
public import proofs.«01_k».proof.Proof.Product
public import Idealize.ShloMosaic.Lib.KernelVsHost
@[expose] public section
noncomputable section
namespace Cert.Rope1
open Cert.QkvIdeal Cert.QkvIdeal.Gen Idealize.ShloMosaic Idealize.ShloMosaic.TcCoe Idealize.SL.Sem

/-- A row over the root of its mean square, at column `d`. -/
def rms (f : Fin 256 → EReal) (g : EReal) (d : Fin 256) : EReal :=
  f d * Ideal.rsqrt (Ideal.div (∑ k, f k * f k) (Ideal.ofBits .f32 0x43800000#32) + Ideal.ofBits .f32 0x358637BD#32) * g

/-- The latent of token `n`. -/
def latent (x : (⟨S8320x24576, .f32⟩ : BufTy).Contents (Elt Ideal)) (g : (⟨S256, .f32⟩ : BufTy).Contents (Elt Ideal)) (n : Fin 8320) (d : Fin 256) : EReal :=
  rms (fun k => x (ix2 n ⟨7936 + k.val, by omega⟩)) (g (ix1 d)) d

/-- The angles' cosines and sines. -/
def co (p : (⟨S8320, .i32⟩ : BufTy).Contents (Elt Ideal)) : S8320x32.Idx → EReal := Cert.QkvRefIdeal.Read.val_main_v27 (F := Ideal) p
def si (p : (⟨S8320, .i32⟩ : BufTy).Contents (Elt Ideal)) : S8320x32.Idx → EReal := Cert.QkvRefIdeal.Read.val_main_v28 (F := Ideal) p

/-- The rotary key of token `n`, on 128 lanes. -/
def rope (s : (⟨S8320x256, .f32⟩ : BufTy).Contents (Elt Ideal)) (p : (⟨S8320, .i32⟩ : BufTy).Contents (Elt Ideal)) (n : Fin 8320) (j : Fin 128) : EReal :=
  if h : j.val < 32 then s (ix2 n ⟨j.val, by omega⟩) * co p (ix2 n ⟨j.val, h⟩) - s (ix2 n ⟨32 + j.val, by omega⟩) * si p (ix2 n ⟨j.val, h⟩)
  else if h' : j.val < 64 then s (ix2 n ⟨j.val, by omega⟩) * co p (ix2 n ⟨j.val - 32, by omega⟩) + s (ix2 n ⟨j.val - 32, by omega⟩) * si p (ix2 n ⟨j.val - 32, by omega⟩)
  else 0

theorem pay_latent (x0 : Vec Ideal S416x256 .f32) (x1 : Vec Ideal S1x256 .f32) (r : Fin 416) (d : Fin 256) :
    k0_pay5 x0 x1 (ix2 r d) = rms (fun k => x0 (ix2 r k)) (x1 (ix2 0 d)) d := by
  pointwise [k0_pay5]
  rfl

theorem pay_latent' (x0 : Vec Ideal S416x256 .f32) (x1 : Vec Ideal S1x256 .f32) (r : Fin 416) (d : Fin 256) :
    k0_pay6 x0 x1 (ix2 r d) = rms (fun k => x0 (ix2 r k)) (x1 (ix2 0 d)) d := by
  pointwise [k0_pay6]
  exact pay_latent x0 x1 r d

theorem rotate_apply (x : Vec Ideal S416x128 .f32) (h : S416x128.Rotates 1 none) (r : Fin 416) (j : Fin 128) :
    dynamicRotate 1 64#32 none x h (ix2 r j) = x (ix2 r ⟨(j.val + 64) % 128, by omega⟩) :=
  dynamicRotate_apply (1 : Fin S416x128.rank) 64#32 x h (ix2 r j) (ix2 r ⟨(j.val + 64) % 128, by omega⟩) (fun b => by
    match b with
    | ⟨0, _⟩ => rfl
    | ⟨1, _⟩ => show (j.val + 64) % 128 = (j.val + 128 - 64 % 128) % 128; omega)

theorem pay_rope (x0 x1 x2 : Vec Ideal S416x128 .f32) (r : Fin 416) (j : Fin 128) :
    k0_pay9 (k0_pay7 x0) x1 x2 (ix2 r j) = x2 (ix2 r j) * x0 (ix2 r j) + x2 (ix2 r ⟨(j.val + 64) % 128, by omega⟩) * x1 (ix2 r j) := by
  show x2 (ix2 r j) * k0_pay7 x0 (ix2 r j) + dynamicRotate 1 64#32 none x2 rotates_S416x128_d1 (ix2 r j) * k0_pay8 x1 (ix2 r j) = _
  rw [rotate_apply]
  pointwise [k0_pay7, k0_pay8]

theorem pay_rope' (x0 x1 x2 : Vec Ideal S416x128 .f32) (r : Fin 416) (j : Fin 128) :
    k0_pay10 (k0_pay7 x0) x1 x2 (ix2 r j) = x2 (ix2 r j) * x0 (ix2 r j) + x2 (ix2 r ⟨(j.val + 64) % 128, by omega⟩) * x1 (ix2 r j) :=
  pay_rope x0 x1 x2 r j

section
variable (x0 : Vec Ideal S416x1024 .f32) (x1 : Vec Ideal S416x256 .f32) (x2 x3 : Vec Ideal S416x128 .f32) (x4 : Vec Ideal S1x768 .f32)
  (x5 : Vec Ideal S1x256 .f32) (x6 x7 x8 : Vec Ideal S768x1024 .bf16) (x9 : Vec Ideal S8x128x256 .bf16)

theorem ld_latent (r : Fin 416) (k : Fin 256) : View.ld x0 r0_2 (ix2 r k) = x0 (ix2 r ⟨768 + k.val, by omega⟩) := by
  show x0 (r0_2.idx (ix2 r k)) = _
  congr 1
  funext a; apply Fin.ext
  match a with
  | ⟨0, _⟩ => show 0 + 1 * r.val = r.val; omega
  | ⟨1, _⟩ => show 768 + 1 * k.val = 768 + k.val; omega

theorem ld_small (r : Fin 416) (k : Fin 128) : View.ld x1 r0_6 (ix2 r k) = x1 (ix2 r ⟨k.val, by omega⟩) := by
  show x1 (r0_6.idx (ix2 r k)) = _
  congr 1
  funext a; apply Fin.ext
  match a with
  | ⟨0, _⟩ => show 0 + 1 * r.val = r.val; omega
  | ⟨1, _⟩ => show 0 + 1 * k.val = k.val; omega

theorem hz2 : (![0, 0] : Fin 2 → Nat) = fun _ => 0 := funext fun a => by fin_cases a <;> rfl

theorem out10 (r : Fin 416) (d : Fin 256) : out0_10 x0 x1 x2 x3 x4 x5 x6 x7 x8 x9 (ix2 r d)
    = rms (fun k => x0 (ix2 r ⟨768 + k.val, by omega⟩)) (x5 (ix2 0 d)) d := by
  unfold out0_10
  rw [View.canon_unit_zero hz2, pay_latent, View.ld_unit_zero hz2]
  exact congrArg (fun f => rms f (x5 (ix2 0 d)) d) (funext fun k => ld_latent x0 r k)

theorem out12 (r : Fin 416) (d : Fin 256) : out0_12 x0 x1 x2 x3 x4 x5 x6 x7 x8 x9 (ix2 r d)
    = rms (fun k => x0 (ix2 r ⟨768 + k.val, by omega⟩)) (x5 (ix2 0 d)) d := by
  unfold out0_12
  rw [View.canon_unit_zero hz2, pay_latent', View.ld_unit_zero hz2]
  exact congrArg (fun f => rms f (x5 (ix2 0 d)) d) (funext fun k => ld_latent x0 r k)

theorem out11 (r : Fin 416) (j : Fin 128) : out0_11 x0 x1 x2 x3 x4 x5 x6 x7 x8 x9 (ix2 r j)
    = x1 (ix2 r ⟨j.val, by omega⟩) * x2 (ix2 r j) + x1 (ix2 r ⟨(j.val + 64) % 128, by omega⟩) * x3 (ix2 r j) := by
  unfold out0_11 k0_pay32
  rw [View.canon_unit_zero hz2, pay_rope, View.ld_unit_zero hz2, View.ld_unit_zero hz2, ld_small, ld_small]

theorem out13 (r : Fin 416) (j : Fin 128) : out0_13 x0 x1 x2 x3 x4 x5 x6 x7 x8 x9 (ix2 r j)
    = x1 (ix2 r ⟨j.val, by omega⟩) * x2 (ix2 r j) + x1 (ix2 r ⟨(j.val + 64) % 128, by omega⟩) * x3 (ix2 r j) := by
  unfold out0_13 k0_pay32
  rw [View.canon_unit_zero hz2, pay_rope', View.ld_unit_zero hz2, View.ld_unit_zero hz2, ld_small, ld_small]
end

theorem idx : ∀ t : Fin cfg0.N, (win0_0.index t 0 = t.val ∧ win0_0.index t 1 = 7) ∧ (win0_1.index t 0 = t.val ∧ win0_1.index t 1 = 0)
    ∧ (win0_2.index t 0 = t.val ∧ win0_2.index t 1 = 0) ∧ (win0_3.index t 0 = t.val ∧ win0_3.index t 1 = 0) ∧ (win0_5.index t 0 = 0 ∧ win0_5.index t 1 = 0)
    ∧ (win0_10.index t 0 = t.val ∧ win0_10.index t 1 = 0) ∧ (win0_11.index t 0 = t.val ∧ win0_11.index t 1 = 0)
    ∧ (win0_12.index t 0 = t.val ∧ win0_12.index t 1 = 0) ∧ (win0_13.index t 0 = t.val ∧ win0_13.index t 1 = 0) :=
  (by decide +kernel : ∀ t : Fin grid0.N, (win0_0.index t 0 = t.val ∧ win0_0.index t 1 = 7) ∧ (win0_1.index t 0 = t.val ∧ win0_1.index t 1 = 0)
    ∧ (win0_2.index t 0 = t.val ∧ win0_2.index t 1 = 0) ∧ (win0_3.index t 0 = t.val ∧ win0_3.index t 1 = 0) ∧ (win0_5.index t 0 = 0 ∧ win0_5.index t 1 = 0)
    ∧ (win0_10.index t 0 = t.val ∧ win0_10.index t 1 = 0) ∧ (win0_11.index t 0 = t.val ∧ win0_11.index t 1 = 0)
    ∧ (win0_12.index t 0 = t.val ∧ win0_12.index t 1 = 0) ∧ (win0_13.index t 0 = t.val ∧ win0_13.index t 1 = 0))
theorem flush10 : ∀ t : Fin cfg0.N, (cfg0.win 10).flush t = true ∧ (cfg0.win 11).flush t = true ∧ (cfg0.win 12).flush t = true ∧ (cfg0.win 13).flush t = true :=
  (by decide +kernel : ∀ t : Fin grid0.N, win0_10.flush t = true ∧ win0_11.flush t = true ∧ win0_12.flush t = true ∧ win0_13.flush t = true)

/-- Three pieces of 32, 32 and 64 columns, joined. -/
theorem join3 (f g : S8320x32.Idx → EReal) (z : S8320x64.Idx → EReal)
    (hc : Shape.Concatenates [S8320x32, S8320x32, S8320x64] S8320x128 1) (n : Fin 8320) (j : Fin 128) :
    concatenate S8320x128 1 [⟨S8320x32, f⟩, ⟨S8320x32, g⟩, ⟨S8320x64, z⟩] hc (ix2 n j)
      = if h : j.val < 32 then f (ix2 n ⟨j.val, h⟩) else if h' : j.val < 64 then g (ix2 n ⟨j.val - 32, by omega⟩) else z (ix2 n ⟨j.val - 64, by omega⟩) := by
  have hj := j.isLt
  by_cases h : j.val < 32
  · rw [dif_pos h]
    exact concatenate_apply_piece (1 : Fin S8320x128.rank) _ _ (ix2 n j) 0 (by simp) S8320x32 f rfl rfl 0 (by simp) (ix2 n ⟨j.val, h⟩) (fun b hb => by
        match b with
        | ⟨0, _⟩ => rfl
        | ⟨1, _⟩ => exact absurd rfl hb)
      (show 0 + j.val = j.val by omega)
  · rw [dif_neg h]
    by_cases h' : j.val < 64
    · rw [dif_pos h']
      exact concatenate_apply_piece (1 : Fin S8320x128.rank) _ _ (ix2 n j) 1 (by simp) S8320x32 g rfl rfl 32 (by simp [S8320x32]) (ix2 n ⟨j.val - 32, by omega⟩) (fun b hb => by
          match b with
          | ⟨0, _⟩ => rfl
          | ⟨1, _⟩ => exact absurd rfl hb)
        (show 32 + (j.val - 32) = j.val by omega)
    · rw [dif_neg h']
      exact concatenate_apply_piece (1 : Fin S8320x128.rank) _ _ (ix2 n j) 2 (by simp) S8320x64 z rfl rfl 64 (by simp [S8320x32]) (ix2 n ⟨j.val - 64, by omega⟩) (fun b hb => by
          match b with
          | ⟨0, _⟩ => rfl
          | ⟨1, _⟩ => exact absurd rfl hb)
        (show 64 + (j.val - 64) = j.val by omega)

end Cert.Rope1
end
-- ==== Proof.Table.lean ====
/-
  THE ROTARY TABLES that the host hands to the call.
-/
module
public import proofs.«01_k».proof.Proof.Rope
public import Idealize.ShloMosaic.Lib.StableHlo.RunRead
@[expose] public section
noncomputable section
namespace Cert.Rope1
open Cert.QkvIdeal Cert.QkvIdeal.Gen Idealize.ShloMosaic Idealize.ShloMosaic.TcCoe Idealize.SL.Sem

variable (m : (ℓ : Loc nD τ sig) → Buf (Elt Ideal) ℓ) (c : Dev nD)

/-- The memory the host's operations start from. -/
abbrev start : Valuation τ sig (Elt Ideal) := fun b => m (c, b)

set_option maxRecDepth 8192 in
theorem at_cos (n : ℕ) (hn : n = 18) : (StableHlo.upto hostOps0 (start m c) n (Proc.devRef .tc main_v12) : S8320x32.Idx → EReal) = co (m ((c : Thread nD τ).loc main_arg2)) := by
  subst hn
  after_reads_simp
  rfl

set_option maxRecDepth 8192 in
theorem at_zero (n : ℕ) (hn : n = 18 ∨ n = 20) : (StableHlo.upto hostOps0 (start m c) n (Proc.devRef .tc main_v14) : S8320x64.Idx → EReal)
    = broadcastInDim S8320x64 ![] bcast_S_S8320x64 (constant (F := Ideal) S_ .f32 0x00000000#32) := by
  rcases hn with rfl | rfl
  all_goals
    after_reads_simp
    try rfl

set_option maxRecDepth 8192 in
theorem at_sin (n : ℕ) (hn : n = 20) : (StableHlo.upto hostOps0 (start m c) n (Proc.devRef .tc main_v13) : S8320x32.Idx → EReal) = si (m ((c : Thread nD τ).loc main_arg2)) := by
  subst hn
  after_reads_simp
  rfl

set_option maxRecDepth 8192 in
theorem at_neg (n : ℕ) (hn : n = 20) : (StableHlo.upto hostOps0 (start m c) n (Proc.devRef .tc main_v16) : S8320x32.Idx → EReal)
    = Host.negf (F := Ideal) (φ := .f32) (si (m ((c : Thread nD τ).loc main_arg2))) := by
  subst hn
  after_reads_simp
  rfl

set_option maxRecDepth 8192 in
/-- The host's cosine table. -/
theorem table_cos (n : Fin 8320) (j : Fin 128) : V m c main_v15 (ix2 n j)
    = if h : j.val < 32 then co (m ((c : Thread nD τ).loc main_arg2)) (ix2 n ⟨j.val, h⟩)
      else if h' : j.val < 64 then co (m ((c : Thread nD τ).loc main_arg2)) (ix2 n ⟨j.val - 32, by omega⟩) else 0 := by
  have hv : V m c main_v15 = concatenate S8320x128 1 [⟨S8320x32, (StableHlo.upto hostOps0 (start m c) 18 (Proc.devRef .tc main_v12) : S8320x32.Idx → EReal)⟩,
      ⟨S8320x32, (StableHlo.upto hostOps0 (start m c) 18 (Proc.devRef .tc main_v12) : S8320x32.Idx → EReal)⟩,
      ⟨S8320x64, (StableHlo.upto hostOps0 (start m c) 18 (Proc.devRef .tc main_v14) : S8320x64.Idx → EReal)⟩] concatenates_S8320x32_S8320x32_S8320x64_S8320x128_d1 := by
    refine (StableHlo.after_last_write (i := 18) [main_v16, main_v17, main_v18, main_v19, main_v20, main_v21, main_v22, main_cst_2, main_v23, main_v24, main_v25, main_v26, main_v27, main_v28, main_v29, main_v30, main_v31, main_v32, main_v33, main_v34, main_v35] rfl rfl (by decide) _).trans ?_
    exact StableHlo.nary_result _ _ _ _ _ _
  rw [hv, join3, at_cos m c 18 rfl, at_zero m c 18 (Or.inl rfl)]
  pointwise []

set_option maxRecDepth 8192 in
/-- The host's sine table. -/
theorem table_sin (n : Fin 8320) (j : Fin 128) : V m c main_v17 (ix2 n j)
    = if h : j.val < 32 then -(si (m ((c : Thread nD τ).loc main_arg2)) (ix2 n ⟨j.val, h⟩))
      else if h' : j.val < 64 then si (m ((c : Thread nD τ).loc main_arg2)) (ix2 n ⟨j.val - 32, by omega⟩) else 0 := by
  have hv : V m c main_v17 = concatenate S8320x128 1 [⟨S8320x32, (StableHlo.upto hostOps0 (start m c) 20 (Proc.devRef .tc main_v16) : S8320x32.Idx → EReal)⟩,
      ⟨S8320x32, (StableHlo.upto hostOps0 (start m c) 20 (Proc.devRef .tc main_v13) : S8320x32.Idx → EReal)⟩,
      ⟨S8320x64, (StableHlo.upto hostOps0 (start m c) 20 (Proc.devRef .tc main_v14) : S8320x64.Idx → EReal)⟩] concatenates_S8320x32_S8320x32_S8320x64_S8320x128_d1 := by
    refine (StableHlo.after_last_write (i := 20) [main_v18, main_v19, main_v20, main_v21, main_v22, main_cst_2, main_v23, main_v24, main_v25, main_v26, main_v27, main_v28, main_v29, main_v30, main_v31, main_v32, main_v33, main_v34, main_v35] rfl rfl (by decide) _).trans ?_
    exact StableHlo.nary_result _ _ _ _ _ _
  rw [hv, join3, at_neg m c 20 rfl, at_sin m c 20 rfl, at_zero m c 20 (Or.inr rfl)]
  pointwise []
end Cert.Rope1
end
-- ==== Proof.RopeValue.lean ====
/-
  THE CACHE'S NEW ROWS: what the call leaves is the latent and the rotary key, in both formats; so does the reference.
-/
module
public import proofs.«01_k».proof.Proof.Table
@[expose] public section
noncomputable section
namespace Cert.Rope1
open Cert.QkvIdeal Cert.QkvIdeal.Gen Idealize.ShloMosaic Idealize.ShloMosaic.TcCoe Idealize.SL.Sem

/-- The key times the cosine table, and the key turned by half of its lanes times the sine table, is the rotary key. -/
theorem turn (s : (⟨S8320x256, .f32⟩ : BufTy).Contents (Elt Ideal)) (p : (⟨S8320, .i32⟩ : BufTy).Contents (Elt Ideal))
    (h64 : ∀ (n : Fin 8320) (k : Fin 32), (s (ix2 n ⟨64 + k.val, by omega⟩) : EReal) = s (ix2 n ⟨32 + k.val, by omega⟩))
    (h96 : ∀ (n : Fin 8320) (k : Fin 32), (s (ix2 n ⟨96 + k.val, by omega⟩) : EReal) = s (ix2 n ⟨k.val, by omega⟩))
    (n : Fin 8320) (j : Fin 128) :
    (s (ix2 n ⟨j.val, by omega⟩) : EReal) * (if h : j.val < 32 then co p (ix2 n ⟨j.val, h⟩)
        else if h' : j.val < 64 then co p (ix2 n ⟨j.val - 32, by omega⟩) else 0)
      + s (ix2 n ⟨(j.val + 64) % 128, by omega⟩) * (if h : j.val < 32 then -(si p (ix2 n ⟨j.val, h⟩))
        else if h' : j.val < 64 then si p (ix2 n ⟨j.val - 32, by omega⟩) else 0) = rope s p n j := by
  unfold rope
  by_cases h : j.val < 32
  · rw [dif_pos h, dif_pos h, dif_pos h]
    have e := h64 n ⟨j.val, h⟩
    have i1 : (⟨(j.val + 64) % 128, by omega⟩ : Fin 256) = ⟨64 + j.val, by omega⟩ := Fin.ext (by show (j.val + 64) % 128 = 64 + j.val; omega)
    rw [i1, e, mul_neg, ← sub_eq_add_neg]
  · rw [dif_neg h, dif_neg h, dif_neg h]
    by_cases h' : j.val < 64
    · rw [dif_pos h', dif_pos h', dif_pos h']
      have e := h96 n ⟨j.val - 32, by omega⟩
      have i1 : (⟨(j.val + 64) % 128, by omega⟩ : Fin 256) = ⟨96 + (j.val - 32), by omega⟩ := Fin.ext (by show (j.val + 64) % 128 = 96 + (j.val - 32); omega)
      rw [i1, e]
    · rw [dif_neg h', dif_neg h', dif_neg h', mul_zero, mul_zero, add_zero]

section
variable (m : (ℓ : Loc nD τ sig) → Buf (Elt Ideal) ℓ) (c : Dev nD)

theorem block_proj (t : Fin cfg0.N) (r : Fin 416) (n : Fin 8320) (hn : 416 * t.val + r.val = n.val) (k : Fin 256) :
    (iblk m c 0 t (ix2 r ⟨768 + k.val, by omega⟩) : EReal) = m ((c : Thread nD τ).loc main_arg0) (ix2 n ⟨7936 + k.val, by omega⟩) := by
  have hi := idx t
  have he : ((cfg0.win 0).blk t).view.emb (ix2 r ⟨768 + k.val, by omega⟩) = ix2 n ⟨7936 + k.val, by omega⟩ := by
    funext a
    apply Fin.ext
    match a with
    | ⟨0, _⟩ => show win0_0.index t 0 * 416 + 1 * r.val = n.val; rw [hi.1.1]; omega
    | ⟨1, _⟩ => show win0_0.index t 1 * 1024 + 1 * (768 + k.val) = 7936 + k.val; rw [hi.1.2]; omega
  show V m c main_arg0 (((cfg0.win 0).blk t).view.emb (ix2 r ⟨768 + k.val, by omega⟩)) = _
  rw [he, V_main_arg0]

theorem block_small (t : Fin cfg0.N) (r : Fin 416) (n : Fin 8320) (hn : 416 * t.val + r.val = n.val) (k : Fin 256) :
    (iblk m c 1 t (ix2 r k) : EReal) = m ((c : Thread nD τ).loc main_arg1) (ix2 n k) := by
  have hi := idx t
  have he : ((cfg0.win 1).blk t).view.emb (ix2 r k) = ix2 n k := by
    funext a
    apply Fin.ext
    match a with
    | ⟨0, _⟩ => show win0_1.index t 0 * 416 + 1 * r.val = n.val; rw [hi.2.1.1]; omega
    | ⟨1, _⟩ => show win0_1.index t 1 * 256 + 1 * k.val = k.val; rw [hi.2.1.2]; omega
  show V m c main_arg1 (((cfg0.win 1).blk t).view.emb (ix2 r k)) = _
  rw [he, V_main_arg1]

theorem block_cos (t : Fin cfg0.N) (r : Fin 416) (n : Fin 8320) (hn : 416 * t.val + r.val = n.val) (j : Fin 128) :
    (iblk m c 2 t (ix2 r j) : EReal) = if h : j.val < 32 then co (m ((c : Thread nD τ).loc main_arg2)) (ix2 n ⟨j.val, h⟩)
      else if h' : j.val < 64 then co (m ((c : Thread nD τ).loc main_arg2)) (ix2 n ⟨j.val - 32, by omega⟩) else 0 := by
  have hi := idx t
  have he : ((cfg0.win 2).blk t).view.emb (ix2 r j) = ix2 n j := by
    funext a
    apply Fin.ext
    match a with
    | ⟨0, _⟩ => show win0_2.index t 0 * 416 + 1 * r.val = n.val; rw [hi.2.2.1.1]; omega
    | ⟨1, _⟩ => show win0_2.index t 1 * 128 + 1 * j.val = j.val; rw [hi.2.2.1.2]; omega
  show V m c main_v15 (((cfg0.win 2).blk t).view.emb (ix2 r j)) = _
  rw [he]
  exact table_cos m c n j

theorem block_sin (t : Fin cfg0.N) (r : Fin 416) (n : Fin 8320) (hn : 416 * t.val + r.val = n.val) (j : Fin 128) :
    (iblk m c 3 t (ix2 r j) : EReal) = if h : j.val < 32 then -(si (m ((c : Thread nD τ).loc main_arg2)) (ix2 n ⟨j.val, h⟩))
      else if h' : j.val < 64 then si (m ((c : Thread nD τ).loc main_arg2)) (ix2 n ⟨j.val - 32, by omega⟩) else 0 := by
  have hi := idx t
  have he : ((cfg0.win 3).blk t).view.emb (ix2 r j) = ix2 n j := by
    funext a
    apply Fin.ext
    match a with
    | ⟨0, _⟩ => show win0_3.index t 0 * 416 + 1 * r.val = n.val; rw [hi.2.2.2.1.1]; omega
    | ⟨1, _⟩ => show win0_3.index t 1 * 128 + 1 * j.val = j.val; rw [hi.2.2.2.1.2]; omega
  show V m c main_v17 (((cfg0.win 3).blk t).view.emb (ix2 r j)) = _
  rw [he]
  exact table_sin m c n j

set_option maxRecDepth 8192 in
theorem block_gain (t : Fin cfg0.N) (d : Fin 256) : (iblk m c 5 t (ix2 0 d) : EReal) = m ((c : Thread nD τ).loc main_arg4) (ix1 d) := by
  have hi := idx t
  have hv : V m c main_v35 = shapeCast S1x256 (m ((c : Thread nD τ).loc main_arg4)) shapeCasts_S256_S1x256 := by
    after_reads_simp
    rfl
  have he : ((cfg0.win 5).blk t).view.emb (ix2 0 d) = ix2 0 d := by
    funext a
    apply Fin.ext
    match a with
    | ⟨0, _⟩ => show win0_5.index t 0 * 1 + 1 * 0 = 0; rw [hi.2.2.2.2.1.1]
    | ⟨1, _⟩ => show win0_5.index t 1 * 256 + 1 * d.val = d.val; rw [hi.2.2.2.2.1.2]; omega
  show V m c main_v35 (((cfg0.win 5).blk t).view.emb (ix2 0 d)) = _
  rw [he, hv]
  pointwise []

set_option maxHeartbeats 2000000 in
/-- The latent that window 10 leaves, at an index. -/
theorem result10 (n : Fin 8320) (d : Fin 256) : (dats m 0 c).arrAt 10 cfg0.N (ix2 n d)
    = latent (m ((c : Thread nD τ).loc main_arg0)) (m ((c : Thread nD τ).loc main_arg4)) n d := by
  have hN : cfg0.N = 20 := by decide +kernel
  have hn := n.isLt
  let t : Fin cfg0.N := ⟨n.val / 416, by rw [hN]; omega⟩
  let r : Fin 416 := ⟨n.val % 416, Nat.mod_lt _ (by decide)⟩
  have htv : 416 * t.val + r.val = n.val := Nat.div_add_mod n.val 416
  have hi := idx t
  have hb := congrFun ((dats m 0 c).read_blk_arrAt_eq_flushed 10 Cert.QkvIdeal.Value.disjoint10 cfg0.N t t.isLt (flush10 t).1) (ix2 r d)
  rw [Cert.QkvIdeal.Value.flushed10, View.read_apply] at hb
  have he : ((cfg0.win 10).blk t).view.emb (ix2 r d) = ix2 n d := by
    funext a
    apply Fin.ext
    match a with
    | ⟨0, _⟩ => show win0_10.index t 0 * 416 + 1 * r.val = n.val; rw [hi.2.2.2.2.2.1.1]; omega
    | ⟨1, _⟩ => show win0_10.index t 1 * 256 + 1 * d.val = d.val; rw [hi.2.2.2.2.2.1.2]; omega
  rw [he] at hb
  refine hb.trans ?_
  show out0_10 (iblk m c 0 t) (iblk m c 1 t) (iblk m c 2 t) (iblk m c 3 t) (iblk m c 4 t) (iblk m c 5 t) (iblk m c 6 t) (iblk m c 7 t) (iblk m c 8 t) (iblk m c 9 t) (ix2 r d) = _
  rw [out10, block_gain]
  unfold latent
  exact congrArg (fun f => rms f _ d) (funext fun k => block_proj m c t r n htv k)

set_option maxHeartbeats 2000000 in
/-- The latent that window 12 leaves, at an index. -/
theorem result12 (n : Fin 8320) (d : Fin 256) : (dats m 0 c).arrAt 12 cfg0.N (ix2 n d)
    = latent (m ((c : Thread nD τ).loc main_arg0)) (m ((c : Thread nD τ).loc main_arg4)) n d := by
  have hN : cfg0.N = 20 := by decide +kernel
  have hn := n.isLt
  let t : Fin cfg0.N := ⟨n.val / 416, by rw [hN]; omega⟩
  let r : Fin 416 := ⟨n.val % 416, Nat.mod_lt _ (by decide)⟩
  have htv : 416 * t.val + r.val = n.val := Nat.div_add_mod n.val 416
  have hi := idx t
  have hb := congrFun ((dats m 0 c).read_blk_arrAt_eq_flushed 12 Cert.QkvIdeal.Value.disjoint12 cfg0.N t t.isLt (flush10 t).2.2.1) (ix2 r d)
  rw [Cert.QkvIdeal.Value.flushed12, View.read_apply] at hb
  have he : ((cfg0.win 12).blk t).view.emb (ix2 r d) = ix2 n d := by
    funext a
    apply Fin.ext
    match a with
    | ⟨0, _⟩ => show win0_12.index t 0 * 416 + 1 * r.val = n.val; rw [hi.2.2.2.2.2.2.2.1.1]; omega
    | ⟨1, _⟩ => show win0_12.index t 1 * 256 + 1 * d.val = d.val; rw [hi.2.2.2.2.2.2.2.1.2]; omega
  rw [he] at hb
  refine hb.trans ?_
  show out0_12 (iblk m c 0 t) (iblk m c 1 t) (iblk m c 2 t) (iblk m c 3 t) (iblk m c 4 t) (iblk m c 5 t) (iblk m c 6 t) (iblk m c 7 t) (iblk m c 8 t) (iblk m c 9 t) (ix2 r d) = _
  rw [out12, block_gain]
  unfold latent
  exact congrArg (fun f => rms f _ d) (funext fun k => block_proj m c t r n htv k)

variable (h64 : ∀ (n : Fin 8320) (k : Fin 32), (m ((c : Thread nD τ).loc main_arg1) (ix2 n ⟨64 + k.val, by omega⟩) : EReal)
    = m ((c : Thread nD τ).loc main_arg1) (ix2 n ⟨32 + k.val, by omega⟩))
  (h96 : ∀ (n : Fin 8320) (k : Fin 32), (m ((c : Thread nD τ).loc main_arg1) (ix2 n ⟨96 + k.val, by omega⟩) : EReal)
    = m ((c : Thread nD τ).loc main_arg1) (ix2 n ⟨k.val, by omega⟩))
include h64 h96

set_option maxHeartbeats 2000000 in
/-- The rotary key that window 11 leaves, at an index. -/
theorem result11 (n : Fin 8320) (j : Fin 128) : (dats m 0 c).arrAt 11 cfg0.N (ix2 n j)
    = rope (m ((c : Thread nD τ).loc main_arg1)) (m ((c : Thread nD τ).loc main_arg2)) n j := by
  have hN : cfg0.N = 20 := by decide +kernel
  have hn := n.isLt
  let t : Fin cfg0.N := ⟨n.val / 416, by rw [hN]; omega⟩
  let r : Fin 416 := ⟨n.val % 416, Nat.mod_lt _ (by decide)⟩
  have htv : 416 * t.val + r.val = n.val := Nat.div_add_mod n.val 416
  have hi := idx t
  have hb := congrFun ((dats m 0 c).read_blk_arrAt_eq_flushed 11 Cert.QkvIdeal.Value.disjoint11 cfg0.N t t.isLt (flush10 t).2.1) (ix2 r j)
  rw [Cert.QkvIdeal.Value.flushed11, View.read_apply] at hb
  have he : ((cfg0.win 11).blk t).view.emb (ix2 r j) = ix2 n j := by
    funext a
    apply Fin.ext
    match a with
    | ⟨0, _⟩ => show win0_11.index t 0 * 416 + 1 * r.val = n.val; rw [hi.2.2.2.2.2.2.1.1]; omega
    | ⟨1, _⟩ => show win0_11.index t 1 * 128 + 1 * j.val = j.val; rw [hi.2.2.2.2.2.2.1.2]; omega
  rw [he] at hb
  refine hb.trans ?_
  show out0_11 (iblk m c 0 t) (iblk m c 1 t) (iblk m c 2 t) (iblk m c 3 t) (iblk m c 4 t) (iblk m c 5 t) (iblk m c 6 t) (iblk m c 7 t) (iblk m c 8 t) (iblk m c 9 t) (ix2 r j) = _
  rw [out11, block_small m c t r n htv, block_small m c t r n htv, block_cos m c t r n htv, block_sin m c t r n htv]
  exact turn _ _ h64 h96 n j

set_option maxHeartbeats 2000000 in
/-- The rotary key that window 13 leaves, at an index. -/
theorem result13 (n : Fin 8320) (j : Fin 128) : (dats m 0 c).arrAt 13 cfg0.N (ix2 n j)
    = rope (m ((c : Thread nD τ).loc main_arg1)) (m ((c : Thread nD τ).loc main_arg2)) n j := by
  have hN : cfg0.N = 20 := by decide +kernel
  have hn := n.isLt
  let t : Fin cfg0.N := ⟨n.val / 416, by rw [hN]; omega⟩
  let r : Fin 416 := ⟨n.val % 416, Nat.mod_lt _ (by decide)⟩
  have htv : 416 * t.val + r.val = n.val := Nat.div_add_mod n.val 416
  have hi := idx t
  have hb := congrFun ((dats m 0 c).read_blk_arrAt_eq_flushed 13 Cert.QkvIdeal.Value.disjoint13 cfg0.N t t.isLt (flush10 t).2.2.2) (ix2 r j)
  rw [Cert.QkvIdeal.Value.flushed13, View.read_apply] at hb
  have he : ((cfg0.win 13).blk t).view.emb (ix2 r j) = ix2 n j := by
    funext a
    apply Fin.ext
    match a with
    | ⟨0, _⟩ => show win0_13.index t 0 * 416 + 1 * r.val = n.val; rw [hi.2.2.2.2.2.2.2.2.1]; omega
    | ⟨1, _⟩ => show win0_13.index t 1 * 128 + 1 * j.val = j.val; rw [hi.2.2.2.2.2.2.2.2.2]; omega
  rw [he] at hb
  refine hb.trans ?_
  show out0_13 (iblk m c 0 t) (iblk m c 1 t) (iblk m c 2 t) (iblk m c 3 t) (iblk m c 4 t) (iblk m c 5 t) (iblk m c 6 t) (iblk m c 7 t) (iblk m c 8 t) (iblk m c 9 t) (ix2 r j) = _
  rw [out13, block_small m c t r n htv, block_small m c t r n htv, block_cos m c t r n htv, block_sin m c t r n htv]
  exact turn _ _ h64 h96 n j
end

/-! ## The reference -/

open Cert.QkvRefIdeal Cert.QkvRefIdeal.Read Cert.QkvRefIdeal.Gen in
/-- The reference's latent at an index. -/
theorem ref_latent (x0 : (⟨Cert.QkvRefIdeal.S8320x24576, .f32⟩ : BufTy).Contents (Elt Ideal)) (x4 : (⟨Cert.QkvRefIdeal.S256, .f32⟩ : BufTy).Contents (Elt Ideal))
    (n : Fin 8320) (d : Fin 256) : val_main_v13 (F := Ideal) x0 x4 (ix2 n d) = latent x0 x4 n d := by
  pointwise [val_main_v13, val_main_v12, val_main_v11, val_main_v10, val_main_v9, val_main_v8, val_main_v7, val_main_v6, val_main_v5, val_main_v4, val_main_v3,
    val_main_v2, val_main_v1, val_main_v0, val_main_cst, val_main_cst_0, val_main_cst_1]
  rfl

/-- Two pieces of 32 columns, joined. -/
theorem join_halves (f g : Cert.QkvRefIdeal.S8320x32.Idx → EReal)
    (hc : Shape.Concatenates [Cert.QkvRefIdeal.S8320x32, Cert.QkvRefIdeal.S8320x32] Cert.QkvRefIdeal.S8320x64 1) (n : Fin 8320) (j : Fin 64) :
    concatenate Cert.QkvRefIdeal.S8320x64 1 [⟨Cert.QkvRefIdeal.S8320x32, f⟩, ⟨Cert.QkvRefIdeal.S8320x32, g⟩] hc (ix2 n j)
      = if h : j.val < 32 then f (ix2 n ⟨j.val, h⟩) else g (ix2 n ⟨j.val - 32, by omega⟩) := by
  have hj := j.isLt
  by_cases h : j.val < 32
  · rw [dif_pos h]
    exact concatenate_apply_piece (1 : Fin Cert.QkvRefIdeal.S8320x64.rank) _ _ (ix2 n j) 0 (by simp) Cert.QkvRefIdeal.S8320x32 f rfl rfl 0 (by simp) (ix2 n ⟨j.val, h⟩) (fun b hb => by
        match b with
        | ⟨0, _⟩ => rfl
        | ⟨1, _⟩ => exact absurd rfl hb)
      (show 0 + j.val = j.val by omega)
  · rw [dif_neg h]
    exact concatenate_apply_piece (1 : Fin Cert.QkvRefIdeal.S8320x64.rank) _ _ (ix2 n j) 1 (by simp) Cert.QkvRefIdeal.S8320x32 g rfl rfl 32 (by simp [Cert.QkvRefIdeal.S8320x32]) (ix2 n ⟨j.val - 32, by omega⟩) (fun b hb => by
        match b with
        | ⟨0, _⟩ => rfl
        | ⟨1, _⟩ => exact absurd rfl hb)
      (show 32 + (j.val - 32) = j.val by omega)

/-- Two pieces of 64 columns, joined. -/
theorem join_pad (f g : Cert.QkvRefIdeal.S8320x64.Idx → EReal)
    (hc : Shape.Concatenates [Cert.QkvRefIdeal.S8320x64, Cert.QkvRefIdeal.S8320x64] Cert.QkvRefIdeal.S8320x128 1) (n : Fin 8320) (j : Fin 128) :
    concatenate Cert.QkvRefIdeal.S8320x128 1 [⟨Cert.QkvRefIdeal.S8320x64, f⟩, ⟨Cert.QkvRefIdeal.S8320x64, g⟩] hc (ix2 n j)
      = if h : j.val < 64 then f (ix2 n ⟨j.val, h⟩) else g (ix2 n ⟨j.val - 64, by omega⟩) := by
  have hj := j.isLt
  by_cases h : j.val < 64
  · rw [dif_pos h]
    exact concatenate_apply_piece (1 : Fin Cert.QkvRefIdeal.S8320x128.rank) _ _ (ix2 n j) 0 (by simp) Cert.QkvRefIdeal.S8320x64 f rfl rfl 0 (by simp) (ix2 n ⟨j.val, h⟩) (fun b hb => by
        match b with
        | ⟨0, _⟩ => rfl
        | ⟨1, _⟩ => exact absurd rfl hb)
      (show 0 + j.val = j.val by omega)
  · rw [dif_neg h]
    exact concatenate_apply_piece (1 : Fin Cert.QkvRefIdeal.S8320x128.rank) _ _ (ix2 n j) 1 (by simp) Cert.QkvRefIdeal.S8320x64 g rfl rfl 64 (by simp [Cert.QkvRefIdeal.S8320x64]) (ix2 n ⟨j.val - 64, by omega⟩) (fun b hb => by
        match b with
        | ⟨0, _⟩ => rfl
        | ⟨1, _⟩ => exact absurd rfl hb)
      (show 64 + (j.val - 64) = j.val by omega)

open Cert.QkvRefIdeal Cert.QkvRefIdeal.Read Cert.QkvRefIdeal.Gen in
/-- The reference's rotary key at an index. -/
theorem ref_rope (x1 : (⟨Cert.QkvRefIdeal.S8320x256, .f32⟩ : BufTy).Contents (Elt Ideal)) (x2 : (⟨Cert.QkvRefIdeal.S8320, .i32⟩ : BufTy).Contents (Elt Ideal))
    (n : Fin 8320) (j : Fin 128) : val_main_v39 (F := Ideal) x1 x2 (ix2 n j) = rope x1 x2 n j := by
  unfold val_main_v39
  rw [join_pad]
  unfold rope
  by_cases h : j.val < 32
  · rw [dif_pos h, dif_pos (show j.val < 64 by omega)]
    unfold val_main_v37
    rw [join_halves, dif_pos h]
    pointwise [val_main_v33, val_main_v32, val_main_v31, val_main_v30, val_main_v29, val_main_v14]
    rfl
  · rw [dif_neg h]
    by_cases h' : j.val < 64
    · rw [dif_pos h', dif_pos h']
      unfold val_main_v37
      rw [join_halves, dif_neg h]
      pointwise [val_main_v36, val_main_v35, val_main_v34, val_main_v30, val_main_v29, val_main_v14]
      have i1 : (⟨32 + (j.val - 32), by omega⟩ : Fin 256) = ⟨j.val, by omega⟩ := Fin.ext (by show 32 + (j.val - 32) = j.val; omega)
      rw [i1]
      rfl
    · rw [dif_neg h', dif_neg h']
      pointwise [val_main_v38, val_main_cst_4]
end Cert.Rope1
end
-- ==== Proof.GlaStep.lean ====
/-
  ONE STEP OF THE RECURRENCE: the diagonal products of the body put a row on the lanes of a column, so that the state of a
  head becomes the old state times the exponential of the decay, and the outer product of key and value is added.
-/
module
public import proofs.«01_k».proof.Proof.Gen.GlaSampleIdeal.Frame
public import proofs.«01_k».proof.Proof.Product
@[expose] public section
noncomputable section
namespace Cert.Gla1
open Cert.GlaSampleIdeal Cert.GlaSampleIdeal.Gen Idealize.ShloMosaic Idealize.ShloMosaic.TcCoe Idealize.SL.Sem

/-- What the body stores of the state of one head: as its first store has it. -/
def step (la k : Vec Ideal S1x128 .f32) (v : Vec Ideal S1x256 .f32) (s : Vec Ideal S1x1x1x128x256 .f32) : Vec Ideal S1x1x128x256 .f32 :=
  k0_pay11 k0_pay4 (k0_pay5 (F := Ideal)) la k v s

/-- A selection by the equality of two lane numbers. -/
theorem on_diagonal (r x : Fin 128) (a b : EReal) :
    Scalar.select (IntOp.cmpi CmpIPredicate.eq (BitVec.ofNat 32 r.val) (BitVec.ofNat 32 x.val)) a b = if x = r then a else b := by
  have hr := r.isLt
  have hx := x.isLt
  by_cases h : x = r
  · subst h
    rw [if_pos rfl]
    simp [Scalar.select, IntOp.cmpi]
  · rw [if_neg h]
    have h' : BitVec.ofNat 32 r.val ≠ BitVec.ofNat 32 x.val := fun e => h (Fin.ext (by
      have := congrArg BitVec.toNat e
      simp only [BitVec.toNat_ofNat] at this
      omega))
    have hb : (BitVec.ofNat 32 r.val == BitVec.ofNat 32 x.val) = false := beq_eq_false_iff_ne.mpr h'
    simp only [Scalar.select, IntOp.cmpi, hb]
    rfl

theorem sum_diagonal (r : Fin 128) (f : Fin 128 → EReal) : ∑ x : Fin 128, (if x = r then f x else 0) = f r := by
  rw [Finset.sum_ite_eq' Finset.univ r f]
  exact if_pos (Finset.mem_univ r)

/-- The remainders of the decay add nothing to it, whether it is finite or −∞. -/
theorem rest (a : EReal) (ha : a ≠ ⊤) : a + (a - a) + (a - a - (a - a)) = a := by
  induction a with
  | bot => rfl
  | top => exact absurd rfl ha
  | coe x =>
    have h : ((x : ℝ) : EReal) - (x : EReal) = 0 := by rw [← EReal.coe_sub, sub_self, EReal.coe_zero]
    rw [h, add_zero, sub_zero, add_zero]

theorem step_apply (la k : Vec Ideal S1x128 .f32) (v : Vec Ideal S1x256 .f32) (s : Vec Ideal S1x1x1x128x256 .f32) (a b : Fin 1) (r : Fin 128) (d : Fin 256)
    (hla : (la (ix2 0 r) : EReal) ≠ ⊤) :
    (step la k v s (ix4 a b r d) : EReal) = Ideal.exp (la (ix2 0 r)) * s (ix5 0 0 0 r d) + k (ix2 0 r) * v (ix2 0 d) := by
  show k0_pay11 k0_pay4 (k0_pay5 (F := Ideal)) la k v s (ix4 a b r d) = _
  pointwise [k0_pay11, k0_pay4, k0_pay5, k0_pay9]
  simp only [on_diagonal]
  have e1 : ∀ x : Fin 128, ((if x = r then (la (ix2 0 x) : EReal) else 0) - (if x = r then (la (ix2 0 x) : EReal) else 0))
      = if x = r then (la (ix2 0 x) - la (ix2 0 x) : EReal) else 0 := fun x => by
    by_cases h : x = r
    · rw [if_pos h, if_pos h]
    · rw [if_neg h, if_neg h, sub_zero]
  simp only [e1]
  have e2 : ∀ x : Fin 128, ((if x = r then (la (ix2 0 x) - la (ix2 0 x) : EReal) else 0) - (if x = r then (la (ix2 0 x) - la (ix2 0 x) : EReal) else 0))
      = if x = r then (la (ix2 0 x) - la (ix2 0 x) - (la (ix2 0 x) - la (ix2 0 x)) : EReal) else 0 := fun x => by
    by_cases h : x = r
    · rw [if_pos h, if_pos h]
    · rw [if_neg h, if_neg h, sub_zero]
  simp only [e2]
  rw [sum_diagonal r (fun x => (la (ix2 0 x) : EReal)), sum_diagonal r (fun x => (la (ix2 0 x) - la (ix2 0 x) : EReal)),
    sum_diagonal r (fun x => (la (ix2 0 x) - la (ix2 0 x) - (la (ix2 0 x) - la (ix2 0 x)) : EReal)),
    sum_diagonal r (fun x => (k (ix2 0 x) * v (ix2 0 d) : EReal)), rest _ hla]
end Cert.Gla1
end
-- ==== Proof.GlaStores.lean ====
/-
  THE STORES OF THE STATE: each of the thirty-two is the step of its row and head.
-/
module
public import proofs.«01_k».proof.Proof.GlaStep
@[expose] public section
noncomputable section
namespace Cert.Gla1
open Cert.GlaSampleIdeal Cert.GlaSampleIdeal.Gen Idealize.ShloMosaic Idealize.ShloMosaic.TcCoe Idealize.SL.Sem

/-- The decay of the block. -/
def decay (x4 : Vec Ideal S8x256 .f32) (x5 : Vec Ideal S256x512 .bf16) (x6 : Vec Ideal S1x512 .f32) : Vec Ideal S8x512 .f32 :=
  k0_pay3 (View.ld x4 r0_0) (View.ld x5 r0_1) (View.ld x6 r0_2)

theorem store_7_3 (x0 x1 : Vec Ideal S8x512 .f32) (x2 x3 : Vec Ideal S8x1024 .f32) (x4 : Vec Ideal S8x256 .f32) (x5 : Vec Ideal S256x512 .bf16) (x6 : Vec Ideal S1x512 .f32) (x7 : Vec Ideal S1x1024 .f32) (x8 : Vec Ideal S1x8x4x128x256 .f32) :
    k0_pay1 (k0_pay284 x0 x1 x2 x3 x4 x5 x6 x7 x8) (View.ld x2 r0_132) (k0_pay278 (View.ld x8 r0_133)) (k0_pay280 (k0_pay284 x0 x1 x2 x3 x4 x5 x6 x7 x8) (k0_pay285 x0 x1 x2 x3 x4 x5 x6 x7 x8) (k0_pay311 x0 x1 x2 x3 x4 x5 x6 x7 x8)) (k0_pay281 (View.ld x1 r0_131)) (k0_pay282 (Scalar.ofBits (F := Ideal) .f32 0x00000000#32))
      = step (extractStridedSlice S1x128 ![7, 384] (decay x4 x5 x6) slices_S8x512_o7_384_S1x128) (View.ld x1 r0_131) (View.ld x2 r0_132) (View.ld x8 r0_133) := rfl

theorem store_7_2 (x0 x1 : Vec Ideal S8x512 .f32) (x2 x3 : Vec Ideal S8x1024 .f32) (x4 : Vec Ideal S8x256 .f32) (x5 : Vec Ideal S256x512 .bf16) (x6 : Vec Ideal S1x512 .f32) (x7 : Vec Ideal S1x1024 .f32) (x8 : Vec Ideal S1x8x4x128x256 .f32) :
    k0_pay275 (k0_pay284 x0 x1 x2 x3 x4 x5 x6 x7 x8) (k0_pay285 x0 x1 x2 x3 x4 x5 x6 x7 x8) (View.ld x1 r0_127) (View.ld x2 r0_128) (k0_pay267 (View.ld x8 r0_129)) (k0_pay272 (k0_pay283 x0 x1 x2 x3 x4 x5 x6 x7 x8) (k0_pay284 x0 x1 x2 x3 x4 x5 x6 x7 x8)) (k0_pay273 (k0_pay283 x0 x1 x2 x3 x4 x5 x6 x7 x8) (k0_pay284 x0 x1 x2 x3 x4 x5 x6 x7 x8)) (k0_pay274 (k0_pay283 x0 x1 x2 x3 x4 x5 x6 x7 x8) (k0_pay284 x0 x1 x2 x3 x4 x5 x6 x7 x8) (k0_pay285 x0 x1 x2 x3 x4 x5 x6 x7 x8))
      = step (extractStridedSlice S1x128 ![7, 256] (decay x4 x5 x6) slices_S8x512_o7_256_S1x128) (View.ld x1 r0_127) (View.ld x2 r0_128) (View.ld x8 r0_129) := rfl

theorem store_7_1 (x0 x1 : Vec Ideal S8x512 .f32) (x2 x3 : Vec Ideal S8x1024 .f32) (x4 : Vec Ideal S8x256 .f32) (x5 : Vec Ideal S256x512 .bf16) (x6 : Vec Ideal S1x512 .f32) (x7 : Vec Ideal S1x1024 .f32) (x8 : Vec Ideal S1x8x4x128x256 .f32) :
    k0_pay262 (k0_pay284 x0 x1 x2 x3 x4 x5 x6 x7 x8) (k0_pay285 x0 x1 x2 x3 x4 x5 x6 x7 x8) (View.ld x1 r0_123) (View.ld x2 r0_124) (k0_pay259 (View.ld x8 r0_125)) (k0_pay261 (k0_pay283 x0 x1 x2 x3 x4 x5 x6 x7 x8) (k0_pay284 x0 x1 x2 x3 x4 x5 x6 x7 x8))
      = step (extractStridedSlice S1x128 ![7, 128] (decay x4 x5 x6) slices_S8x512_o7_128_S1x128) (View.ld x1 r0_123) (View.ld x2 r0_124) (View.ld x8 r0_125) := rfl

theorem store_7_0 (x0 x1 : Vec Ideal S8x512 .f32) (x2 x3 : Vec Ideal S8x1024 .f32) (x4 : Vec Ideal S8x256 .f32) (x5 : Vec Ideal S256x512 .bf16) (x6 : Vec Ideal S1x512 .f32) (x7 : Vec Ideal S1x1024 .f32) (x8 : Vec Ideal S1x8x4x128x256 .f32) :
    k0_pay253 (k0_pay284 x0 x1 x2 x3 x4 x5 x6 x7 x8) (k0_pay285 x0 x1 x2 x3 x4 x5 x6 x7 x8) (k0_pay246 (k0_pay283 x0 x1 x2 x3 x4 x5 x6 x7 x8)) (View.ld x1 r0_119) (View.ld x2 r0_120) (k0_pay248 (View.ld x8 r0_121))
      = step (extractStridedSlice S1x128 ![7, 0] (decay x4 x5 x6) slices_S8x512_o7_0_S1x128) (View.ld x1 r0_119) (View.ld x2 r0_120) (View.ld x8 r0_121) := rfl

theorem store_6_3 (x0 x1 : Vec Ideal S8x512 .f32) (x2 x3 : Vec Ideal S8x1024 .f32) (x4 : Vec Ideal S8x256 .f32) (x5 : Vec Ideal S256x512 .bf16) (x6 : Vec Ideal S1x512 .f32) (x7 : Vec Ideal S1x1024 .f32) (x8 : Vec Ideal S1x8x4x128x256 .f32) :
    k0_pay243 (k0_pay284 x0 x1 x2 x3 x4 x5 x6 x7 x8) (k0_pay285 x0 x1 x2 x3 x4 x5 x6 x7 x8) (k0_pay238 (k0_pay283 x0 x1 x2 x3 x4 x5 x6 x7 x8)) (View.ld x1 r0_115) (View.ld x2 r0_116) (View.ld x8 r0_117)
      = step (extractStridedSlice S1x128 ![6, 384] (decay x4 x5 x6) slices_S8x512_o6_384_S1x128) (View.ld x1 r0_115) (View.ld x2 r0_116) (View.ld x8 r0_117) := rfl

theorem store_6_2 (x0 x1 : Vec Ideal S8x512 .f32) (x2 x3 : Vec Ideal S8x1024 .f32) (x4 : Vec Ideal S8x256 .f32) (x5 : Vec Ideal S256x512 .bf16) (x6 : Vec Ideal S1x512 .f32) (x7 : Vec Ideal S1x1024 .f32) (x8 : Vec Ideal S1x8x4x128x256 .f32) :
    k0_pay236 (k0_pay235 (k0_pay284 x0 x1 x2 x3 x4 x5 x6 x7 x8) (k0_pay285 x0 x1 x2 x3 x4 x5 x6 x7 x8) (k0_pay230 (k0_pay283 x0 x1 x2 x3 x4 x5 x6 x7 x8)) (View.ld x1 r0_111) (View.ld x2 r0_112) (View.ld x8 r0_113))
      = step (extractStridedSlice S1x128 ![6, 256] (decay x4 x5 x6) slices_S8x512_o6_256_S1x128) (View.ld x1 r0_111) (View.ld x2 r0_112) (View.ld x8 r0_113) := rfl

theorem store_6_1 (x0 x1 : Vec Ideal S8x512 .f32) (x2 x3 : Vec Ideal S8x1024 .f32) (x4 : Vec Ideal S8x256 .f32) (x5 : Vec Ideal S256x512 .bf16) (x6 : Vec Ideal S1x512 .f32) (x7 : Vec Ideal S1x1024 .f32) (x8 : Vec Ideal S1x8x4x128x256 .f32) :
    k0_pay228 (k0_pay223 (View.ld x8 r0_109)) (k0_pay225 (k0_pay284 x0 x1 x2 x3 x4 x5 x6 x7 x8) (k0_pay285 x0 x1 x2 x3 x4 x5 x6 x7 x8) (k0_pay307 x0 x1 x2 x3 x4 x5 x6 x7 x8)) (k0_pay226 (k0_pay284 x0 x1 x2 x3 x4 x5 x6 x7 x8) (View.ld x1 r0_107)) (k0_pay227 (View.ld x2 r0_108))
      = step (extractStridedSlice S1x128 ![6, 128] (decay x4 x5 x6) slices_S8x512_o6_128_S1x128) (View.ld x1 r0_107) (View.ld x2 r0_108) (View.ld x8 r0_109) := rfl

theorem store_6_0 (x0 x1 : Vec Ideal S8x512 .f32) (x2 x3 : Vec Ideal S8x1024 .f32) (x4 : Vec Ideal S8x256 .f32) (x5 : Vec Ideal S256x512 .bf16) (x6 : Vec Ideal S1x512 .f32) (x7 : Vec Ideal S1x1024 .f32) (x8 : Vec Ideal S1x8x4x128x256 .f32) :
    k0_pay220 (k0_pay284 x0 x1 x2 x3 x4 x5 x6 x7 x8) (View.ld x1 r0_103) (View.ld x2 r0_104) (k0_pay217 (View.ld x8 r0_105)) (k0_pay219 (k0_pay284 x0 x1 x2 x3 x4 x5 x6 x7 x8) (k0_pay285 x0 x1 x2 x3 x4 x5 x6 x7 x8) (k0_pay306 x0 x1 x2 x3 x4 x5 x6 x7 x8))
      = step (extractStridedSlice S1x128 ![6, 0] (decay x4 x5 x6) slices_S8x512_o6_0_S1x128) (View.ld x1 r0_103) (View.ld x2 r0_104) (View.ld x8 r0_105) := rfl

theorem store_5_3 (x0 x1 : Vec Ideal S8x512 .f32) (x2 x3 : Vec Ideal S8x1024 .f32) (x4 : Vec Ideal S8x256 .f32) (x5 : Vec Ideal S256x512 .bf16) (x6 : Vec Ideal S1x512 .f32) (x7 : Vec Ideal S1x1024 .f32) (x8 : Vec Ideal S1x8x4x128x256 .f32) :
    k0_pay214 (k0_pay284 x0 x1 x2 x3 x4 x5 x6 x7 x8) (k0_pay285 x0 x1 x2 x3 x4 x5 x6 x7 x8) (View.ld x1 r0_99) (View.ld x2 r0_100) (k0_pay207 (View.ld x8 r0_101)) (k0_pay210 (k0_pay283 x0 x1 x2 x3 x4 x5 x6 x7 x8) (k0_pay284 x0 x1 x2 x3 x4 x5 x6 x7 x8)) (k0_pay212 (k0_pay283 x0 x1 x2 x3 x4 x5 x6 x7 x8) (k0_pay284 x0 x1 x2 x3 x4 x5 x6 x7 x8)) (k0_pay213 (k0_pay283 x0 x1 x2 x3 x4 x5 x6 x7 x8) (k0_pay284 x0 x1 x2 x3 x4 x5 x6 x7 x8))
      = step (extractStridedSlice S1x128 ![5, 384] (decay x4 x5 x6) slices_S8x512_o5_384_S1x128) (View.ld x1 r0_99) (View.ld x2 r0_100) (View.ld x8 r0_101) := rfl

theorem store_5_2 (x0 x1 : Vec Ideal S8x512 .f32) (x2 x3 : Vec Ideal S8x1024 .f32) (x4 : Vec Ideal S8x256 .f32) (x5 : Vec Ideal S256x512 .bf16) (x6 : Vec Ideal S1x512 .f32) (x7 : Vec Ideal S1x1024 .f32) (x8 : Vec Ideal S1x8x4x128x256 .f32) :
    k0_pay201 (k0_pay284 x0 x1 x2 x3 x4 x5 x6 x7 x8) (k0_pay285 x0 x1 x2 x3 x4 x5 x6 x7 x8) (View.ld x1 r0_95) (View.ld x2 r0_96) (k0_pay198 (View.ld x8 r0_97)) (k0_pay200 (k0_pay283 x0 x1 x2 x3 x4 x5 x6 x7 x8))
      = step (extractStridedSlice S1x128 ![5, 256] (decay x4 x5 x6) slices_S8x512_o5_256_S1x128) (View.ld x1 r0_95) (View.ld x2 r0_96) (View.ld x8 r0_97) := rfl

theorem store_5_1 (x0 x1 : Vec Ideal S8x512 .f32) (x2 x3 : Vec Ideal S8x1024 .f32) (x4 : Vec Ideal S8x256 .f32) (x5 : Vec Ideal S256x512 .bf16) (x6 : Vec Ideal S1x512 .f32) (x7 : Vec Ideal S1x1024 .f32) (x8 : Vec Ideal S1x8x4x128x256 .f32) :
    k0_pay192 (k0_pay284 x0 x1 x2 x3 x4 x5 x6 x7 x8) (k0_pay285 x0 x1 x2 x3 x4 x5 x6 x7 x8) (k0_pay186 (k0_pay283 x0 x1 x2 x3 x4 x5 x6 x7 x8)) (View.ld x1 r0_91) (View.ld x2 r0_92) (k0_pay303 x0 x1 x2 x3 x4 x5 x6 x7 x8)
      = step (extractStridedSlice S1x128 ![5, 128] (decay x4 x5 x6) slices_S8x512_o5_128_S1x128) (View.ld x1 r0_91) (View.ld x2 r0_92) (View.ld x8 r0_93) := rfl

theorem store_5_0 (x0 x1 : Vec Ideal S8x512 .f32) (x2 x3 : Vec Ideal S8x1024 .f32) (x4 : Vec Ideal S8x256 .f32) (x5 : Vec Ideal S256x512 .bf16) (x6 : Vec Ideal S1x512 .f32) (x7 : Vec Ideal S1x1024 .f32) (x8 : Vec Ideal S1x8x4x128x256 .f32) :
    k0_pay184 (k0_pay284 x0 x1 x2 x3 x4 x5 x6 x7 x8) (k0_pay285 x0 x1 x2 x3 x4 x5 x6 x7 x8) (k0_pay179 (k0_pay283 x0 x1 x2 x3 x4 x5 x6 x7 x8)) (View.ld x1 r0_87) (View.ld x2 r0_88) (View.ld x8 r0_89)
      = step (extractStridedSlice S1x128 ![5, 0] (decay x4 x5 x6) slices_S8x512_o5_0_S1x128) (View.ld x1 r0_87) (View.ld x2 r0_88) (View.ld x8 r0_89) := rfl

theorem store_4_3 (x0 x1 : Vec Ideal S8x512 .f32) (x2 x3 : Vec Ideal S8x1024 .f32) (x4 : Vec Ideal S8x256 .f32) (x5 : Vec Ideal S256x512 .bf16) (x6 : Vec Ideal S1x512 .f32) (x7 : Vec Ideal S1x1024 .f32) (x8 : Vec Ideal S1x8x4x128x256 .f32) :
    k0_pay177 (k0_pay176 (k0_pay284 x0 x1 x2 x3 x4 x5 x6 x7 x8) (k0_pay285 x0 x1 x2 x3 x4 x5 x6 x7 x8) (k0_pay301 x0 x1 x2 x3 x4 x5 x6 x7 x8) (View.ld x1 r0_83) (View.ld x2 r0_84) (View.ld x8 r0_85))
      = step (extractStridedSlice S1x128 ![4, 384] (decay x4 x5 x6) slices_S8x512_o4_384_S1x128) (View.ld x1 r0_83) (View.ld x2 r0_84) (View.ld x8 r0_85) := rfl

theorem store_4_2 (x0 x1 : Vec Ideal S8x512 .f32) (x2 x3 : Vec Ideal S8x1024 .f32) (x4 : Vec Ideal S8x256 .f32) (x5 : Vec Ideal S256x512 .bf16) (x6 : Vec Ideal S1x512 .f32) (x7 : Vec Ideal S1x1024 .f32) (x8 : Vec Ideal S1x8x4x128x256 .f32) :
    k0_pay170 (View.ld x2 r0_80) (k0_pay166 (View.ld x8 r0_81)) (k0_pay168 (k0_pay284 x0 x1 x2 x3 x4 x5 x6 x7 x8) (k0_pay285 x0 x1 x2 x3 x4 x5 x6 x7 x8) (k0_pay300 x0 x1 x2 x3 x4 x5 x6 x7 x8)) (k0_pay169 (k0_pay284 x0 x1 x2 x3 x4 x5 x6 x7 x8) (View.ld x1 r0_79))
      = step (extractStridedSlice S1x128 ![4, 256] (decay x4 x5 x6) slices_S8x512_o4_256_S1x128) (View.ld x1 r0_79) (View.ld x2 r0_80) (View.ld x8 r0_81) := rfl

theorem store_4_1 (x0 x1 : Vec Ideal S8x512 .f32) (x2 x3 : Vec Ideal S8x1024 .f32) (x4 : Vec Ideal S8x256 .f32) (x5 : Vec Ideal S256x512 .bf16) (x6 : Vec Ideal S1x512 .f32) (x7 : Vec Ideal S1x1024 .f32) (x8 : Vec Ideal S1x8x4x128x256 .f32) :
    k0_pay163 (k0_pay284 x0 x1 x2 x3 x4 x5 x6 x7 x8) (k0_pay285 x0 x1 x2 x3 x4 x5 x6 x7 x8) (View.ld x1 r0_75) (View.ld x2 r0_76) (k0_pay155 (View.ld x8 r0_77)) (k0_pay161 (k0_pay283 x0 x1 x2 x3 x4 x5 x6 x7 x8) (k0_pay284 x0 x1 x2 x3 x4 x5 x6 x7 x8)) (k0_pay162 (k0_pay283 x0 x1 x2 x3 x4 x5 x6 x7 x8) (k0_pay284 x0 x1 x2 x3 x4 x5 x6 x7 x8) (k0_pay285 x0 x1 x2 x3 x4 x5 x6 x7 x8))
      = step (extractStridedSlice S1x128 ![4, 128] (decay x4 x5 x6) slices_S8x512_o4_128_S1x128) (View.ld x1 r0_75) (View.ld x2 r0_76) (View.ld x8 r0_77) := rfl

theorem store_4_0 (x0 x1 : Vec Ideal S8x512 .f32) (x2 x3 : Vec Ideal S8x1024 .f32) (x4 : Vec Ideal S8x256 .f32) (x5 : Vec Ideal S256x512 .bf16) (x6 : Vec Ideal S1x512 .f32) (x7 : Vec Ideal S1x1024 .f32) (x8 : Vec Ideal S1x8x4x128x256 .f32) :
    k0_pay152 (k0_pay284 x0 x1 x2 x3 x4 x5 x6 x7 x8) (k0_pay285 x0 x1 x2 x3 x4 x5 x6 x7 x8) (View.ld x1 r0_71) (View.ld x2 r0_72) (k0_pay147 (View.ld x8 r0_73)) (k0_pay150 (k0_pay283 x0 x1 x2 x3 x4 x5 x6 x7 x8) (k0_pay284 x0 x1 x2 x3 x4 x5 x6 x7 x8)) (k0_pay151 (k0_pay283 x0 x1 x2 x3 x4 x5 x6 x7 x8) (k0_pay284 x0 x1 x2 x3 x4 x5 x6 x7 x8))
      = step (extractStridedSlice S1x128 ![4, 0] (decay x4 x5 x6) slices_S8x512_o4_0_S1x128) (View.ld x1 r0_71) (View.ld x2 r0_72) (View.ld x8 r0_73) := rfl

theorem store_3_3 (x0 x1 : Vec Ideal S8x512 .f32) (x2 x3 : Vec Ideal S8x1024 .f32) (x4 : Vec Ideal S8x256 .f32) (x5 : Vec Ideal S256x512 .bf16) (x6 : Vec Ideal S1x512 .f32) (x7 : Vec Ideal S1x1024 .f32) (x8 : Vec Ideal S1x8x4x128x256 .f32) :
    k0_pay141 (k0_pay284 x0 x1 x2 x3 x4 x5 x6 x7 x8) (k0_pay285 x0 x1 x2 x3 x4 x5 x6 x7 x8) (k0_pay135 (k0_pay283 x0 x1 x2 x3 x4 x5 x6 x7 x8)) (View.ld x1 r0_67) (View.ld x2 r0_68) (k0_pay137 (View.ld x8 r0_69))
      = step (extractStridedSlice S1x128 ![3, 384] (decay x4 x5 x6) slices_S8x512_o3_384_S1x128) (View.ld x1 r0_67) (View.ld x2 r0_68) (View.ld x8 r0_69) := rfl

theorem store_3_2 (x0 x1 : Vec Ideal S8x512 .f32) (x2 x3 : Vec Ideal S8x1024 .f32) (x4 : Vec Ideal S8x256 .f32) (x5 : Vec Ideal S256x512 .bf16) (x6 : Vec Ideal S1x512 .f32) (x7 : Vec Ideal S1x1024 .f32) (x8 : Vec Ideal S1x8x4x128x256 .f32) :
    k0_pay131 (k0_pay284 x0 x1 x2 x3 x4 x5 x6 x7 x8) (k0_pay285 x0 x1 x2 x3 x4 x5 x6 x7 x8) (k0_pay126 (k0_pay283 x0 x1 x2 x3 x4 x5 x6 x7 x8)) (View.ld x1 r0_63) (View.ld x2 r0_64) (k0_pay297 x0 x1 x2 x3 x4 x5 x6 x7 x8)
      = step (extractStridedSlice S1x128 ![3, 256] (decay x4 x5 x6) slices_S8x512_o3_256_S1x128) (View.ld x1 r0_63) (View.ld x2 r0_64) (View.ld x8 r0_65) := rfl

theorem store_3_1 (x0 x1 : Vec Ideal S8x512 .f32) (x2 x3 : Vec Ideal S8x1024 .f32) (x4 : Vec Ideal S8x256 .f32) (x5 : Vec Ideal S256x512 .bf16) (x6 : Vec Ideal S1x512 .f32) (x7 : Vec Ideal S1x1024 .f32) (x8 : Vec Ideal S1x8x4x128x256 .f32) :
    k0_pay124 (k0_pay284 x0 x1 x2 x3 x4 x5 x6 x7 x8) (k0_pay285 x0 x1 x2 x3 x4 x5 x6 x7 x8) (k0_pay119 (k0_pay283 x0 x1 x2 x3 x4 x5 x6 x7 x8)) (View.ld x1 r0_59) (View.ld x2 r0_60) (View.ld x8 r0_61)
      = step (extractStridedSlice S1x128 ![3, 128] (decay x4 x5 x6) slices_S8x512_o3_128_S1x128) (View.ld x1 r0_59) (View.ld x2 r0_60) (View.ld x8 r0_61) := rfl

theorem store_3_0 (x0 x1 : Vec Ideal S8x512 .f32) (x2 x3 : Vec Ideal S8x1024 .f32) (x4 : Vec Ideal S8x256 .f32) (x5 : Vec Ideal S256x512 .bf16) (x6 : Vec Ideal S1x512 .f32) (x7 : Vec Ideal S1x1024 .f32) (x8 : Vec Ideal S1x8x4x128x256 .f32) :
    k0_pay117 (k0_pay113 (View.ld x8 r0_57)) (k0_pay115 (k0_pay284 x0 x1 x2 x3 x4 x5 x6 x7 x8) (View.ld x1 r0_55) (View.ld x2 r0_56)) (k0_pay116 (k0_pay284 x0 x1 x2 x3 x4 x5 x6 x7 x8) (k0_pay285 x0 x1 x2 x3 x4 x5 x6 x7 x8) (k0_pay296 x0 x1 x2 x3 x4 x5 x6 x7 x8))
      = step (extractStridedSlice S1x128 ![3, 0] (decay x4 x5 x6) slices_S8x512_o3_0_S1x128) (View.ld x1 r0_55) (View.ld x2 r0_56) (View.ld x8 r0_57) := rfl

theorem store_2_3 (x0 x1 : Vec Ideal S8x512 .f32) (x2 x3 : Vec Ideal S8x1024 .f32) (x4 : Vec Ideal S8x256 .f32) (x5 : Vec Ideal S256x512 .bf16) (x6 : Vec Ideal S1x512 .f32) (x7 : Vec Ideal S1x1024 .f32) (x8 : Vec Ideal S1x8x4x128x256 .f32) :
    k0_pay109 (k0_pay284 x0 x1 x2 x3 x4 x5 x6 x7 x8) (View.ld x2 r0_52) (k0_pay105 (View.ld x8 r0_53)) (k0_pay107 (k0_pay284 x0 x1 x2 x3 x4 x5 x6 x7 x8) (k0_pay285 x0 x1 x2 x3 x4 x5 x6 x7 x8) (k0_pay295 x0 x1 x2 x3 x4 x5 x6 x7 x8)) (k0_pay108 (View.ld x1 r0_51)) (Scalar.ofBits (F := Ideal) .f32 0x00000000#32)
      = step (extractStridedSlice S1x128 ![2, 384] (decay x4 x5 x6) slices_S8x512_o2_384_S1x128) (View.ld x1 r0_51) (View.ld x2 r0_52) (View.ld x8 r0_53) := rfl

theorem store_2_2 (x0 x1 : Vec Ideal S8x512 .f32) (x2 x3 : Vec Ideal S8x1024 .f32) (x4 : Vec Ideal S8x256 .f32) (x5 : Vec Ideal S256x512 .bf16) (x6 : Vec Ideal S1x512 .f32) (x7 : Vec Ideal S1x1024 .f32) (x8 : Vec Ideal S1x8x4x128x256 .f32) :
    k0_pay102 (k0_pay284 x0 x1 x2 x3 x4 x5 x6 x7 x8) (k0_pay285 x0 x1 x2 x3 x4 x5 x6 x7 x8) (View.ld x1 r0_47) (View.ld x2 r0_48) (k0_pay94 (View.ld x8 r0_49)) (k0_pay99 (k0_pay283 x0 x1 x2 x3 x4 x5 x6 x7 x8) (k0_pay284 x0 x1 x2 x3 x4 x5 x6 x7 x8)) (k0_pay100 (k0_pay283 x0 x1 x2 x3 x4 x5 x6 x7 x8) (k0_pay284 x0 x1 x2 x3 x4 x5 x6 x7 x8)) (k0_pay101 (k0_pay283 x0 x1 x2 x3 x4 x5 x6 x7 x8) (k0_pay284 x0 x1 x2 x3 x4 x5 x6 x7 x8) (k0_pay285 x0 x1 x2 x3 x4 x5 x6 x7 x8))
      = step (extractStridedSlice S1x128 ![2, 256] (decay x4 x5 x6) slices_S8x512_o2_256_S1x128) (View.ld x1 r0_47) (View.ld x2 r0_48) (View.ld x8 r0_49) := rfl

theorem store_2_1 (x0 x1 : Vec Ideal S8x512 .f32) (x2 x3 : Vec Ideal S8x1024 .f32) (x4 : Vec Ideal S8x256 .f32) (x5 : Vec Ideal S256x512 .bf16) (x6 : Vec Ideal S1x512 .f32) (x7 : Vec Ideal S1x1024 .f32) (x8 : Vec Ideal S1x8x4x128x256 .f32) :
    k0_pay89 (k0_pay284 x0 x1 x2 x3 x4 x5 x6 x7 x8) (k0_pay285 x0 x1 x2 x3 x4 x5 x6 x7 x8) (View.ld x1 r0_43) (View.ld x2 r0_44) (k0_pay86 (View.ld x8 r0_45)) (k0_pay88 (k0_pay283 x0 x1 x2 x3 x4 x5 x6 x7 x8) (k0_pay284 x0 x1 x2 x3 x4 x5 x6 x7 x8))
      = step (extractStridedSlice S1x128 ![2, 128] (decay x4 x5 x6) slices_S8x512_o2_128_S1x128) (View.ld x1 r0_43) (View.ld x2 r0_44) (View.ld x8 r0_45) := rfl

theorem store_2_0 (x0 x1 : Vec Ideal S8x512 .f32) (x2 x3 : Vec Ideal S8x1024 .f32) (x4 : Vec Ideal S8x256 .f32) (x5 : Vec Ideal S256x512 .bf16) (x6 : Vec Ideal S1x512 .f32) (x7 : Vec Ideal S1x1024 .f32) (x8 : Vec Ideal S1x8x4x128x256 .f32) :
    k0_pay80 (k0_pay284 x0 x1 x2 x3 x4 x5 x6 x7 x8) (k0_pay285 x0 x1 x2 x3 x4 x5 x6 x7 x8) (k0_pay73 (k0_pay283 x0 x1 x2 x3 x4 x5 x6 x7 x8)) (View.ld x1 r0_39) (View.ld x2 r0_40) (k0_pay75 (View.ld x8 r0_41))
      = step (extractStridedSlice S1x128 ![2, 0] (decay x4 x5 x6) slices_S8x512_o2_0_S1x128) (View.ld x1 r0_39) (View.ld x2 r0_40) (View.ld x8 r0_41) := rfl

theorem store_1_3 (x0 x1 : Vec Ideal S8x512 .f32) (x2 x3 : Vec Ideal S8x1024 .f32) (x4 : Vec Ideal S8x256 .f32) (x5 : Vec Ideal S256x512 .bf16) (x6 : Vec Ideal S1x512 .f32) (x7 : Vec Ideal S1x1024 .f32) (x8 : Vec Ideal S1x8x4x128x256 .f32) :
    k0_pay70 (k0_pay284 x0 x1 x2 x3 x4 x5 x6 x7 x8) (k0_pay285 x0 x1 x2 x3 x4 x5 x6 x7 x8) (k0_pay65 (k0_pay283 x0 x1 x2 x3 x4 x5 x6 x7 x8)) (View.ld x1 r0_35) (View.ld x2 r0_36) (View.ld x8 r0_37)
      = step (extractStridedSlice S1x128 ![1, 384] (decay x4 x5 x6) slices_S8x512_o1_384_S1x128) (View.ld x1 r0_35) (View.ld x2 r0_36) (View.ld x8 r0_37) := rfl

theorem store_1_2 (x0 x1 : Vec Ideal S8x512 .f32) (x2 x3 : Vec Ideal S8x1024 .f32) (x4 : Vec Ideal S8x256 .f32) (x5 : Vec Ideal S256x512 .bf16) (x6 : Vec Ideal S1x512 .f32) (x7 : Vec Ideal S1x1024 .f32) (x8 : Vec Ideal S1x8x4x128x256 .f32) :
    k0_pay63 (k0_pay62 (k0_pay284 x0 x1 x2 x3 x4 x5 x6 x7 x8) (k0_pay285 x0 x1 x2 x3 x4 x5 x6 x7 x8) (k0_pay57 (k0_pay283 x0 x1 x2 x3 x4 x5 x6 x7 x8)) (View.ld x1 r0_31) (View.ld x2 r0_32) (View.ld x8 r0_33))
      = step (extractStridedSlice S1x128 ![1, 256] (decay x4 x5 x6) slices_S8x512_o1_256_S1x128) (View.ld x1 r0_31) (View.ld x2 r0_32) (View.ld x8 r0_33) := rfl

theorem store_1_1 (x0 x1 : Vec Ideal S8x512 .f32) (x2 x3 : Vec Ideal S8x1024 .f32) (x4 : Vec Ideal S8x256 .f32) (x5 : Vec Ideal S256x512 .bf16) (x6 : Vec Ideal S1x512 .f32) (x7 : Vec Ideal S1x1024 .f32) (x8 : Vec Ideal S1x8x4x128x256 .f32) :
    k0_pay55 (k0_pay50 (View.ld x8 r0_29)) (k0_pay52 (k0_pay284 x0 x1 x2 x3 x4 x5 x6 x7 x8) (k0_pay285 x0 x1 x2 x3 x4 x5 x6 x7 x8) (k0_pay291 x0 x1 x2 x3 x4 x5 x6 x7 x8)) (k0_pay53 (k0_pay284 x0 x1 x2 x3 x4 x5 x6 x7 x8) (View.ld x1 r0_27)) (k0_pay54 (View.ld x2 r0_28))
      = step (extractStridedSlice S1x128 ![1, 128] (decay x4 x5 x6) slices_S8x512_o1_128_S1x128) (View.ld x1 r0_27) (View.ld x2 r0_28) (View.ld x8 r0_29) := rfl

theorem store_1_0 (x0 x1 : Vec Ideal S8x512 .f32) (x2 x3 : Vec Ideal S8x1024 .f32) (x4 : Vec Ideal S8x256 .f32) (x5 : Vec Ideal S256x512 .bf16) (x6 : Vec Ideal S1x512 .f32) (x7 : Vec Ideal S1x1024 .f32) (x8 : Vec Ideal S1x8x4x128x256 .f32) :
    k0_pay47 (k0_pay284 x0 x1 x2 x3 x4 x5 x6 x7 x8) (View.ld x1 r0_23) (View.ld x2 r0_24) (k0_pay44 (View.ld x8 r0_25)) (k0_pay46 (k0_pay284 x0 x1 x2 x3 x4 x5 x6 x7 x8) (k0_pay285 x0 x1 x2 x3 x4 x5 x6 x7 x8) (k0_pay290 x0 x1 x2 x3 x4 x5 x6 x7 x8))
      = step (extractStridedSlice S1x128 ![1, 0] (decay x4 x5 x6) slices_S8x512_o1_0_S1x128) (View.ld x1 r0_23) (View.ld x2 r0_24) (View.ld x8 r0_25) := rfl

theorem store_0_3 (x0 x1 : Vec Ideal S8x512 .f32) (x2 x3 : Vec Ideal S8x1024 .f32) (x4 : Vec Ideal S8x256 .f32) (x5 : Vec Ideal S256x512 .bf16) (x6 : Vec Ideal S1x512 .f32) (x7 : Vec Ideal S1x1024 .f32) (x8 : Vec Ideal S1x8x4x128x256 .f32) :
    k0_pay41 (k0_pay284 x0 x1 x2 x3 x4 x5 x6 x7 x8) (k0_pay285 x0 x1 x2 x3 x4 x5 x6 x7 x8) (View.ld x1 r0_18) (View.ld x2 r0_19) (k0_pay34 (View.ld x8 r0_20)) (k0_pay37 (k0_pay283 x0 x1 x2 x3 x4 x5 x6 x7 x8) (k0_pay284 x0 x1 x2 x3 x4 x5 x6 x7 x8)) (k0_pay39 (k0_pay283 x0 x1 x2 x3 x4 x5 x6 x7 x8) (k0_pay284 x0 x1 x2 x3 x4 x5 x6 x7 x8)) (k0_pay40 (k0_pay283 x0 x1 x2 x3 x4 x5 x6 x7 x8) (k0_pay284 x0 x1 x2 x3 x4 x5 x6 x7 x8))
      = step (extractStridedSlice S1x128 ![0, 384] (decay x4 x5 x6) slices_S8x512_o0_384_S1x128) (View.ld x1 r0_18) (View.ld x2 r0_19) (View.ld x8 r0_20) := rfl

theorem store_0_2 (x0 x1 : Vec Ideal S8x512 .f32) (x2 x3 : Vec Ideal S8x1024 .f32) (x4 : Vec Ideal S8x256 .f32) (x5 : Vec Ideal S256x512 .bf16) (x6 : Vec Ideal S1x512 .f32) (x7 : Vec Ideal S1x1024 .f32) (x8 : Vec Ideal S1x8x4x128x256 .f32) :
    k0_pay28 (k0_pay284 x0 x1 x2 x3 x4 x5 x6 x7 x8) (k0_pay285 x0 x1 x2 x3 x4 x5 x6 x7 x8) (View.ld x1 r0_13) (View.ld x2 r0_14) (k0_pay25 (View.ld x8 r0_15)) (k0_pay27 (k0_pay283 x0 x1 x2 x3 x4 x5 x6 x7 x8))
      = step (extractStridedSlice S1x128 ![0, 256] (decay x4 x5 x6) slices_S8x512_o0_256_S1x128) (View.ld x1 r0_13) (View.ld x2 r0_14) (View.ld x8 r0_15) := rfl

theorem store_0_1 (x0 x1 : Vec Ideal S8x512 .f32) (x2 x3 : Vec Ideal S8x1024 .f32) (x4 : Vec Ideal S8x256 .f32) (x5 : Vec Ideal S256x512 .bf16) (x6 : Vec Ideal S1x512 .f32) (x7 : Vec Ideal S1x1024 .f32) (x8 : Vec Ideal S1x8x4x128x256 .f32) :
    k0_pay19 (k0_pay284 x0 x1 x2 x3 x4 x5 x6 x7 x8) (k0_pay285 x0 x1 x2 x3 x4 x5 x6 x7 x8) (k0_pay13 (k0_pay283 x0 x1 x2 x3 x4 x5 x6 x7 x8)) (View.ld x1 r0_8) (View.ld x2 r0_9) (k0_pay287 x0 x1 x2 x3 x4 x5 x6 x7 x8)
      = step (extractStridedSlice S1x128 ![0, 128] (decay x4 x5 x6) slices_S8x512_o0_128_S1x128) (View.ld x1 r0_8) (View.ld x2 r0_9) (View.ld x8 r0_10) := rfl

theorem store_0_0 (x0 x1 : Vec Ideal S8x512 .f32) (x2 x3 : Vec Ideal S8x1024 .f32) (x4 : Vec Ideal S8x256 .f32) (x5 : Vec Ideal S256x512 .bf16) (x6 : Vec Ideal S1x512 .f32) (x7 : Vec Ideal S1x1024 .f32) (x8 : Vec Ideal S1x8x4x128x256 .f32) :
    k0_pay11 (k0_pay284 x0 x1 x2 x3 x4 x5 x6 x7 x8) (k0_pay285 x0 x1 x2 x3 x4 x5 x6 x7 x8) (k0_pay6 (View.ld x4 r0_0) (View.ld x5 r0_1) (View.ld x6 r0_2)) (View.ld x1 r0_3) (View.ld x2 r0_4) (View.ld x8 r0_5)
      = step (extractStridedSlice S1x128 ![0, 0] (decay x4 x5 x6) slices_S8x512_o0_0_S1x128) (View.ld x1 r0_3) (View.ld x2 r0_4) (View.ld x8 r0_5) := rfl

end Cert.Gla1
end
-- ==== Proof.GlaGate.lean ====
/-
  THE DECAY GATE: the kernel writes the logarithm of the sigmoid as min(x, 0) − log(1 + e^(−|x|)), the reference as the negated
  softplus of −x; a sixteenth of either is one number, and it is never +∞.
-/
module
public import proofs.«01_k».proof.Proof.GlaStores
import Idealize.ShloMosaic.Lib.Routing.OpsSet
import Idealize.ShloMosaic.Lib.Routing.OpsPair
@[expose] public section
noncomputable section
namespace Cert.Gla1
open Cert.GlaSampleIdeal Cert.GlaSampleIdeal.Gen Idealize.ShloMosaic Idealize.ShloMosaic.TcCoe Idealize.SL.Sem

theorem sixteenth : Ideal.ofBits .f32 0x3D800000#32 = (((1 : ℝ) / 16 : ℝ) : EReal) := by
  simp [Ideal.ofBits, Ideal.ieee, -EReal.coe_mul]; norm_num

theorem sixteen : Ideal.ofBits .f32 0x41800000#32 = ((16 : ℝ) : EReal) := by
  simp [Ideal.ofBits, Ideal.ieee, -EReal.coe_mul]; norm_num

theorem coe_of_max (x y : ℝ) : ((max x y : ℝ) : EReal) = max (x : EReal) (y : EReal) := EReal.coe_strictMono.monotone.map_max

theorem coe_of_min (x y : ℝ) : ((min x y : ℝ) : EReal) = min (x : EReal) (y : EReal) := EReal.coe_strictMono.monotone.map_min

/-- A sixteenth of the logarithm of the sigmoid of `x`. -/
def gate (x : EReal) : EReal := (min x 0 - Ideal.log1p (Ideal.exp (-(max x (-x))))) * Ideal.ofBits .f32 0x3D800000#32

/-- The softplus term is a real number. -/
theorem soft (x : EReal) : ∃ r : ℝ, Ideal.log1p (Ideal.exp (-(max x (-x)))) = (r : EReal) := by
  have h0 : ∃ r : ℝ, Ideal.log1p (Ideal.exp ⊥) = (r : EReal) := by
    refine ⟨Real.log 1, ?_⟩
    show Ideal.log (1 + 0) = _
    rw [add_zero]
    show (if (1 : ℝ) ≤ 0 then ⊥ else ((Real.log 1 : ℝ) : EReal)) = _
    rw [if_neg (by norm_num)]
  induction x with
  | bot => simpa using h0
  | top => simpa using h0
  | coe x =>
    have hm : -(max (x : EReal) (-(x : EReal))) = ((-(max x (-x)) : ℝ) : EReal) := by
      rw [← EReal.coe_neg, ← coe_of_max, ← EReal.coe_neg]
    rw [hm]
    have he := Real.exp_pos (-(max x (-x)))
    refine ⟨Real.log (1 + Real.exp (-(max x (-x)))), ?_⟩
    show Ideal.log (((1 : ℝ) : EReal) + ((Real.exp (-(max x (-x))) : ℝ) : EReal)) = _
    rw [← EReal.coe_add]
    show (if (1 + Real.exp (-(max x (-x))) : ℝ) ≤ 0 then ⊥ else _) = _
    rw [if_neg (by linarith)]

theorem gate_ne_top (x : EReal) : gate x ≠ ⊤ := by
  unfold gate
  obtain ⟨r, hr⟩ := soft x
  rw [hr, sixteenth]
  induction x with
  | bot =>
    rw [min_eq_left bot_le, EReal.bot_sub, EReal.bot_mul_coe_of_pos (by norm_num)]
    exact bot_ne_top
  | top =>
    rw [min_eq_right le_top, ← EReal.coe_zero, ← EReal.coe_sub, ← EReal.coe_mul]
    exact EReal.coe_ne_top _
  | coe x =>
    rw [← EReal.coe_zero, ← coe_of_min, ← EReal.coe_sub, ← EReal.coe_mul]
    exact EReal.coe_ne_top _

/-- The reference's form of the gate. -/
theorem gate_eq (x : EReal) : Ideal.div (-(max (-x) 0 + Ideal.log1p (Ideal.exp (-(max (-x) (-(-x))))))) (Ideal.ofBits .f32 0x41800000#32) = gate x := by
  unfold gate
  rw [neg_neg, max_comm (-x) x]
  obtain ⟨r, hr⟩ := soft x
  rw [hr, sixteenth, sixteen]
  unfold Ideal.div
  rw [if_neg (by exact_mod_cast (by norm_num : (16 : ℝ) ≠ 0)), ← EReal.coe_inv]
  induction x with
  | bot =>
    rw [min_eq_left bot_le, EReal.bot_sub, EReal.bot_mul_coe_of_pos (by norm_num), EReal.neg_bot, max_eq_left le_top, EReal.top_add_coe, EReal.neg_top,
      EReal.bot_mul_coe_of_pos (by norm_num)]
  | top =>
    rw [min_eq_right le_top, EReal.neg_top, max_eq_right bot_le, ← EReal.coe_zero, ← EReal.coe_sub, ← EReal.coe_add, ← EReal.coe_neg, ← EReal.coe_mul, ← EReal.coe_mul]
    congr 1
    ring
  | coe x =>
    rw [← EReal.coe_zero, ← coe_of_min, ← EReal.coe_neg, ← coe_of_max, ← EReal.coe_sub, ← EReal.coe_add, ← EReal.coe_neg, ← EReal.coe_mul, ← EReal.coe_mul]
    congr 1
    rcases le_total x 0 with h | h
    · rw [min_eq_left h, max_eq_left (by linarith)]; ring
    · rw [min_eq_right h, max_eq_right (by linarith)]; ring

theorem lands (idx : IVec S1 32) (hidx : (idx (ix1 0)).toInt = 128) (a : Fin 16) (b : Fin 512) (r : Fin 256) (c : Fin 512) :
    scatter_S256x512_S1_S16x512_01_n_0_0.resultIdx? (ix2 a b) idx = some (ix2 r c) ↔ 128 + a.val = r.val ∧ b.val = c.val := by
  have hw0 : scatter_S256x512_S1_S16x512_01_n_0_0.window (ix2 a b) 0 = a.val := rfl
  have hw1 : scatter_S256x512_S1_S16x512_01_n_0_0.window (ix2 a b) 1 = b.val := rfl
  have hs1 : scatter_S256x512_S1_S16x512_01_n_0_0.start (ix2 a b) idx 1 = 0 := rfl
  have hm : (0 : Fin 2) ∈ scatter_S256x512_S1_S16x512_01_n_0_0.scatterDimsToOperandDims := List.mem_singleton.2 rfl
  have hs0 : scatter_S256x512_S1_S16x512_01_n_0_0.start (ix2 a b) idx 0 = 128 := by
    unfold ScatterDims.start
    rw [dif_pos hm]
    have hsi : scatter_S256x512_S1_S16x512_01_n_0_0.siIdx (ix2 a b)
        ⟨scatter_S256x512_S1_S16x512_01_n_0_0.scatterDimsToOperandDims.idxOf 0, List.idxOf_lt_length_iff.2 hm⟩ = ix1 (0 : Fin 1) := by
      funext b'
      match b' with
      | ⟨0, _⟩ => exact Subsingleton.elim (α := Fin 1) _ _
    rw [hsi, hidx]
  refine (Routing.resultIdx?_ix2 _ _ _ _ _).trans ?_
  rw [hs0, hs1, hw0, hw1]
  omega

/-- The decay's weights, scattered into rows 128 to 143 of 256: the row `128 + a` is row `a`, every other is the operand's. -/
theorem spread (idx : IVec S1 32) (hidx : (idx (ix1 0)).toInt = 128) (z : S256x512.Idx → EReal) (w : S16x512.Idx → EReal) (r : Fin 256) (c : Fin 512) :
    Host.scatter scatter_S256x512_S1_S16x512_01_n_0_0 (fun _ b => b) z idx w (ix2 r c)
      = if h : 128 ≤ r.val ∧ r.val < 144 then w (ix2 ⟨r.val - 128, by omega⟩ c) else z (ix2 r c) := by
  by_cases h : 128 ≤ r.val ∧ r.val < 144
  · rw [dif_pos h]
    refine Routing.scatter_set_hit _ z idx w _ _ (fun j hj => ?_) (ix2 ⟨r.val - 128, by omega⟩ c) ((lands idx hidx _ _ r c).2 ⟨?_, rfl⟩)
    · obtain ⟨a, b, rfl⟩ : ∃ a b, j = ix2 a b := ⟨j 0, j 1, eq_ix2 j⟩
      have hl := (lands idx hidx a b r c).1 hj
      have ha : a = ⟨r.val - 128, by omega⟩ := Fin.ext (by show a.val = r.val - 128; omega)
      have hb : b = c := Fin.ext hl.2
      subst hb
      exact congrArg (fun i => w (ix2 i b)) ha
    · show 128 + (r.val - 128) = r.val
      omega
  · rw [dif_neg h]
    refine Routing.scatter_set_miss _ z idx w _ fun j hj => ?_
    obtain ⟨a, b, rfl⟩ : ∃ a b, j = ix2 a b := ⟨j 0, j 1, eq_ix2 j⟩
    have hl := (lands idx hidx a b r c).1 hj
    have := a.isLt
    omega

theorem decay_apply (x4 : Vec Ideal S8x256 .f32) (x5 : Vec Ideal S256x512 .bf16) (x6 : Vec Ideal S1x512 .f32) (r : Fin 8) (j : Fin 512) :
    (decay x4 x5 x6 (ix2 r j) : EReal) = gate (∑ x : Fin 256, x4 (ix2 r x) * x5 (ix2 x j) + x6 (ix2 0 j)) := by
  show k0_pay3 (View.ld x4 r0_0) (View.ld x5 r0_1) (View.ld x6 r0_2) (ix2 r j) = _
  unfold gate
  rw [← zero_sub (max _ _)]
  pointwise [k0_pay3]
  rfl
end Cert.Gla1
end
-- ==== Proof.GlaOut.lean ====
/-
  THE STATE OF A BLOCK: what the thirty-two stores leave, at an index.
-/
module
public import proofs.«01_k».proof.Proof.GlaGate
@[expose] public section
noncomputable section
namespace Cert.Gla1
open Cert.GlaSampleIdeal Cert.GlaSampleIdeal.Gen Idealize.ShloMosaic Idealize.ShloMosaic.TcCoe Idealize.SL.Sem

/-- The state after the step, at row `b`, head `h`: the old state times the exponential of the decay, plus key times value. -/
def after (x1 : Vec Ideal S8x512 .f32) (x2 : Vec Ideal S8x1024 .f32) (x8 : Vec Ideal S1x8x4x128x256 .f32) (D : Vec Ideal S8x512 .f32) (y : S8x4x128x256.Idx) : EReal :=
  Ideal.exp (D (ix2 (y 0) ⟨128 * (y 1).val + (y 2).val, by have h1 : (y 1).val < 4 := (y 1).isLt; have h2 : (y 2).val < 128 := (y 2).isLt; omega⟩))
      * x8 (ix5 0 (y 0) (y 1) (y 2) (y 3))
    + x1 (ix2 (y 0) ⟨128 * (y 1).val + (y 2).val, by have h1 : (y 1).val < 4 := (y 1).isLt; have h2 : (y 2).val < 128 := (y 2).isLt; omega⟩)
      * x2 (ix2 (y 0) ⟨256 * (y 1).val + (y 3).val, by have h1 : (y 1).val < 4 := (y 1).isLt; have h3 : (y 3).val < 256 := (y 3).isLt; omega⟩)

theorem after_apply (x1 : Vec Ideal S8x512 .f32) (x2 : Vec Ideal S8x1024 .f32) (x8 : Vec Ideal S1x8x4x128x256 .f32) (D : Vec Ideal S8x512 .f32)
    (b : Fin 8) (h : Fin 4) (r : Fin 128) (d : Fin 256) : after x1 x2 x8 D (ix4 b h r d)
      = Ideal.exp (D (ix2 b ⟨128 * h.val + r.val, by omega⟩)) * x8 (ix5 0 b h r d)
        + x1 (ix2 b ⟨128 * h.val + r.val, by omega⟩) * x2 (ix2 b ⟨256 * h.val + d.val, by omega⟩) := rfl

theorem at_store (x1 : Vec Ideal S8x512 .f32) (x2 : Vec Ideal S8x1024 .f32) (x8 : Vec Ideal S1x8x4x128x256 .f32) (D : Vec Ideal S8x512 .f32)
    (b : Fin 8) (h : Fin 4) (a a' : Fin 1) (r : Fin 128) (d : Fin 256) (z : S8x4x128x256.Idx) (h0 : (z 0).val = b.val + 1 * a.val) (h1 : (z 1).val = h.val + 1 * a'.val)
    (h2 : (z 2).val = 0 + 1 * r.val) (h3 : (z 3).val = 0 + 1 * d.val)
    (j : Fin 512) (k : Fin 1024) (hj : j.val = 128 * h.val + r.val) (hk : k.val = 256 * h.val + d.val) :
    after x1 x2 x8 D z = Ideal.exp (D (ix2 b j)) * x8 (ix5 0 b h r d) + x1 (ix2 b j) * x2 (ix2 b k) := by
  have ha := a.isLt
  have ha' := a'.isLt
  have hz : z = ix4 b h r d := by
    funext q
    apply Fin.ext
    match q with
    | ⟨0, _⟩ => show (z 0).val = b.val; omega
    | ⟨1, _⟩ => show (z 1).val = h.val; omega
    | ⟨2, _⟩ => show (z 2).val = r.val; omega
    | ⟨3, _⟩ => show (z 3).val = d.val; omega
  obtain rfl : j = ⟨128 * h.val + r.val, by clear hj hk; omega⟩ := Fin.ext hj
  obtain rfl : k = ⟨256 * h.val + d.val, by clear hk; omega⟩ := Fin.ext hk
  exact congrArg (after x1 x2 x8 D) hz

theorem decay_ne_top (x4 : Vec Ideal S8x256 .f32) (x5 : Vec Ideal S256x512 .bf16) (x6 : Vec Ideal S1x512 .f32) (r : Fin 8) (j : Fin 512) :
    (decay x4 x5 x6 (ix2 r j) : EReal) ≠ ⊤ := by
  rw [decay_apply]
  exact gate_ne_top _

set_option maxHeartbeats 4000000 in
/-- What the stores of the state leave. -/
theorem out_eq (x0 x1 : Vec Ideal S8x512 .f32) (x2 x3 : Vec Ideal S8x1024 .f32) (x4 : Vec Ideal S8x256 .f32) (x5 : Vec Ideal S256x512 .bf16) (x6 : Vec Ideal S1x512 .f32) (x7 : Vec Ideal S1x1024 .f32) (x8 : Vec Ideal S1x8x4x128x256 .f32) (y : S8x4x128x256.Idx) :
    out0_10 x0 x1 x2 x3 x4 x5 x6 x7 x8 y = after x1 x2 x8 (decay x4 x5 x6) y := by
  unfold out0_10
  refine View.canon_apply_of_pieces (Val := Elt Ideal) (after x1 x2 x8 (decay x4 x5 x6)) _ ?_ y (cover0_10 _ _ _ _ _ _ _ _ _ _ _ _ _ _ _ _ _ _ _ _ _ _ _ _ _ _ _ _ _ _ _ _ y)
  intro pc hpc
  simp only [List.mem_cons, List.not_mem_nil, or_false] at hpc
  rcases hpc with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · intro x
    obtain ⟨a, a', r, d, rfl⟩ : ∃ a a' r d, x = ix4 a a' r d := ⟨x 0, x 1, x 2, x 3, eq_ix4 x⟩
    refine (congrFun (store_7_3 x0 x1 x2 x3 x4 x5 x6 x7 x8) (ix4 a a' r d)).trans ((step_apply _ _ _ _ a a' r d ?_).trans ?_)
    · pointwise []
      exact decay_ne_top x4 x5 x6 _ _
    · pointwise []
      exact (at_store x1 x2 x8 (decay x4 x5 x6) 7 3 a a' r d _ rfl rfl rfl rfl _ _ rfl rfl).symm
  · intro x
    obtain ⟨a, a', r, d, rfl⟩ : ∃ a a' r d, x = ix4 a a' r d := ⟨x 0, x 1, x 2, x 3, eq_ix4 x⟩
    refine (congrFun (store_7_2 x0 x1 x2 x3 x4 x5 x6 x7 x8) (ix4 a a' r d)).trans ((step_apply _ _ _ _ a a' r d ?_).trans ?_)
    · pointwise []
      exact decay_ne_top x4 x5 x6 _ _
    · pointwise []
      exact (at_store x1 x2 x8 (decay x4 x5 x6) 7 2 a a' r d _ rfl rfl rfl rfl _ _ rfl rfl).symm
  · intro x
    obtain ⟨a, a', r, d, rfl⟩ : ∃ a a' r d, x = ix4 a a' r d := ⟨x 0, x 1, x 2, x 3, eq_ix4 x⟩
    refine (congrFun (store_7_1 x0 x1 x2 x3 x4 x5 x6 x7 x8) (ix4 a a' r d)).trans ((step_apply _ _ _ _ a a' r d ?_).trans ?_)
    · pointwise []
      exact decay_ne_top x4 x5 x6 _ _
    · pointwise []
      exact (at_store x1 x2 x8 (decay x4 x5 x6) 7 1 a a' r d _ rfl rfl rfl rfl _ _ rfl rfl).symm
  · intro x
    obtain ⟨a, a', r, d, rfl⟩ : ∃ a a' r d, x = ix4 a a' r d := ⟨x 0, x 1, x 2, x 3, eq_ix4 x⟩
    refine (congrFun (store_7_0 x0 x1 x2 x3 x4 x5 x6 x7 x8) (ix4 a a' r d)).trans ((step_apply _ _ _ _ a a' r d ?_).trans ?_)
    · pointwise []
      exact decay_ne_top x4 x5 x6 _ _
    · pointwise []
      exact (at_store x1 x2 x8 (decay x4 x5 x6) 7 0 a a' r d _ rfl rfl rfl rfl _ _ (by show r.val = 128 * 0 + r.val; omega) (by show d.val = 256 * 0 + d.val; omega)).symm
  · intro x
    obtain ⟨a, a', r, d, rfl⟩ : ∃ a a' r d, x = ix4 a a' r d := ⟨x 0, x 1, x 2, x 3, eq_ix4 x⟩
    refine (congrFun (store_6_3 x0 x1 x2 x3 x4 x5 x6 x7 x8) (ix4 a a' r d)).trans ((step_apply _ _ _ _ a a' r d ?_).trans ?_)
    · pointwise []
      exact decay_ne_top x4 x5 x6 _ _
    · pointwise []
      exact (at_store x1 x2 x8 (decay x4 x5 x6) 6 3 a a' r d _ rfl rfl rfl rfl _ _ rfl rfl).symm
  · intro x
    obtain ⟨a, a', r, d, rfl⟩ : ∃ a a' r d, x = ix4 a a' r d := ⟨x 0, x 1, x 2, x 3, eq_ix4 x⟩
    refine (congrFun (store_6_2 x0 x1 x2 x3 x4 x5 x6 x7 x8) (ix4 a a' r d)).trans ((step_apply _ _ _ _ a a' r d ?_).trans ?_)
    · pointwise []
      exact decay_ne_top x4 x5 x6 _ _
    · pointwise []
      exact (at_store x1 x2 x8 (decay x4 x5 x6) 6 2 a a' r d _ rfl rfl rfl rfl _ _ rfl rfl).symm
  · intro x
    obtain ⟨a, a', r, d, rfl⟩ : ∃ a a' r d, x = ix4 a a' r d := ⟨x 0, x 1, x 2, x 3, eq_ix4 x⟩
    refine (congrFun (store_6_1 x0 x1 x2 x3 x4 x5 x6 x7 x8) (ix4 a a' r d)).trans ((step_apply _ _ _ _ a a' r d ?_).trans ?_)
    · pointwise []
      exact decay_ne_top x4 x5 x6 _ _
    · pointwise []
      exact (at_store x1 x2 x8 (decay x4 x5 x6) 6 1 a a' r d _ rfl rfl rfl rfl _ _ rfl rfl).symm
  · intro x
    obtain ⟨a, a', r, d, rfl⟩ : ∃ a a' r d, x = ix4 a a' r d := ⟨x 0, x 1, x 2, x 3, eq_ix4 x⟩
    refine (congrFun (store_6_0 x0 x1 x2 x3 x4 x5 x6 x7 x8) (ix4 a a' r d)).trans ((step_apply _ _ _ _ a a' r d ?_).trans ?_)
    · pointwise []
      exact decay_ne_top x4 x5 x6 _ _
    · pointwise []
      exact (at_store x1 x2 x8 (decay x4 x5 x6) 6 0 a a' r d _ rfl rfl rfl rfl _ _ (by show r.val = 128 * 0 + r.val; omega) (by show d.val = 256 * 0 + d.val; omega)).symm
  · intro x
    obtain ⟨a, a', r, d, rfl⟩ : ∃ a a' r d, x = ix4 a a' r d := ⟨x 0, x 1, x 2, x 3, eq_ix4 x⟩
    refine (congrFun (store_5_3 x0 x1 x2 x3 x4 x5 x6 x7 x8) (ix4 a a' r d)).trans ((step_apply _ _ _ _ a a' r d ?_).trans ?_)
    · pointwise []
      exact decay_ne_top x4 x5 x6 _ _
    · pointwise []
      exact (at_store x1 x2 x8 (decay x4 x5 x6) 5 3 a a' r d _ rfl rfl rfl rfl _ _ rfl rfl).symm
  · intro x
    obtain ⟨a, a', r, d, rfl⟩ : ∃ a a' r d, x = ix4 a a' r d := ⟨x 0, x 1, x 2, x 3, eq_ix4 x⟩
    refine (congrFun (store_5_2 x0 x1 x2 x3 x4 x5 x6 x7 x8) (ix4 a a' r d)).trans ((step_apply _ _ _ _ a a' r d ?_).trans ?_)
    · pointwise []
      exact decay_ne_top x4 x5 x6 _ _
    · pointwise []
      exact (at_store x1 x2 x8 (decay x4 x5 x6) 5 2 a a' r d _ rfl rfl rfl rfl _ _ rfl rfl).symm
  · intro x
    obtain ⟨a, a', r, d, rfl⟩ : ∃ a a' r d, x = ix4 a a' r d := ⟨x 0, x 1, x 2, x 3, eq_ix4 x⟩
    refine (congrFun (store_5_1 x0 x1 x2 x3 x4 x5 x6 x7 x8) (ix4 a a' r d)).trans ((step_apply _ _ _ _ a a' r d ?_).trans ?_)
    · pointwise []
      exact decay_ne_top x4 x5 x6 _ _
    · pointwise []
      exact (at_store x1 x2 x8 (decay x4 x5 x6) 5 1 a a' r d _ rfl rfl rfl rfl _ _ rfl rfl).symm
  · intro x
    obtain ⟨a, a', r, d, rfl⟩ : ∃ a a' r d, x = ix4 a a' r d := ⟨x 0, x 1, x 2, x 3, eq_ix4 x⟩
    refine (congrFun (store_5_0 x0 x1 x2 x3 x4 x5 x6 x7 x8) (ix4 a a' r d)).trans ((step_apply _ _ _ _ a a' r d ?_).trans ?_)
    · pointwise []
      exact decay_ne_top x4 x5 x6 _ _
    · pointwise []
      exact (at_store x1 x2 x8 (decay x4 x5 x6) 5 0 a a' r d _ rfl rfl rfl rfl _ _ (by show r.val = 128 * 0 + r.val; omega) (by show d.val = 256 * 0 + d.val; omega)).symm
  · intro x
    obtain ⟨a, a', r, d, rfl⟩ : ∃ a a' r d, x = ix4 a a' r d := ⟨x 0, x 1, x 2, x 3, eq_ix4 x⟩
    refine (congrFun (store_4_3 x0 x1 x2 x3 x4 x5 x6 x7 x8) (ix4 a a' r d)).trans ((step_apply _ _ _ _ a a' r d ?_).trans ?_)
    · pointwise []
      exact decay_ne_top x4 x5 x6 _ _
    · pointwise []
      exact (at_store x1 x2 x8 (decay x4 x5 x6) 4 3 a a' r d _ rfl rfl rfl rfl _ _ rfl rfl).symm
  · intro x
    obtain ⟨a, a', r, d, rfl⟩ : ∃ a a' r d, x = ix4 a a' r d := ⟨x 0, x 1, x 2, x 3, eq_ix4 x⟩
    refine (congrFun (store_4_2 x0 x1 x2 x3 x4 x5 x6 x7 x8) (ix4 a a' r d)).trans ((step_apply _ _ _ _ a a' r d ?_).trans ?_)
    · pointwise []
      exact decay_ne_top x4 x5 x6 _ _
    · pointwise []
      exact (at_store x1 x2 x8 (decay x4 x5 x6) 4 2 a a' r d _ rfl rfl rfl rfl _ _ rfl rfl).symm
  · intro x
    obtain ⟨a, a', r, d, rfl⟩ : ∃ a a' r d, x = ix4 a a' r d := ⟨x 0, x 1, x 2, x 3, eq_ix4 x⟩
    refine (congrFun (store_4_1 x0 x1 x2 x3 x4 x5 x6 x7 x8) (ix4 a a' r d)).trans ((step_apply _ _ _ _ a a' r d ?_).trans ?_)
    · pointwise []
      exact decay_ne_top x4 x5 x6 _ _
    · pointwise []
      exact (at_store x1 x2 x8 (decay x4 x5 x6) 4 1 a a' r d _ rfl rfl rfl rfl _ _ rfl rfl).symm
  · intro x
    obtain ⟨a, a', r, d, rfl⟩ : ∃ a a' r d, x = ix4 a a' r d := ⟨x 0, x 1, x 2, x 3, eq_ix4 x⟩
    refine (congrFun (store_4_0 x0 x1 x2 x3 x4 x5 x6 x7 x8) (ix4 a a' r d)).trans ((step_apply _ _ _ _ a a' r d ?_).trans ?_)
    · pointwise []
      exact decay_ne_top x4 x5 x6 _ _
    · pointwise []
      exact (at_store x1 x2 x8 (decay x4 x5 x6) 4 0 a a' r d _ rfl rfl rfl rfl _ _ (by show r.val = 128 * 0 + r.val; omega) (by show d.val = 256 * 0 + d.val; omega)).symm
  · intro x
    obtain ⟨a, a', r, d, rfl⟩ : ∃ a a' r d, x = ix4 a a' r d := ⟨x 0, x 1, x 2, x 3, eq_ix4 x⟩
    refine (congrFun (store_3_3 x0 x1 x2 x3 x4 x5 x6 x7 x8) (ix4 a a' r d)).trans ((step_apply _ _ _ _ a a' r d ?_).trans ?_)
    · pointwise []
      exact decay_ne_top x4 x5 x6 _ _
    · pointwise []
      exact (at_store x1 x2 x8 (decay x4 x5 x6) 3 3 a a' r d _ rfl rfl rfl rfl _ _ rfl rfl).symm
  · intro x
    obtain ⟨a, a', r, d, rfl⟩ : ∃ a a' r d, x = ix4 a a' r d := ⟨x 0, x 1, x 2, x 3, eq_ix4 x⟩
    refine (congrFun (store_3_2 x0 x1 x2 x3 x4 x5 x6 x7 x8) (ix4 a a' r d)).trans ((step_apply _ _ _ _ a a' r d ?_).trans ?_)
    · pointwise []
      exact decay_ne_top x4 x5 x6 _ _
    · pointwise []
      exact (at_store x1 x2 x8 (decay x4 x5 x6) 3 2 a a' r d _ rfl rfl rfl rfl _ _ rfl rfl).symm
  · intro x
    obtain ⟨a, a', r, d, rfl⟩ : ∃ a a' r d, x = ix4 a a' r d := ⟨x 0, x 1, x 2, x 3, eq_ix4 x⟩
    refine (congrFun (store_3_1 x0 x1 x2 x3 x4 x5 x6 x7 x8) (ix4 a a' r d)).trans ((step_apply _ _ _ _ a a' r d ?_).trans ?_)
    · pointwise []
      exact decay_ne_top x4 x5 x6 _ _
    · pointwise []
      exact (at_store x1 x2 x8 (decay x4 x5 x6) 3 1 a a' r d _ rfl rfl rfl rfl _ _ rfl rfl).symm
  · intro x
    obtain ⟨a, a', r, d, rfl⟩ : ∃ a a' r d, x = ix4 a a' r d := ⟨x 0, x 1, x 2, x 3, eq_ix4 x⟩
    refine (congrFun (store_3_0 x0 x1 x2 x3 x4 x5 x6 x7 x8) (ix4 a a' r d)).trans ((step_apply _ _ _ _ a a' r d ?_).trans ?_)
    · pointwise []
      exact decay_ne_top x4 x5 x6 _ _
    · pointwise []
      exact (at_store x1 x2 x8 (decay x4 x5 x6) 3 0 a a' r d _ rfl rfl rfl rfl _ _ (by show r.val = 128 * 0 + r.val; omega) (by show d.val = 256 * 0 + d.val; omega)).symm
  · intro x
    obtain ⟨a, a', r, d, rfl⟩ : ∃ a a' r d, x = ix4 a a' r d := ⟨x 0, x 1, x 2, x 3, eq_ix4 x⟩
    refine (congrFun (store_2_3 x0 x1 x2 x3 x4 x5 x6 x7 x8) (ix4 a a' r d)).trans ((step_apply _ _ _ _ a a' r d ?_).trans ?_)
    · pointwise []
      exact decay_ne_top x4 x5 x6 _ _
    · pointwise []
      exact (at_store x1 x2 x8 (decay x4 x5 x6) 2 3 a a' r d _ rfl rfl rfl rfl _ _ rfl rfl).symm
  · intro x
    obtain ⟨a, a', r, d, rfl⟩ : ∃ a a' r d, x = ix4 a a' r d := ⟨x 0, x 1, x 2, x 3, eq_ix4 x⟩
    refine (congrFun (store_2_2 x0 x1 x2 x3 x4 x5 x6 x7 x8) (ix4 a a' r d)).trans ((step_apply _ _ _ _ a a' r d ?_).trans ?_)
    · pointwise []
      exact decay_ne_top x4 x5 x6 _ _
    · pointwise []
      exact (at_store x1 x2 x8 (decay x4 x5 x6) 2 2 a a' r d _ rfl rfl rfl rfl _ _ rfl rfl).symm
  · intro x
    obtain ⟨a, a', r, d, rfl⟩ : ∃ a a' r d, x = ix4 a a' r d := ⟨x 0, x 1, x 2, x 3, eq_ix4 x⟩
    refine (congrFun (store_2_1 x0 x1 x2 x3 x4 x5 x6 x7 x8) (ix4 a a' r d)).trans ((step_apply _ _ _ _ a a' r d ?_).trans ?_)
    · pointwise []
      exact decay_ne_top x4 x5 x6 _ _
    · pointwise []
      exact (at_store x1 x2 x8 (decay x4 x5 x6) 2 1 a a' r d _ rfl rfl rfl rfl _ _ rfl rfl).symm
  · intro x
    obtain ⟨a, a', r, d, rfl⟩ : ∃ a a' r d, x = ix4 a a' r d := ⟨x 0, x 1, x 2, x 3, eq_ix4 x⟩
    refine (congrFun (store_2_0 x0 x1 x2 x3 x4 x5 x6 x7 x8) (ix4 a a' r d)).trans ((step_apply _ _ _ _ a a' r d ?_).trans ?_)
    · pointwise []
      exact decay_ne_top x4 x5 x6 _ _
    · pointwise []
      exact (at_store x1 x2 x8 (decay x4 x5 x6) 2 0 a a' r d _ rfl rfl rfl rfl _ _ (by show r.val = 128 * 0 + r.val; omega) (by show d.val = 256 * 0 + d.val; omega)).symm
  · intro x
    obtain ⟨a, a', r, d, rfl⟩ : ∃ a a' r d, x = ix4 a a' r d := ⟨x 0, x 1, x 2, x 3, eq_ix4 x⟩
    refine (congrFun (store_1_3 x0 x1 x2 x3 x4 x5 x6 x7 x8) (ix4 a a' r d)).trans ((step_apply _ _ _ _ a a' r d ?_).trans ?_)
    · pointwise []
      exact decay_ne_top x4 x5 x6 _ _
    · pointwise []
      exact (at_store x1 x2 x8 (decay x4 x5 x6) 1 3 a a' r d _ rfl rfl rfl rfl _ _ rfl rfl).symm
  · intro x
    obtain ⟨a, a', r, d, rfl⟩ : ∃ a a' r d, x = ix4 a a' r d := ⟨x 0, x 1, x 2, x 3, eq_ix4 x⟩
    refine (congrFun (store_1_2 x0 x1 x2 x3 x4 x5 x6 x7 x8) (ix4 a a' r d)).trans ((step_apply _ _ _ _ a a' r d ?_).trans ?_)
    · pointwise []
      exact decay_ne_top x4 x5 x6 _ _
    · pointwise []
      exact (at_store x1 x2 x8 (decay x4 x5 x6) 1 2 a a' r d _ rfl rfl rfl rfl _ _ rfl rfl).symm
  · intro x
    obtain ⟨a, a', r, d, rfl⟩ : ∃ a a' r d, x = ix4 a a' r d := ⟨x 0, x 1, x 2, x 3, eq_ix4 x⟩
    refine (congrFun (store_1_1 x0 x1 x2 x3 x4 x5 x6 x7 x8) (ix4 a a' r d)).trans ((step_apply _ _ _ _ a a' r d ?_).trans ?_)
    · pointwise []
      exact decay_ne_top x4 x5 x6 _ _
    · pointwise []
      exact (at_store x1 x2 x8 (decay x4 x5 x6) 1 1 a a' r d _ rfl rfl rfl rfl _ _ rfl rfl).symm
  · intro x
    obtain ⟨a, a', r, d, rfl⟩ : ∃ a a' r d, x = ix4 a a' r d := ⟨x 0, x 1, x 2, x 3, eq_ix4 x⟩
    refine (congrFun (store_1_0 x0 x1 x2 x3 x4 x5 x6 x7 x8) (ix4 a a' r d)).trans ((step_apply _ _ _ _ a a' r d ?_).trans ?_)
    · pointwise []
      exact decay_ne_top x4 x5 x6 _ _
    · pointwise []
      exact (at_store x1 x2 x8 (decay x4 x5 x6) 1 0 a a' r d _ rfl rfl rfl rfl _ _ (by show r.val = 128 * 0 + r.val; omega) (by show d.val = 256 * 0 + d.val; omega)).symm
  · intro x
    obtain ⟨a, a', r, d, rfl⟩ : ∃ a a' r d, x = ix4 a a' r d := ⟨x 0, x 1, x 2, x 3, eq_ix4 x⟩
    refine (congrFun (store_0_3 x0 x1 x2 x3 x4 x5 x6 x7 x8) (ix4 a a' r d)).trans ((step_apply _ _ _ _ a a' r d ?_).trans ?_)
    · pointwise []
      exact decay_ne_top x4 x5 x6 _ _
    · pointwise []
      exact (at_store x1 x2 x8 (decay x4 x5 x6) 0 3 a a' r d _ rfl rfl rfl rfl _ _ rfl rfl).symm
  · intro x
    obtain ⟨a, a', r, d, rfl⟩ : ∃ a a' r d, x = ix4 a a' r d := ⟨x 0, x 1, x 2, x 3, eq_ix4 x⟩
    refine (congrFun (store_0_2 x0 x1 x2 x3 x4 x5 x6 x7 x8) (ix4 a a' r d)).trans ((step_apply _ _ _ _ a a' r d ?_).trans ?_)
    · pointwise []
      exact decay_ne_top x4 x5 x6 _ _
    · pointwise []
      exact (at_store x1 x2 x8 (decay x4 x5 x6) 0 2 a a' r d _ rfl rfl rfl rfl _ _ rfl rfl).symm
  · intro x
    obtain ⟨a, a', r, d, rfl⟩ : ∃ a a' r d, x = ix4 a a' r d := ⟨x 0, x 1, x 2, x 3, eq_ix4 x⟩
    refine (congrFun (store_0_1 x0 x1 x2 x3 x4 x5 x6 x7 x8) (ix4 a a' r d)).trans ((step_apply _ _ _ _ a a' r d ?_).trans ?_)
    · pointwise []
      exact decay_ne_top x4 x5 x6 _ _
    · pointwise []
      exact (at_store x1 x2 x8 (decay x4 x5 x6) 0 1 a a' r d _ rfl rfl rfl rfl _ _ rfl rfl).symm
  · intro x
    obtain ⟨a, a', r, d, rfl⟩ : ∃ a a' r d, x = ix4 a a' r d := ⟨x 0, x 1, x 2, x 3, eq_ix4 x⟩
    refine (congrFun (store_0_0 x0 x1 x2 x3 x4 x5 x6 x7 x8) (ix4 a a' r d)).trans ((step_apply _ _ _ _ a a' r d ?_).trans ?_)
    · pointwise []
      exact decay_ne_top x4 x5 x6 _ _
    · pointwise []
      exact (at_store x1 x2 x8 (decay x4 x5 x6) 0 0 a a' r d _ rfl rfl rfl rfl _ _ (by show r.val = 128 * 0 + r.val; omega) (by show d.val = 256 * 0 + d.val; omega)).symm
end Cert.Gla1
end
-- ==== Proof.GlaRead.lean ====
/-
  THE REFERENCE'S STATE of the samples' recurrence, at an index.
-/
module
public import proofs.«01_k».proof.Proof.GlaGate
public import proofs.«01_k».proof.Proof.Gen.GlaSampleRefIdeal.Run
public import proofs.«01_k».proof.Proof.Gen.GlaSampleRefIdeal.Read
@[expose] public section
noncomputable section
namespace Cert.Gla1
open Idealize.ShloMosaic Idealize.ShloMosaic.TcCoe Idealize.SL.Sem

open Cert.GlaSampleRefIdeal

/-- The state of sample `b`, head `h`, after the step. -/
def next (x0 : (⟨S8320x24576, .f32⟩ : BufTy).Contents (Elt Ideal)) (x1 : (⟨S8320x256, .f32⟩ : BufTy).Contents (Elt Ideal)) (x2 : (⟨S16x512, .f32⟩ : BufTy).Contents (Elt Ideal))
    (x3 : (⟨S512, .f32⟩ : BufTy).Contents (Elt Ideal)) (x5 : (⟨S2x128x4x128x256, .f32⟩ : BufTy).Contents (Elt Ideal)) (b : Fin 128) (h : Fin 4) (r : Fin 128) (d : Fin 256) : EReal :=
  Ideal.exp (gate (∑ x : Fin 16, x1 (ix2 ⟨8192 + b.val, by omega⟩ ⟨128 + x.val, by omega⟩) * x2 (ix2 x ⟨128 * h.val + r.val, by omega⟩) + x3 (ix1 ⟨128 * h.val + r.val, by omega⟩)))
      * x5 (ix5 0 b h r d)
    + x0 (ix2 ⟨8192 + b.val, by omega⟩ ⟨2560 + (128 * h.val + r.val), by omega⟩) * x0 (ix2 ⟨8192 + b.val, by omega⟩ ⟨3072 + (256 * h.val + d.val), by omega⟩)

open Cert.GlaSampleRefIdeal.Read Cert.GlaSampleRefIdeal.Gen in
theorem ref_decay (x1 : (⟨Cert.GlaSampleRefIdeal.S8320x256, .f32⟩ : BufTy).Contents (Elt Ideal)) (x2 : (⟨Cert.GlaSampleRefIdeal.S16x512, .f32⟩ : BufTy).Contents (Elt Ideal)) (x3 : (⟨Cert.GlaSampleRefIdeal.S512, .f32⟩ : BufTy).Contents (Elt Ideal))
    (n : Fin 128) (j : Fin 512) : (val_main_v11 (F := Ideal) x1 x2 x3 (ix2 n j) : EReal)
      = gate (∑ x : Fin 16, x1 (ix2 ⟨8192 + n.val, by omega⟩ ⟨128 + x.val, by omega⟩) * x2 (ix2 x j) + x3 (ix1 j)) := by
  rw [← gate_eq]
  pointwise [val_main_v11, val_main_v10, val_main_cst, val_main_v9, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0, val_main_v8, val_main_v7, val_main_v6, val_main_v5, val_main_v4]
  rw [if_neg fun h => h rfl]
  rfl

open Cert.GlaSampleRefIdeal.Read Cert.GlaSampleRefIdeal.Gen in
theorem ref_apply (x0 : (⟨S8320x24576, .f32⟩ : BufTy).Contents (Elt Ideal)) (x1 : (⟨S8320x256, .f32⟩ : BufTy).Contents (Elt Ideal)) (x2 : (⟨S16x512, .f32⟩ : BufTy).Contents (Elt Ideal))
    (x3 : (⟨S512, .f32⟩ : BufTy).Contents (Elt Ideal)) (x5 : (⟨S2x128x4x128x256, .f32⟩ : BufTy).Contents (Elt Ideal)) (b : Fin 128) (h : Fin 4) (r : Fin 128) (d : Fin 256) :
    (val_main_v24 (F := Ideal) x0 x1 x2 x3 x5 (ix4 b h r d) : EReal) = next x0 x1 x2 x3 x5 b h r d := by
  unfold next
  rw [← ref_decay]
  pointwise [val_main_v24, val_main_v23, val_main_v22, val_main_v21, val_main_v20, val_main_v19, val_main_v18, val_main_v17, val_main_v16, val_main_v15, val_main_v14, val_main_v13, val_main_v12, val_main_v3, val_main_v2, val_main_v1, val_main_v0]
  simp only [Nat.mul_comm h.val 128, Nat.mul_comm h.val 256]
end Cert.Gla1
end
-- ==== Proof.GlaValue.lean ====
/-
  THE STATE THAT THE SAMPLES' RECURRENCE LEAVES, at an index.
-/
module
public import proofs.«01_k».proof.Proof.GlaOut
public import proofs.«01_k».proof.Proof.GlaRead
public import proofs.«01_k».proof.Proof.Gen.GlaSampleIdeal.Value
import Idealize.ShloMosaic.Lib.StableHlo.RunRead
@[expose] public section
noncomputable section
namespace Cert.Gla1
open Cert.GlaSampleIdeal Cert.GlaSampleIdeal.Gen Idealize.ShloMosaic Idealize.ShloMosaic.TcCoe Idealize.SL.Sem

theorem idx : ∀ t : Fin cfg0.N, (win0_1.index t 0 = 1024 + t.val ∧ win0_1.index t 1 = 5) ∧ (win0_2.index t 0 = 1024 + t.val ∧ win0_2.index t 1 = 3)
    ∧ (win0_4.index t 0 = 1024 + t.val ∧ win0_4.index t 1 = 0) ∧ (win0_5.index t 0 = 0 ∧ win0_5.index t 1 = 0) ∧ (win0_6.index t 0 = 0 ∧ win0_6.index t 1 = 0)
    ∧ (win0_8.index t 0 = 0 ∧ win0_8.index t 1 = t.val ∧ win0_8.index t 2 = 0 ∧ win0_8.index t 3 = 0 ∧ win0_8.index t 4 = 0)
    ∧ (win0_10.index t 0 = t.val ∧ win0_10.index t 1 = 0 ∧ win0_10.index t 2 = 0 ∧ win0_10.index t 3 = 0) :=
  (by decide +kernel : ∀ t : Fin grid0.N, (win0_1.index t 0 = 1024 + t.val ∧ win0_1.index t 1 = 5) ∧ (win0_2.index t 0 = 1024 + t.val ∧ win0_2.index t 1 = 3)
    ∧ (win0_4.index t 0 = 1024 + t.val ∧ win0_4.index t 1 = 0) ∧ (win0_5.index t 0 = 0 ∧ win0_5.index t 1 = 0) ∧ (win0_6.index t 0 = 0 ∧ win0_6.index t 1 = 0)
    ∧ (win0_8.index t 0 = 0 ∧ win0_8.index t 1 = t.val ∧ win0_8.index t 2 = 0 ∧ win0_8.index t 3 = 0 ∧ win0_8.index t 4 = 0)
    ∧ (win0_10.index t 0 = t.val ∧ win0_10.index t 1 = 0 ∧ win0_10.index t 2 = 0 ∧ win0_10.index t 3 = 0))

theorem flush10 : ∀ t : Fin cfg0.N, (cfg0.win 10).flush t = true := (by decide +kernel : ∀ t : Fin grid0.N, win0_10.flush t = true)

section
variable (m : (ℓ : Loc nD τ sig) → Buf (Elt Ideal) ℓ) (c : Dev nD)

theorem block_key (t : Fin cfg0.N) (r : Fin 8) (n : Fin 128) (hn : 8 * t.val + r.val = n.val) (j : Fin 512) :
    (iblk m c 1 t (ix2 r j) : EReal) = m ((c : Thread nD τ).loc main_arg0) (ix2 ⟨8192 + n.val, by omega⟩ ⟨2560 + j.val, by omega⟩) := by
  have hi := idx t
  have he : ((cfg0.win 1).blk t).view.emb (ix2 r j) = ix2 ⟨8192 + n.val, by omega⟩ ⟨2560 + j.val, by omega⟩ := by
    funext a
    apply Fin.ext
    match a with
    | ⟨0, _⟩ => show win0_1.index t 0 * 8 + 1 * r.val = 8192 + n.val; rw [hi.1.1]; omega
    | ⟨1, _⟩ => show win0_1.index t 1 * 512 + 1 * j.val = 2560 + j.val; rw [hi.1.2]; omega
  show V m c main_arg0 (((cfg0.win 1).blk t).view.emb (ix2 r j)) = _
  rw [he, V_main_arg0]

theorem block_value (t : Fin cfg0.N) (r : Fin 8) (n : Fin 128) (hn : 8 * t.val + r.val = n.val) (j : Fin 1024) :
    (iblk m c 2 t (ix2 r j) : EReal) = m ((c : Thread nD τ).loc main_arg0) (ix2 ⟨8192 + n.val, by omega⟩ ⟨3072 + j.val, by omega⟩) := by
  have hi := idx t
  have he : ((cfg0.win 2).blk t).view.emb (ix2 r j) = ix2 ⟨8192 + n.val, by omega⟩ ⟨3072 + j.val, by omega⟩ := by
    funext a
    apply Fin.ext
    match a with
    | ⟨0, _⟩ => show win0_2.index t 0 * 8 + 1 * r.val = 8192 + n.val; rw [hi.2.1.1]; omega
    | ⟨1, _⟩ => show win0_2.index t 1 * 1024 + 1 * j.val = 3072 + j.val; rw [hi.2.1.2]; omega
  show V m c main_arg0 (((cfg0.win 2).blk t).view.emb (ix2 r j)) = _
  rw [he, V_main_arg0]

theorem block_small (t : Fin cfg0.N) (r : Fin 8) (n : Fin 128) (hn : 8 * t.val + r.val = n.val) (j : Fin 256) :
    (iblk m c 4 t (ix2 r j) : EReal) = m ((c : Thread nD τ).loc main_arg1) (ix2 ⟨8192 + n.val, by omega⟩ j) := by
  have hi := idx t
  have he : ((cfg0.win 4).blk t).view.emb (ix2 r j) = ix2 ⟨8192 + n.val, by omega⟩ j := by
    funext a
    apply Fin.ext
    match a with
    | ⟨0, _⟩ => show win0_4.index t 0 * 8 + 1 * r.val = 8192 + n.val; rw [hi.2.2.1.1]; omega
    | ⟨1, _⟩ => show win0_4.index t 1 * 256 + 1 * j.val = j.val; rw [hi.2.2.1.2]; omega
  show V m c main_arg1 (((cfg0.win 4).blk t).view.emb (ix2 r j)) = _
  rw [he, V_main_arg1]

set_option maxRecDepth 8192 in
theorem block_weight (t : Fin cfg0.N) (x : Fin 256) (j : Fin 512) :
    (iblk m c 5 t (ix2 x j) : EReal) = if h : 128 ≤ x.val ∧ x.val < 144 then (m ((c : Thread nD τ).loc main_arg2) (ix2 ⟨x.val - 128, by omega⟩ j) : EReal) else (0 : EReal) := by
  have hi := idx t
  have he : ((cfg0.win 5).blk t).view.emb (ix2 x j) = ix2 x j := by
    funext a
    apply Fin.ext
    match a with
    | ⟨0, _⟩ => show win0_5.index t 0 * 256 + 1 * x.val = x.val; rw [hi.2.2.2.1.1]; omega
    | ⟨1, _⟩ => show win0_5.index t 1 * 512 + 1 * j.val = j.val; rw [hi.2.2.2.1.2]; omega
  have hv : V m c main_v3 = truncf (F := Ideal) .bf16 (Host.scatter scatter_S256x512_S1_S16x512_01_n_0_0 (fun _ b => b)
      (broadcastInDim S256x512 ![] bcast_S_S256x512 (constant (F := Ideal) S_ .f32 0x00000000#32)) (broadcastInDim S1 ![] bcast_S_S1 (constantI S_ 32 128#32))
      (m ((c : Thread nD τ).loc main_arg2))) bitsLt_bf16_f32 := by
    after_reads_simp
  show V m c main_v3 (((cfg0.win 5).blk t).view.emb (ix2 x j)) = _
  rw [he, hv]
  have hc : ∀ u : Vec Ideal S256x512 .f32, (truncf (F := Ideal) .bf16 u bitsLt_bf16_f32 (ix2 x j) : EReal) = u (ix2 x j) := fun _ => rfl
  have h128 : (broadcastInDim S1 ![] bcast_S_S1 (constantI S_ 32 128#32) (ix1 0)).toInt = 128 := by decide
  rw [hc, spread _ h128]
  by_cases h : 128 ≤ x.val ∧ x.val < 144
  · rw [dif_pos h, dif_pos h]
  · rw [dif_neg h, dif_neg h]
    pointwise []

set_option maxRecDepth 8192 in
theorem block_bias (t : Fin cfg0.N) (j : Fin 512) : (iblk m c 6 t (ix2 0 j) : EReal) = m ((c : Thread nD τ).loc main_arg3) (ix1 j) := by
  have hi := idx t
  have hv : V m c main_v4 = shapeCast S1x512 (m ((c : Thread nD τ).loc main_arg3)) shapeCasts_S512_S1x512 := by
    after_reads_simp
    rfl
  have he : ((cfg0.win 6).blk t).view.emb (ix2 0 j) = ix2 0 j := by
    funext a
    apply Fin.ext
    match a with
    | ⟨0, _⟩ => show win0_6.index t 0 * 1 + 1 * 0 = 0; rw [hi.2.2.2.2.1.1]
    | ⟨1, _⟩ => show win0_6.index t 1 * 512 + 1 * j.val = j.val; rw [hi.2.2.2.2.1.2]; omega
  show V m c main_v4 (((cfg0.win 6).blk t).view.emb (ix2 0 j)) = _
  rw [he, hv]
  pointwise []

theorem block_state (t : Fin cfg0.N) (b : Fin 8) (n : Fin 128) (hn : 8 * t.val + b.val = n.val) (h : Fin 4) (r : Fin 128) (d : Fin 256) :
    (iblk m c 8 t (ix5 0 b h r d) : EReal) = m ((c : Thread nD τ).loc main_arg5) (ix5 0 n h r d) := by
  have hi := (idx t).2.2.2.2.2.1
  have he : ((cfg0.win 8).blk t).view.emb (ix5 0 b h r d) = ix5 0 n h r d := by
    funext a
    apply Fin.ext
    match a with
    | ⟨0, _⟩ => show win0_8.index t 0 * 1 + 1 * 0 = 0; rw [hi.1]
    | ⟨1, _⟩ => show win0_8.index t 1 * 8 + 1 * b.val = n.val; rw [hi.2.1]; omega
    | ⟨2, _⟩ => show win0_8.index t 2 * 4 + 1 * h.val = h.val; rw [hi.2.2.1]; omega
    | ⟨3, _⟩ => show win0_8.index t 3 * 128 + 1 * r.val = r.val; rw [hi.2.2.2.1]; omega
    | ⟨4, _⟩ => show win0_8.index t 4 * 256 + 1 * d.val = d.val; rw [hi.2.2.2.2]; omega
  show V m c main_arg5 (((cfg0.win 8).blk t).view.emb (ix5 0 b h r d)) = _
  rw [he, V_main_arg5]

/-- The product with the scattered weights is the product with the sixteen rows. -/
theorem sum_rows (f : Fin 256 → EReal) (w : Fin 16 → EReal) :
    ∑ x : Fin 256, f x * (if h : 128 ≤ x.val ∧ x.val < 144 then w ⟨x.val - 128, by omega⟩ else 0) = ∑ x : Fin 16, f ⟨128 + x.val, by omega⟩ * w x := by
  symm
  refine Fintype.sum_of_injective (fun x : Fin 16 => (⟨128 + x.val, by omega⟩ : Fin 256)) (fun a b h => Fin.ext (by have := congrArg Fin.val h; simp only at this; omega)) _ _ ?_ ?_
  · intro x hx
    rw [dif_neg, mul_zero]
    intro h
    exact hx ⟨⟨x.val - 128, by omega⟩, Fin.ext (by show 128 + (x.val - 128) = x.val; omega)⟩
  · intro x
    have h : 128 ≤ 128 + x.val ∧ 128 + x.val < 144 := by omega
    rw [dif_pos h]
    exact congrArg (fun i => f ⟨128 + x.val, by omega⟩ * w i) (Fin.ext (by show x.val = 128 + x.val - 128; omega))

set_option maxHeartbeats 2000000 in
/-- The state that window 10 leaves, at an index. -/
theorem result_apply (b : Fin 128) (h : Fin 4) (r : Fin 128) (d : Fin 256) : (dats m 0 c).arrAt 10 cfg0.N (ix4 b h r d)
    = next (m ((c : Thread nD τ).loc main_arg0)) (m ((c : Thread nD τ).loc main_arg1)) (m ((c : Thread nD τ).loc main_arg2))
        (m ((c : Thread nD τ).loc main_arg3)) (m ((c : Thread nD τ).loc main_arg5)) b h r d := by
  have hN : cfg0.N = 16 := by decide +kernel
  have hb' := b.isLt
  let t : Fin cfg0.N := ⟨b.val / 8, by rw [hN]; omega⟩
  let q : Fin 8 := ⟨b.val % 8, Nat.mod_lt _ (by decide)⟩
  have htv : 8 * t.val + q.val = b.val := Nat.div_add_mod b.val 8
  have hi := (idx t).2.2.2.2.2.2
  have hb := congrFun ((dats m 0 c).read_blk_arrAt_eq_flushed 10 Cert.GlaSampleIdeal.Value.disjoint10 cfg0.N t t.isLt (flush10 t)) (ix4 q h r d)
  rw [Cert.GlaSampleIdeal.Value.flushed10, View.read_apply] at hb
  have he : ((cfg0.win 10).blk t).view.emb (ix4 q h r d) = ix4 b h r d := by
    funext a
    apply Fin.ext
    match a with
    | ⟨0, _⟩ => show win0_10.index t 0 * 8 + 1 * q.val = b.val; rw [hi.1]; omega
    | ⟨1, _⟩ => show win0_10.index t 1 * 4 + 1 * h.val = h.val; rw [hi.2.1]; omega
    | ⟨2, _⟩ => show win0_10.index t 2 * 128 + 1 * r.val = r.val; rw [hi.2.2.1]; omega
    | ⟨3, _⟩ => show win0_10.index t 3 * 256 + 1 * d.val = d.val; rw [hi.2.2.2]; omega
  rw [he] at hb
  refine hb.trans ?_
  show out0_10 (iblk m c 0 t) (iblk m c 1 t) (iblk m c 2 t) (iblk m c 3 t) (iblk m c 4 t) (iblk m c 5 t) (iblk m c 6 t) (iblk m c 7 t) (iblk m c 8 t) (ix4 q h r d) = _
  rw [out_eq]
  rw [after_apply, decay_apply, block_key m c t q b htv, block_value m c t q b htv, block_state m c t q b htv, block_bias]
  simp only [block_small m c t q b htv, block_weight]
  unfold next
  rw [sum_rows (fun x => m ((c : Thread nD τ).loc main_arg1) (ix2 ⟨8192 + b.val, by omega⟩ x))
    (fun x => m ((c : Thread nD τ).loc main_arg2) (ix2 x ⟨128 * h.val + r.val, by omega⟩))]
end
end Cert.Gla1
end
-- ==== Proof.lean ====
module

public import proofs.«01_k».proof.Defs
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Pre_attn_finite
public import proofs.«01_k».proof.Proof.Gen.AttnIdeal.Value
public import proofs.«01_k».proof.Proof.Gen.AttnRefIdeal.Run
public import proofs.«01_k».proof.Proof.Gen.AttnRefIdeal.Read
public import proofs.«01_k».proof.Proof.AttnValue
public import proofs.«01_k».proof.Proof.RefValue
public import proofs.«01_k».proof.Proof.Finite
public import proofs.«01_k».proof.Proof.Gen.GateUp
public import proofs.«01_k».proof.Proof.Gen.GateUp.Skeleton
public import proofs.«01_k».proof.Proof.Gen.GateUp.Launch
public import proofs.«01_k».proof.Proof.Gen.GateUp.Points
public import proofs.«01_k».proof.Proof.Gen.GateUp.Frame
public import proofs.«01_k».proof.Proof.Gen.GateUpIdeal
public import proofs.«01_k».proof.Proof.Gen.GateUpIdeal.Skeleton
public import proofs.«01_k».proof.Proof.Gen.GateUpIdeal.Launch
public import proofs.«01_k».proof.Proof.Gen.GateUpIdeal.Points
public import proofs.«01_k».proof.Proof.Gen.GateUpIdeal.Frame
public import proofs.«01_k».proof.Proof.Gen.GateUpIdeal.Value
public import proofs.«01_k».proof.Proof.Gen.GateUpRefIdeal
public import proofs.«01_k».proof.Proof.Gen.GateUpRefIdeal.Run
public import proofs.«01_k».proof.Proof.Gen.GateUpRefIdeal.Read
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.GateUp
public import proofs.«01_k».proof.Proof.Down
public import proofs.«01_k».proof.Proof.InProj
public import proofs.«01_k».proof.Proof.OutProj
public import proofs.«01_k».proof.Proof.Gen.MixerA
public import proofs.«01_k».proof.Proof.Gen.MixerA.Skeleton
public import proofs.«01_k».proof.Proof.Gen.MixerA.Launch
public import proofs.«01_k».proof.Proof.Gen.MixerA.Points
public import proofs.«01_k».proof.Proof.Gen.MixerA.Frame
public import proofs.«01_k».proof.Proof.Gen.MixerAIdeal
public import proofs.«01_k».proof.Proof.Gen.MixerAIdeal.Skeleton
public import proofs.«01_k».proof.Proof.Gen.MixerAIdeal.Launch
public import proofs.«01_k».proof.Proof.Gen.MixerAIdeal.Points
public import proofs.«01_k».proof.Proof.Gen.MixerAIdeal.Frame
public import proofs.«01_k».proof.Proof.Gen.MixerAIdeal.Value
public import proofs.«01_k».proof.Proof.Gen.MixerARefIdeal
public import proofs.«01_k».proof.Proof.Gen.MixerARefIdeal.Run
public import proofs.«01_k».proof.Proof.Gen.MixerARefIdeal.Read
public import proofs.«01_k».proof.Proof.Gen.ConvSample
public import proofs.«01_k».proof.Proof.Gen.ConvSample.Skeleton
public import proofs.«01_k».proof.Proof.Gen.ConvSample.Launch
public import proofs.«01_k».proof.Proof.Gen.ConvSample.Points
public import proofs.«01_k».proof.Proof.Gen.ConvSample.Frame
public import proofs.«01_k».proof.Proof.Gen.ConvSampleIdeal
public import proofs.«01_k».proof.Proof.Gen.ConvSampleIdeal.Skeleton
public import proofs.«01_k».proof.Proof.Gen.ConvSampleIdeal.Launch
public import proofs.«01_k».proof.Proof.Gen.ConvSampleIdeal.Points
public import proofs.«01_k».proof.Proof.Gen.ConvSampleIdeal.Frame
public import proofs.«01_k».proof.Proof.Gen.ConvSampleRefIdeal
public import proofs.«01_k».proof.Proof.Gen.ConvSampleRefIdeal.Run
public import proofs.«01_k».proof.Proof.Gen.ConvSampleRefIdeal.Read
public import proofs.«01_k».proof.Proof.Gen.ConvPrompt
public import proofs.«01_k».proof.Proof.Gen.ConvPrompt.Skeleton
public import proofs.«01_k».proof.Proof.Gen.ConvPrompt.Launch
public import proofs.«01_k».proof.Proof.Gen.ConvPrompt.Points
public import proofs.«01_k».proof.Proof.Gen.ConvPrompt.Frame
public import proofs.«01_k».proof.Proof.Gen.ConvPromptIdeal
public import proofs.«01_k».proof.Proof.Gen.ConvPromptIdeal.Skeleton
public import proofs.«01_k».proof.Proof.Gen.ConvPromptIdeal.Launch
public import proofs.«01_k».proof.Proof.Gen.ConvPromptIdeal.Points
public import proofs.«01_k».proof.Proof.Gen.ConvPromptIdeal.Frame
public import proofs.«01_k».proof.Proof.Gen.ConvPromptIdeal.Value
public import proofs.«01_k».proof.Proof.Gen.ConvPromptRefIdeal
public import proofs.«01_k».proof.Proof.Gen.ConvPromptRefIdeal.Run
public import proofs.«01_k».proof.Proof.Gen.ConvPromptRefIdeal.Read
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvIdeal.Value
public import proofs.«01_k».proof.Proof.Gen.QkvRefIdeal
public import proofs.«01_k».proof.Proof.Gen.QkvRefIdeal.Run
public import proofs.«01_k».proof.Proof.Gen.QkvRefIdeal.Read
public import proofs.«01_k».proof.Proof.Gate
public import proofs.«01_k».proof.Proof.Tap
public import proofs.«01_k».proof.Proof.Tail
public import proofs.«01_k».proof.Proof.Halves
public import proofs.«01_k».proof.Proof.RopeValue
public import proofs.«01_k».proof.Proof.GlaValue
public import proofs.«01_k».proof.Proof.Gen.GlaSample
public import proofs.«01_k».proof.Proof.Gen.GlaSample.Skeleton
public import proofs.«01_k».proof.Proof.Gen.GlaSample.Launch
public import proofs.«01_k».proof.Proof.Gen.GlaSample.Points
public import proofs.«01_k».proof.Proof.Gen.GlaSample.Frame
public import proofs.«01_k».proof.Proof.Gen.GlaSampleIdeal
public import proofs.«01_k».proof.Proof.Gen.GlaSampleIdeal.Skeleton
public import proofs.«01_k».proof.Proof.Gen.GlaSampleIdeal.Launch
public import proofs.«01_k».proof.Proof.Gen.GlaSampleIdeal.Points
public import proofs.«01_k».proof.Proof.Gen.GlaSampleIdeal.Frame
public import proofs.«01_k».proof.Proof.Gen.GlaSampleIdeal.Value
public import proofs.«01_k».proof.Proof.Gen.GlaSampleRefIdeal
public import proofs.«01_k».proof.Proof.Gen.GlaSampleRefIdeal.Run
public import proofs.«01_k».proof.Proof.Gen.GlaSampleRefIdeal.Read
public import Idealize.ShloMosaic.Lib.Claim
public import Idealize.ShloMosaic.Adequacy
public import Idealize.ShloMosaic.Init

@[expose] public section

noncomputable section

namespace Cert.Proof

open Idealize.ShloMosaic Idealize.SL.Sem Cert.Attn

/-- The reference of the attention has no semaphore, and its run leaves its arguments. -/
theorem frame_attn_ref (m : (ℓ : Loc Cert.AttnRefIdeal.nD Cert.AttnRefIdeal.τ Cert.AttnRefIdeal.sig) → Buf (Elt Ideal) ℓ)
    (g : Dev Cert.AttnRefIdeal.nD → PrngReg) :
    θ_run (Cert.AttnRefIdeal.defs (F := Ideal)) (onTc (τ := Cert.AttnRefIdeal.τ) (Cert.AttnRefIdeal.main (F := Ideal))) ⟨m, fun _ => 0, g⟩ fun r =>
      (∀ c : Dev Cert.AttnRefIdeal.nD,
        r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
        ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
        ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
        ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0 :=
  (θ_run Cert.AttnRefIdeal.defs _ _).mono (fun r h => ⟨fun c => (h c).2, sem_eq_zero_of_no_sems (by decide) r.2⟩)
    (Cert.AttnRefIdeal.Value.run (F := Ideal) m g)

/-- The prompt attention ends at its reference's result. -/
theorem algebraic_attn : Cert.algebraic_AttnIdeal_AttnRefIdeal_pre_attn_finite (hAttnIdeal := Cert.AttnIdeal.Gen.facts)
    (hAttnRefIdeal := Cert.AttnRefIdeal.Gen.facts) (hPre_attn_finite := Cert.Pre_attn_finite.Gen.facts) := by
  intro m g m' g' hpre hagree
  refine ⟨fun c => (Cert.AttnIdeal.Gen.dats m 0 c).arrAt 4 Cert.AttnIdeal.cfg0.N, Cert.AttnIdeal.Value.run_blocks m g, ?_⟩
  refine (θ_run Cert.AttnRefIdeal.defs _ _).mono (fun r h c => ⟨(h c).1.trans ?_, (h c).2⟩) (Cert.AttnRefIdeal.Value.run (F := Ideal) m' g')
  obtain ⟨e0, e1, e2, e3⟩ := hagree c
  obtain ⟨h0, h1, h2, h3⟩ := Cert.Attn1.finite _ _ _ _ (hpre c)
  rw [Cert.AttnRefIdeal.Read.val_main_v43_eq, e0, e1, e2, e3]
  funext i
  obtain ⟨h, n, d, rfl⟩ : ∃ h n d, i = ix3 h n d := ⟨i 0, i 1, i 2, eq_ix3 i⟩
  exact (Cert.Attn1.ref_apply _ _ _ _ h0 h1 h2 h3 h n d).trans (Cert.Attn1.result_apply m c h0 h1 h2 h3 h n d).symm

/-- The reference of the gated up-projection has no semaphore, and its run leaves its arguments. -/
theorem frame_gate_up_ref (m : (ℓ : Loc Cert.GateUpRefIdeal.nD Cert.GateUpRefIdeal.τ Cert.GateUpRefIdeal.sig) → Buf (Elt Ideal) ℓ) (g : Dev Cert.GateUpRefIdeal.nD → PrngReg) :
    θ_run (Cert.GateUpRefIdeal.defs (F := Ideal)) (onTc (τ := Cert.GateUpRefIdeal.τ) (Cert.GateUpRefIdeal.main (F := Ideal))) ⟨m, fun _ => 0, g⟩ fun r =>
      (∀ c : Dev Cert.GateUpRefIdeal.nD,
        r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
        ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1))
      ∧ r.2.sem = fun _ => 0 :=
  (θ_run Cert.GateUpRefIdeal.defs _ _).mono (fun r h => ⟨fun c => (h c).2, sem_eq_zero_of_no_sems (by decide) r.2⟩)
    (Cert.GateUpRefIdeal.Value.run (F := Ideal) m g)

/-- The gated up-projection ends at its reference's result. -/
theorem algebraic_gate_up : Cert.algebraic_GateUpIdeal_GateUpRefIdeal (hGateUpIdeal := Cert.GateUpIdeal.Gen.facts)
    (hGateUpRefIdeal := Cert.GateUpRefIdeal.Gen.facts) := by
  intro m g m' g' hpre hagree
  refine ⟨fun c => (Cert.GateUpIdeal.Gen.dats m 0 c).arrAt 3 Cert.GateUpIdeal.cfg0.N, Cert.GateUpIdeal.Value.run_blocks m g, ?_⟩
  refine (θ_run Cert.GateUpRefIdeal.defs _ _).mono (fun r h c => ⟨(h c).1.trans ?_, (h c).2⟩) (Cert.GateUpRefIdeal.Value.run (F := Ideal) m' g')
  obtain ⟨e0, e1⟩ := hagree c
  rw [Cert.GateUpRefIdeal.Read.val_main_v8_eq, e0, e1]
  funext i
  obtain ⟨n, d, rfl⟩ : ∃ n d, i = ix2 n d := ⟨i 0, i 1, eq_ix2 i⟩
  exact (Cert.GateUp1.ref_apply _ _ n d).trans (Cert.GateUp1.result_apply m c n d).symm

/-- The reference of the down-projection has no semaphore, and its run leaves its arguments. -/
theorem frame_down_ref (m : (ℓ : Loc Cert.DownRefIdeal.nD Cert.DownRefIdeal.τ Cert.DownRefIdeal.sig) → Buf (Elt Ideal) ℓ) (g : Dev Cert.DownRefIdeal.nD → PrngReg) :
    θ_run (Cert.DownRefIdeal.defs (F := Ideal)) (onTc (τ := Cert.DownRefIdeal.τ) (Cert.DownRefIdeal.main (F := Ideal))) ⟨m, fun _ => 0, g⟩ fun r =>
      (∀ c : Dev Cert.DownRefIdeal.nD,
        r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
        ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0 :=
  (θ_run Cert.DownRefIdeal.defs _ _).mono (fun r h => ⟨fun c => (h c).2, sem_eq_zero_of_no_sems (by decide) r.2⟩)
    (Cert.DownRefIdeal.Value.run (F := Ideal) m g)

/-- The down-projection ends at its reference's result. -/
theorem algebraic_down : Cert.algebraic_DownIdeal_DownRefIdeal (hDownIdeal := Cert.DownIdeal.Gen.facts)
    (hDownRefIdeal := Cert.DownRefIdeal.Gen.facts) := by
  intro m g m' g' hpre hagree
  refine ⟨fun c => (Cert.DownIdeal.Gen.dats m 0 c).arrAt 2 Cert.DownIdeal.cfg0.N, Cert.DownIdeal.Value.run_blocks m g, ?_⟩
  refine (θ_run Cert.DownRefIdeal.defs _ _).mono (fun r h c => ⟨(h c).1.trans ?_, (h c).2⟩) (Cert.DownRefIdeal.Value.run (F := Ideal) m' g')
  obtain ⟨e0, e1⟩ := hagree c
  rw [Cert.DownRefIdeal.Read.val_main_v4_eq, e0, e1]
  funext i
  obtain ⟨n, d, rfl⟩ : ∃ n d, i = ix2 n d := ⟨i 0, i 1, eq_ix2 i⟩
  exact (Cert.Down1.ref_apply _ _ n d).trans (Cert.Down1.result_apply m c n d).symm

/-- The reference of the input projection has no semaphore, and its run leaves its arguments. -/
theorem frame_in_proj_ref (m : (ℓ : Loc Cert.InProjRefIdeal.nD Cert.InProjRefIdeal.τ Cert.InProjRefIdeal.sig) → Buf (Elt Ideal) ℓ) (g : Dev Cert.InProjRefIdeal.nD → PrngReg) :
    θ_run (Cert.InProjRefIdeal.defs (F := Ideal)) (onTc (τ := Cert.InProjRefIdeal.τ) (Cert.InProjRefIdeal.main (F := Ideal))) ⟨m, fun _ => 0, g⟩ fun r =>
      (∀ c : Dev Cert.InProjRefIdeal.nD,
        r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
        ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0 :=
  (θ_run Cert.InProjRefIdeal.defs _ _).mono (fun r h => ⟨fun c => (h c).2, sem_eq_zero_of_no_sems (by decide) r.2⟩)
    (Cert.InProjRefIdeal.Value.run (F := Ideal) m g)

/-- The input projection ends at its reference's result. -/
theorem algebraic_in_proj : Cert.algebraic_InProjIdeal_InProjRefIdeal (hInProjIdeal := Cert.InProjIdeal.Gen.facts)
    (hInProjRefIdeal := Cert.InProjRefIdeal.Gen.facts) := by
  intro m g m' g' hpre hagree
  refine ⟨fun c => (Cert.InProjIdeal.Gen.dats m 0 c).arrAt 2 Cert.InProjIdeal.cfg0.N, Cert.InProjIdeal.Value.run_blocks m g, ?_⟩
  refine (θ_run Cert.InProjRefIdeal.defs _ _).mono (fun r h c => ⟨(h c).1.trans ?_, (h c).2⟩) (Cert.InProjRefIdeal.Value.run (F := Ideal) m' g')
  obtain ⟨e0, e1⟩ := hagree c
  rw [Cert.InProjRefIdeal.Read.val_main_v17_eq, e0, e1]
  funext i
  obtain ⟨n, d, rfl⟩ : ∃ n d, i = ix2 n d := ⟨i 0, i 1, eq_ix2 i⟩
  exact (Cert.InProj1.ref_apply _ _ n d).trans (Cert.InProj1.result_apply m c n d).symm

/-- The reference of the output projection has no semaphore, and its run leaves its arguments. -/
theorem frame_out_proj_ref (m : (ℓ : Loc Cert.OutProjRefIdeal.nD Cert.OutProjRefIdeal.τ Cert.OutProjRefIdeal.sig) → Buf (Elt Ideal) ℓ) (g : Dev Cert.OutProjRefIdeal.nD → PrngReg) :
    θ_run (Cert.OutProjRefIdeal.defs (F := Ideal)) (onTc (τ := Cert.OutProjRefIdeal.τ) (Cert.OutProjRefIdeal.main (F := Ideal))) ⟨m, fun _ => 0, g⟩ fun r =>
      (∀ c : Dev Cert.OutProjRefIdeal.nD,
        r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
        ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0 :=
  (θ_run Cert.OutProjRefIdeal.defs _ _).mono (fun r h => ⟨fun c => (h c).2, sem_eq_zero_of_no_sems (by decide) r.2⟩)
    (Cert.OutProjRefIdeal.Value.run (F := Ideal) m g)

/-- The output projection ends at its reference's result. -/
theorem algebraic_out_proj : Cert.algebraic_OutProjIdeal_OutProjRefIdeal (hOutProjIdeal := Cert.OutProjIdeal.Gen.facts)
    (hOutProjRefIdeal := Cert.OutProjRefIdeal.Gen.facts) := by
  intro m g m' g' hpre hagree
  refine ⟨fun c => (Cert.OutProjIdeal.Gen.dats m 0 c).arrAt 2 Cert.OutProjIdeal.cfg0.N, Cert.OutProjIdeal.Value.run_blocks m g, ?_⟩
  refine (θ_run Cert.OutProjRefIdeal.defs _ _).mono (fun r h c => ⟨(h c).1.trans ?_, (h c).2⟩) (Cert.OutProjRefIdeal.Value.run (F := Ideal) m' g')
  obtain ⟨e0, e1⟩ := hagree c
  rw [Cert.OutProjRefIdeal.Read.val_main_v4_eq, e0, e1]
  funext i
  obtain ⟨n, d, rfl⟩ : ∃ n d, i = ix2 n d := ⟨i 0, i 1, eq_ix2 i⟩
  exact (Cert.OutProj1.ref_apply _ _ n d).trans (Cert.OutProj1.result_apply m c n d).symm

/-- The reference of the mixer's value half has no semaphore, and its run leaves its arguments. -/
theorem frame_mixer_a_ref (m : (ℓ : Loc Cert.MixerARefIdeal.nD Cert.MixerARefIdeal.τ Cert.MixerARefIdeal.sig) → Buf (Elt Ideal) ℓ) (g : Dev Cert.MixerARefIdeal.nD → PrngReg) :
    θ_run (Cert.MixerARefIdeal.defs (F := Ideal)) (onTc (τ := Cert.MixerARefIdeal.τ) (Cert.MixerARefIdeal.main (F := Ideal))) ⟨m, fun _ => 0, g⟩ fun r =>
      (∀ c : Dev Cert.MixerARefIdeal.nD,
        r.2.mem ((c.tc : Thread Cert.MixerARefIdeal.nD Cert.MixerARefIdeal.τ).loc Cert.MixerARefIdeal.main_arg0) = m ((c.tc : Thread Cert.MixerARefIdeal.nD Cert.MixerARefIdeal.τ).loc Cert.MixerARefIdeal.main_arg0)
        ∧ r.2.mem ((c.tc : Thread Cert.MixerARefIdeal.nD Cert.MixerARefIdeal.τ).loc Cert.MixerARefIdeal.main_arg1) = m ((c.tc : Thread Cert.MixerARefIdeal.nD Cert.MixerARefIdeal.τ).loc Cert.MixerARefIdeal.main_arg1)
        ∧ r.2.mem ((c.tc : Thread Cert.MixerARefIdeal.nD Cert.MixerARefIdeal.τ).loc Cert.MixerARefIdeal.main_arg2) = m ((c.tc : Thread Cert.MixerARefIdeal.nD Cert.MixerARefIdeal.τ).loc Cert.MixerARefIdeal.main_arg2)
        ∧ r.2.mem ((c.tc : Thread Cert.MixerARefIdeal.nD Cert.MixerARefIdeal.τ).loc Cert.MixerARefIdeal.main_arg3) = m ((c.tc : Thread Cert.MixerARefIdeal.nD Cert.MixerARefIdeal.τ).loc Cert.MixerARefIdeal.main_arg3)
        ∧ r.2.mem ((c.tc : Thread Cert.MixerARefIdeal.nD Cert.MixerARefIdeal.τ).loc Cert.MixerARefIdeal.main_arg4) = m ((c.tc : Thread Cert.MixerARefIdeal.nD Cert.MixerARefIdeal.τ).loc Cert.MixerARefIdeal.main_arg4))
      ∧ r.2.sem = fun _ => 0 :=
  (θ_run Cert.MixerARefIdeal.defs _ _).mono (fun r h => ⟨fun c => (h c).2, sem_eq_zero_of_no_sems (by decide) r.2⟩)
    (Cert.MixerARefIdeal.Value.run (F := Ideal) m g)

/-- The mixer's value half ends at its reference's result. -/
theorem algebraic_mixer_a : Cert.algebraic_MixerAIdeal_MixerARefIdeal (hMixerAIdeal := Cert.MixerAIdeal.Gen.facts)
    (hMixerARefIdeal := Cert.MixerARefIdeal.Gen.facts) := by
  intro m g m' g' hpre hagree
  refine ⟨fun c => (Cert.MixerAIdeal.Gen.dats m 0 c).arrAt 6 Cert.MixerAIdeal.cfg0.N, (θ_run Cert.MixerAIdeal.defs _ _).mono (fun r h c => (h c).2) (Cert.MixerAIdeal.Value.run_blocks m g), ?_⟩
  refine (θ_run Cert.MixerARefIdeal.defs _ _).mono (fun r h c => ⟨(h c).1.trans ?_, (h c).2⟩) (Cert.MixerARefIdeal.Value.run (F := Ideal) m' g')
  obtain ⟨e0, e1, e2, e3, e4⟩ := hagree c
  rw [Cert.MixerARefIdeal.Read.val_main_v35_eq, e0, e1, e2]
  funext i
  obtain ⟨n, d, rfl⟩ : ∃ n d, i = ix2 n d := ⟨i 0, i 1, eq_ix2 i⟩
  exact (Cert.Gate1.ref_apply _ _ _ n d).trans (Cert.Gate1.result_apply m c n d).symm

/-- The reference of the continuation tap state has no semaphore, and its run leaves its arguments. -/
theorem frame_conv_sample_ref (m : (ℓ : Loc Cert.ConvSampleRefIdeal.nD Cert.ConvSampleRefIdeal.τ Cert.ConvSampleRefIdeal.sig) → Buf (Elt Ideal) ℓ) (g : Dev Cert.ConvSampleRefIdeal.nD → PrngReg) :
    θ_run (Cert.ConvSampleRefIdeal.defs (F := Ideal)) (onTc (τ := Cert.ConvSampleRefIdeal.τ) (Cert.ConvSampleRefIdeal.main (F := Ideal))) ⟨m, fun _ => 0, g⟩ fun r =>
      (∀ c : Dev Cert.ConvSampleRefIdeal.nD,
        r.2.mem ((c.tc : Thread Cert.ConvSampleRefIdeal.nD Cert.ConvSampleRefIdeal.τ).loc Cert.ConvSampleRefIdeal.main_arg0) = m ((c.tc : Thread Cert.ConvSampleRefIdeal.nD Cert.ConvSampleRefIdeal.τ).loc Cert.ConvSampleRefIdeal.main_arg0)
        ∧ r.2.mem ((c.tc : Thread Cert.ConvSampleRefIdeal.nD Cert.ConvSampleRefIdeal.τ).loc Cert.ConvSampleRefIdeal.main_arg1) = m ((c.tc : Thread Cert.ConvSampleRefIdeal.nD Cert.ConvSampleRefIdeal.τ).loc Cert.ConvSampleRefIdeal.main_arg1)
        ∧ r.2.mem ((c.tc : Thread Cert.ConvSampleRefIdeal.nD Cert.ConvSampleRefIdeal.τ).loc Cert.ConvSampleRefIdeal.main_arg2) = m ((c.tc : Thread Cert.ConvSampleRefIdeal.nD Cert.ConvSampleRefIdeal.τ).loc Cert.ConvSampleRefIdeal.main_arg2)
        ∧ r.2.mem ((c.tc : Thread Cert.ConvSampleRefIdeal.nD Cert.ConvSampleRefIdeal.τ).loc Cert.ConvSampleRefIdeal.main_arg3) = m ((c.tc : Thread Cert.ConvSampleRefIdeal.nD Cert.ConvSampleRefIdeal.τ).loc Cert.ConvSampleRefIdeal.main_arg3)
        ∧ r.2.mem ((c.tc : Thread Cert.ConvSampleRefIdeal.nD Cert.ConvSampleRefIdeal.τ).loc Cert.ConvSampleRefIdeal.main_arg4) = m ((c.tc : Thread Cert.ConvSampleRefIdeal.nD Cert.ConvSampleRefIdeal.τ).loc Cert.ConvSampleRefIdeal.main_arg4)
        ∧ r.2.mem ((c.tc : Thread Cert.ConvSampleRefIdeal.nD Cert.ConvSampleRefIdeal.τ).loc Cert.ConvSampleRefIdeal.main_arg5) = m ((c.tc : Thread Cert.ConvSampleRefIdeal.nD Cert.ConvSampleRefIdeal.τ).loc Cert.ConvSampleRefIdeal.main_arg5))
      ∧ r.2.sem = fun _ => 0 :=
  (θ_run Cert.ConvSampleRefIdeal.defs _ _).mono (fun r h => ⟨fun c => (h c).2, sem_eq_zero_of_no_sems (by decide) r.2⟩)
    (Cert.ConvSampleRefIdeal.Value.run (F := Ideal) m g)

/-- The continuation's tap state ends at its reference's result. -/
theorem algebraic_conv_sample : Cert.algebraic_ConvSampleIdeal_ConvSampleRefIdeal (hConvSampleIdeal := Cert.ConvSampleIdeal.Gen.facts)
    (hConvSampleRefIdeal := Cert.ConvSampleRefIdeal.Gen.facts) := by
  intro m g m' g' hpre hagree
  refine ⟨fun c => (Cert.ConvSampleIdeal.Gen.dats m 0 c).arrAt 8 Cert.ConvSampleIdeal.cfg0.N, Cert.Tap1.run m g, ?_⟩
  refine (θ_run Cert.ConvSampleRefIdeal.defs _ _).mono (fun r h c => ⟨(h c).1.trans ?_, (h c).2⟩) (Cert.ConvSampleRefIdeal.Value.run (F := Ideal) m' g')
  obtain ⟨e0, e1, e2, e3, e4, e5⟩ := hagree c
  rw [Cert.ConvSampleRefIdeal.Read.val_main_v14_eq, e0, e1]
  funext i
  obtain ⟨b, n, d, rfl⟩ : ∃ b n d, i = ix3 b n d := ⟨i 0, i 1, i 2, eq_ix3 i⟩
  exact (Cert.Tap1.ref_apply _ _ b n d).trans (Cert.Tap1.result_apply m c b n d).symm

/-- The reference of the prompt's tap state has no semaphore, and its run leaves its arguments. -/
theorem frame_conv_prompt_ref (m : (ℓ : Loc Cert.ConvPromptRefIdeal.nD Cert.ConvPromptRefIdeal.τ Cert.ConvPromptRefIdeal.sig) → Buf (Elt Ideal) ℓ) (g : Dev Cert.ConvPromptRefIdeal.nD → PrngReg) :
    θ_run (Cert.ConvPromptRefIdeal.defs (F := Ideal)) (onTc (τ := Cert.ConvPromptRefIdeal.τ) (Cert.ConvPromptRefIdeal.main (F := Ideal))) ⟨m, fun _ => 0, g⟩ fun r =>
      (∀ c : Dev Cert.ConvPromptRefIdeal.nD,
        r.2.mem ((c.tc : Thread Cert.ConvPromptRefIdeal.nD Cert.ConvPromptRefIdeal.τ).loc Cert.ConvPromptRefIdeal.main_arg0) = m ((c.tc : Thread Cert.ConvPromptRefIdeal.nD Cert.ConvPromptRefIdeal.τ).loc Cert.ConvPromptRefIdeal.main_arg0)
        ∧ r.2.mem ((c.tc : Thread Cert.ConvPromptRefIdeal.nD Cert.ConvPromptRefIdeal.τ).loc Cert.ConvPromptRefIdeal.main_arg1) = m ((c.tc : Thread Cert.ConvPromptRefIdeal.nD Cert.ConvPromptRefIdeal.τ).loc Cert.ConvPromptRefIdeal.main_arg1)
        ∧ r.2.mem ((c.tc : Thread Cert.ConvPromptRefIdeal.nD Cert.ConvPromptRefIdeal.τ).loc Cert.ConvPromptRefIdeal.main_arg2) = m ((c.tc : Thread Cert.ConvPromptRefIdeal.nD Cert.ConvPromptRefIdeal.τ).loc Cert.ConvPromptRefIdeal.main_arg2)
        ∧ r.2.mem ((c.tc : Thread Cert.ConvPromptRefIdeal.nD Cert.ConvPromptRefIdeal.τ).loc Cert.ConvPromptRefIdeal.main_arg3) = m ((c.tc : Thread Cert.ConvPromptRefIdeal.nD Cert.ConvPromptRefIdeal.τ).loc Cert.ConvPromptRefIdeal.main_arg3)
        ∧ r.2.mem ((c.tc : Thread Cert.ConvPromptRefIdeal.nD Cert.ConvPromptRefIdeal.τ).loc Cert.ConvPromptRefIdeal.main_arg4) = m ((c.tc : Thread Cert.ConvPromptRefIdeal.nD Cert.ConvPromptRefIdeal.τ).loc Cert.ConvPromptRefIdeal.main_arg4))
      ∧ r.2.sem = fun _ => 0 :=
  (θ_run Cert.ConvPromptRefIdeal.defs _ _).mono (fun r h => ⟨fun c => (h c).2, sem_eq_zero_of_no_sems (by decide) r.2⟩)
    (Cert.ConvPromptRefIdeal.Value.run (F := Ideal) m g)

/-- The prompt's tap state ends at its reference's result. -/
theorem algebraic_conv_prompt : Cert.algebraic_ConvPromptIdeal_ConvPromptRefIdeal (hConvPromptIdeal := Cert.ConvPromptIdeal.Gen.facts)
    (hConvPromptRefIdeal := Cert.ConvPromptRefIdeal.Gen.facts) := by
  intro m g m' g' hpre hagree
  refine ⟨fun c => (Cert.ConvPromptIdeal.Gen.dats m 0 c).arrAt 9 Cert.ConvPromptIdeal.cfg0.N, (θ_run Cert.ConvPromptIdeal.defs _ _).mono (fun r h c => (h c).2) (Cert.ConvPromptIdeal.Value.run_blocks m g), ?_⟩
  refine (θ_run Cert.ConvPromptRefIdeal.defs _ _).mono (fun r h c => ⟨(h c).1.trans ?_, (h c).2⟩) (Cert.ConvPromptRefIdeal.Value.run (F := Ideal) m' g')
  obtain ⟨e0, e1, e2, e3, e4⟩ := hagree c
  rw [Cert.ConvPromptRefIdeal.Read.val_main_v12_eq, e0]
  funext i
  obtain ⟨b, n, d, rfl⟩ : ∃ b n d, i = ix3 b n d := ⟨i 0, i 1, i 2, eq_ix3 i⟩
  exact (Cert.Tail1.ref_apply _ b n d).trans (Cert.Tail1.result_apply m c b n d).symm

/-- The reference of the cache's new rows has no semaphore, and its run leaves its arguments. -/
theorem frame_qkv_ref (m : (ℓ : Loc Cert.QkvRefIdeal.nD Cert.QkvRefIdeal.τ Cert.QkvRefIdeal.sig) → Buf (Elt Ideal) ℓ) (g : Dev Cert.QkvRefIdeal.nD → PrngReg) :
    θ_run (Cert.QkvRefIdeal.defs (F := Ideal)) (onTc (τ := Cert.QkvRefIdeal.τ) (Cert.QkvRefIdeal.main (F := Ideal))) ⟨m, fun _ => 0, g⟩ fun r =>
      (∀ c : Dev Cert.QkvRefIdeal.nD,
        r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
        ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
        ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
        ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
        ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
        ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
        ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6))
      ∧ r.2.sem = fun _ => 0 :=
  (θ_run Cert.QkvRefIdeal.defs _ _).mono (fun r h => ⟨fun c => (h c).2.2.2.2, sem_eq_zero_of_no_sems (by decide) r.2⟩)
    (Cert.QkvRefIdeal.Value.run (F := Ideal) m g)

/-- The cache's new rows end at their reference's. -/
theorem algebraic_qkv : Cert.algebraic_QkvIdeal_QkvRefIdeal_pre_rope_halves (hQkvIdeal := Cert.QkvIdeal.Gen.facts)
    (hQkvRefIdeal := Cert.QkvRefIdeal.Gen.facts) (hPre_rope_halves := Cert.Pre_rope_halves.Gen.facts) := by
  intro m g m' g' hpre hagree
  refine ⟨fun c => (Cert.QkvIdeal.Gen.dats m 0 c).arrAt 10 Cert.QkvIdeal.cfg0.N, fun c => (Cert.QkvIdeal.Gen.dats m 0 c).arrAt 11 Cert.QkvIdeal.cfg0.N,
    fun c => (Cert.QkvIdeal.Gen.dats m 0 c).arrAt 12 Cert.QkvIdeal.cfg0.N, fun c => (Cert.QkvIdeal.Gen.dats m 0 c).arrAt 13 Cert.QkvIdeal.cfg0.N,
    (θ_run Cert.QkvIdeal.defs _ _).mono (fun r h c => ⟨(h c).1, (h c).2.1, (h c).2.2.1, (h c).2.2.2.1, (h c).2.2.2.2.2.2⟩) (Cert.QkvIdeal.Value.run_blocks m g), ?_⟩
  refine (θ_run Cert.QkvRefIdeal.defs _ _).mono (fun r h c => ⟨(h c).1.trans ?_, (h c).2.1.trans ?_, (h c).2.2.1.trans ?_, (h c).2.2.2.1.trans ?_, (h c).2.2.2.2⟩) (Cert.QkvRefIdeal.Value.run (F := Ideal) m' g')
  all_goals obtain ⟨e0, e1, e2, e3, e4, e5, e6⟩ := hagree c
  all_goals obtain ⟨h64, h96⟩ := Cert.Rope1.halves _ _ _ _ _ _ _ (hpre c)
  · rw [Cert.QkvRefIdeal.Read.val_main_v13_eq, e0, e4]
    funext i
    obtain ⟨n, d, rfl⟩ : ∃ n d, i = ix2 n d := ⟨i 0, i 1, eq_ix2 i⟩
    exact (Cert.Rope1.ref_latent _ _ n d).trans (Cert.Rope1.result10 m c n d).symm
  · rw [Cert.QkvRefIdeal.Read.val_main_v39_eq, e1, e2]
    funext i
    obtain ⟨n, d, rfl⟩ : ∃ n d, i = ix2 n d := ⟨i 0, i 1, eq_ix2 i⟩
    exact (Cert.Rope1.ref_rope _ _ n d).trans (Cert.Rope1.result11 m c h64 h96 n d).symm
  · rw [Cert.QkvRefIdeal.Read.val_main_v40_eq, e0, e4]
    funext i
    obtain ⟨n, d, rfl⟩ : ∃ n d, i = ix2 n d := ⟨i 0, i 1, eq_ix2 i⟩
    exact (Cert.Rope1.ref_latent _ _ n d).trans (Cert.Rope1.result12 m c n d).symm
  · rw [Cert.QkvRefIdeal.Read.val_main_v41_eq, e1, e2]
    funext i
    obtain ⟨n, d, rfl⟩ : ∃ n d, i = ix2 n d := ⟨i 0, i 1, eq_ix2 i⟩
    exact (Cert.Rope1.ref_rope _ _ n d).trans (Cert.Rope1.result13 m c h64 h96 n d).symm

/-- The reference of the samples' recurrence has no semaphore, and its run leaves its arguments. -/
theorem frame_gla_sample_ref (m : (ℓ : Loc Cert.GlaSampleRefIdeal.nD Cert.GlaSampleRefIdeal.τ Cert.GlaSampleRefIdeal.sig) → Buf (Elt Ideal) ℓ) (g : Dev Cert.GlaSampleRefIdeal.nD → PrngReg) :
    θ_run (Cert.GlaSampleRefIdeal.defs (F := Ideal)) (onTc (τ := Cert.GlaSampleRefIdeal.τ) (Cert.GlaSampleRefIdeal.main (F := Ideal))) ⟨m, fun _ => 0, g⟩ fun r =>
      (∀ c : Dev Cert.GlaSampleRefIdeal.nD,
        r.2.mem ((c.tc : Thread Cert.GlaSampleRefIdeal.nD Cert.GlaSampleRefIdeal.τ).loc Cert.GlaSampleRefIdeal.main_arg0) = m ((c.tc : Thread Cert.GlaSampleRefIdeal.nD Cert.GlaSampleRefIdeal.τ).loc Cert.GlaSampleRefIdeal.main_arg0)
        ∧ r.2.mem ((c.tc : Thread Cert.GlaSampleRefIdeal.nD Cert.GlaSampleRefIdeal.τ).loc Cert.GlaSampleRefIdeal.main_arg1) = m ((c.tc : Thread Cert.GlaSampleRefIdeal.nD Cert.GlaSampleRefIdeal.τ).loc Cert.GlaSampleRefIdeal.main_arg1)
        ∧ r.2.mem ((c.tc : Thread Cert.GlaSampleRefIdeal.nD Cert.GlaSampleRefIdeal.τ).loc Cert.GlaSampleRefIdeal.main_arg2) = m ((c.tc : Thread Cert.GlaSampleRefIdeal.nD Cert.GlaSampleRefIdeal.τ).loc Cert.GlaSampleRefIdeal.main_arg2)
        ∧ r.2.mem ((c.tc : Thread Cert.GlaSampleRefIdeal.nD Cert.GlaSampleRefIdeal.τ).loc Cert.GlaSampleRefIdeal.main_arg3) = m ((c.tc : Thread Cert.GlaSampleRefIdeal.nD Cert.GlaSampleRefIdeal.τ).loc Cert.GlaSampleRefIdeal.main_arg3)
        ∧ r.2.mem ((c.tc : Thread Cert.GlaSampleRefIdeal.nD Cert.GlaSampleRefIdeal.τ).loc Cert.GlaSampleRefIdeal.main_arg4) = m ((c.tc : Thread Cert.GlaSampleRefIdeal.nD Cert.GlaSampleRefIdeal.τ).loc Cert.GlaSampleRefIdeal.main_arg4)
        ∧ r.2.mem ((c.tc : Thread Cert.GlaSampleRefIdeal.nD Cert.GlaSampleRefIdeal.τ).loc Cert.GlaSampleRefIdeal.main_arg5) = m ((c.tc : Thread Cert.GlaSampleRefIdeal.nD Cert.GlaSampleRefIdeal.τ).loc Cert.GlaSampleRefIdeal.main_arg5))
      ∧ r.2.sem = fun _ => 0 :=
  (θ_run Cert.GlaSampleRefIdeal.defs _ _).mono (fun r h => ⟨fun c => (h c).2, sem_eq_zero_of_no_sems (by decide) r.2⟩)
    (Cert.GlaSampleRefIdeal.Value.run (F := Ideal) m g)

/-- The samples' recurrence ends at its reference's result. -/
theorem algebraic_gla_sample : Cert.algebraic_GlaSampleIdeal_GlaSampleRefIdeal (hGlaSampleIdeal := Cert.GlaSampleIdeal.Gen.facts)
    (hGlaSampleRefIdeal := Cert.GlaSampleRefIdeal.Gen.facts) := by
  intro m g m' g' hpre hagree
  refine ⟨fun c => (Cert.GlaSampleIdeal.Gen.dats m 0 c).arrAt 10 Cert.GlaSampleIdeal.cfg0.N, (θ_run Cert.GlaSampleIdeal.defs _ _).mono (fun r h c => (h c).2) (Cert.GlaSampleIdeal.Value.run_blocks m g), ?_⟩
  refine (θ_run Cert.GlaSampleRefIdeal.defs _ _).mono (fun r h c => ⟨(h c).1.trans ?_, (h c).2⟩) (Cert.GlaSampleRefIdeal.Value.run (F := Ideal) m' g')
  obtain ⟨e0, e1, e2, e3, e4, e5⟩ := hagree c
  rw [Cert.GlaSampleRefIdeal.Read.val_main_v24_eq, e0, e1, e2, e3, e5]
  funext i
  obtain ⟨b, h, n, d, rfl⟩ : ∃ b h n d, i = ix4 b h n d := ⟨i 0, i 1, i 2, i 3, eq_ix4 i⟩
  exact (Cert.Gla1.ref_apply _ _ _ _ _ b h n d).trans (Cert.Gla1.result_apply m c b h n d).symm

theorem claim : Cert.Claim := ⟨Cert.Attn.Gen.facts, Cert.AttnIdeal.Gen.facts, Cert.AttnRefIdeal.Gen.facts, Cert.GateUp.Gen.facts, Cert.GateUpIdeal.Gen.facts, Cert.GateUpRefIdeal.Gen.facts, Cert.Down.Gen.facts, Cert.DownIdeal.Gen.facts, Cert.DownRefIdeal.Gen.facts, Cert.InProj.Gen.facts, Cert.InProjIdeal.Gen.facts, Cert.InProjRefIdeal.Gen.facts, Cert.OutProj.Gen.facts, Cert.OutProjIdeal.Gen.facts, Cert.OutProjRefIdeal.Gen.facts, Cert.MixerA.Gen.facts, Cert.MixerAIdeal.Gen.facts, Cert.MixerARefIdeal.Gen.facts, Cert.ConvSample.Gen.facts, Cert.ConvSampleIdeal.Gen.facts, Cert.ConvSampleRefIdeal.Gen.facts, Cert.ConvPrompt.Gen.facts, Cert.ConvPromptIdeal.Gen.facts, Cert.ConvPromptRefIdeal.Gen.facts, Cert.Qkv.Gen.facts, Cert.QkvIdeal.Gen.facts, Cert.QkvRefIdeal.Gen.facts, Cert.GlaSample.Gen.facts, Cert.GlaSampleIdeal.Gen.facts, Cert.GlaSampleRefIdeal.Gen.facts, Cert.Pre_attn_finite.Gen.facts, Cert.Pre_rope_halves.Gen.facts,
  fun m g _ => Cert.Attn.Gen.frame m g, fun m g _ => Cert.AttnIdeal.Gen.frame m g, fun m g _ => Cert.AttnIdeal.Gen.frame m g,
  fun m g _ => frame_attn_ref m g, fun m g _ => frame_attn_ref m g,
  fun m g _ => Cert.GateUp.Gen.frame m g, fun m g _ => Cert.GateUpIdeal.Gen.frame m g, fun m g _ => frame_gate_up_ref m g,
  fun m g _ => Cert.Down.Gen.frame m g, fun m g _ => Cert.DownIdeal.Gen.frame m g, fun m g _ => frame_down_ref m g,
  fun m g _ => Cert.InProj.Gen.frame m g, fun m g _ => Cert.InProjIdeal.Gen.frame m g, fun m g _ => frame_in_proj_ref m g,
  fun m g _ => Cert.OutProj.Gen.frame m g, fun m g _ => Cert.OutProjIdeal.Gen.frame m g, fun m g _ => frame_out_proj_ref m g,
  fun m g _ => Cert.MixerA.Gen.frame m g, fun m g _ => Cert.MixerAIdeal.Gen.frame m g, fun m g _ => frame_mixer_a_ref m g,
  fun m g _ => Cert.ConvSample.Gen.frame m g, fun m g _ => Cert.ConvSampleIdeal.Gen.frame m g, fun m g _ => frame_conv_sample_ref m g,
  fun m g _ => Cert.ConvPrompt.Gen.frame m g, fun m g _ => Cert.ConvPromptIdeal.Gen.frame m g, fun m g _ => frame_conv_prompt_ref m g,
  fun m g _ => Cert.Qkv.Gen.frame m g, fun m g _ => Cert.QkvIdeal.Gen.frame m g, fun m g _ => Cert.QkvIdeal.Gen.frame m g,
  fun m g _ => frame_qkv_ref m g, fun m g _ => frame_qkv_ref m g,
  fun m g _ => Cert.GlaSample.Gen.frame m g, fun m g _ => Cert.GlaSampleIdeal.Gen.frame m g, fun m g _ => frame_gla_sample_ref m g,
  IdealRules.named_const.statement Cert.AttnIdeal.κ "mask" .f32 0xF149F2CA#32 ⊥ rfl, algebraic_attn, trivial, algebraic_gate_up, trivial, algebraic_down, trivial, algebraic_in_proj, trivial, algebraic_out_proj,
  trivial, algebraic_mixer_a, trivial, algebraic_conv_sample, trivial, algebraic_conv_prompt, trivial, algebraic_qkv,
  trivial, algebraic_gla_sample⟩

end Cert.Proof

end
